-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_h_zp_is_int8 [hPre_h_zp_is_int8 : Cert.Pre_h_zp_is_int8.Facts] (m : (ℓ : Loc Cert.KernelIdeal.nD Cert.KernelIdeal.τ Cert.KernelIdeal.sig) → Buf (Elt Ideal) ℓ) : Prop :=
  ∀ c : Dev Cert.KernelIdeal.nD,
    (Cert.Pre_h_zp_is_int8.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_h_zp_is_int8 [hPre_h_zp_is_int8 : Cert.Pre_h_zp_is_int8.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_h_zp_is_int8.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_h_zp_is_int8 [hKernelIdeal : Cert.KernelIdeal.Facts] [hPre_h_zp_is_int8 : Cert.Pre_h_zp_is_int8.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_h_zp_is_int8 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_h_zp_is_int8 [hReferenceIdeal : Cert.ReferenceIdeal.Facts] [hPre_h_zp_is_int8 : Cert.Pre_h_zp_is_int8.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_h_zp_is_int8 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_h_zp_is_int8 [hKernelIdeal : Cert.KernelIdeal.Facts] [hReferenceIdeal : Cert.ReferenceIdeal.Facts] [hPre_h_zp_is_int8 : Cert.Pre_h_zp_is_int8.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_h_zp_is_int8 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_h_zp_is_int8 : Cert.Pre_h_zp_is_int8.Facts),
    quiescent_Kernel (hKernel := hKernel)
    ∧ quiescent_KernelIdeal (hKernelIdeal := hKernelIdeal)
    ∧ quiescent_KernelIdeal_pre_h_zp_is_int8 (hKernelIdeal := hKernelIdeal) (hPre_h_zp_is_int8 := hPre_h_zp_is_int8)
    ∧ quiescent_ReferenceIdeal (hReferenceIdeal := hReferenceIdeal)
    ∧ quiescent_ReferenceIdeal_pre_h_zp_is_int8 (hReferenceIdeal := hReferenceIdeal) (hPre_h_zp_is_int8 := hPre_h_zp_is_int8)
    ∧ preserves_Kernel_KernelIdeal
    ∧ algebraic_KernelIdeal_ReferenceIdeal_pre_h_zp_is_int8 (hKernelIdeal := hKernelIdeal) (hReferenceIdeal := hReferenceIdeal) (hPre_h_zp_is_int8 := hPre_h_zp_is_int8)
-- ==== Pre_h_zp_is_int8.lean ====
abbrev S128x4096x40 : Shape := ⟨3, ![128, 4096, 40]⟩
abbrev S_ : Shape := ⟨0, ![]⟩
abbrev S4096x144 : Shape := ⟨2, ![4096, 144]⟩
abbrev S40x4x144 : Shape := ⟨3, ![40, 4, 144]⟩
abbrev S144x4x144 : Shape := ⟨3, ![144, 4, 144]⟩
abbrev S4x144 : Shape := ⟨2, ![4, 144]⟩
abbrev S4 : Shape := ⟨1, ![4]⟩

class Facts : Prop where

variable [Facts]

def fn {F : FTy → Type} [FloatOps F] (main_arg0 : IVec S128x4096x40 8) (main_arg1 : IVec S_ 32) (main_arg2 : IVec S4096x144 8) (main_arg3 : IVec S4096x144 16) (main_arg4 : IVec S_ 32) (main_arg5 : IVec S40x4x144 8) (main_arg6 : IVec S144x4x144 8) (main_arg7 : IVec S4x144 32) (main_arg8 : FVec F S4 .f32) (main_arg9 : FVec F S4 .f32) (main_arg10 : FVec F S_ .f32) : IVec S_ 1 :=
  let main_c : IVec S_ 32 := constantI S_ 32 4294967168#32
  let main_v0 : IVec S_ 1 := cmpi .sge main_arg4 main_c
  let main_c_0 : IVec S_ 32 := constantI S_ 32 127#32
  let main_v1 : IVec S_ 1 := cmpi .sle main_arg4 main_c_0
  let main_v2 : IVec S_ 1 := andi main_v0 main_v1
  main_v2
-- ==== Kernel.lean ====
abbrev S128x4096x40 : Shape := ⟨3, ![128, 4096, 40]⟩
abbrev S_ : Shape := ⟨0, ![]⟩
abbrev S4096x144 : Shape := ⟨2, ![4096, 144]⟩
abbrev S40x4x144 : Shape := ⟨3, ![40, 4, 144]⟩
abbrev S144x4x144 : Shape := ⟨3, ![144, 4, 144]⟩
abbrev S4x144 : Shape := ⟨2, ![4, 144]⟩
abbrev S4 : Shape := ⟨1, ![4]⟩
abbrev S4x144x40 : Shape := ⟨3, ![4, 144, 40]⟩
abbrev S576x40 : Shape := ⟨2, ![576, 40]⟩
abbrev S4x144x144 : Shape := ⟨3, ![4, 144, 144]⟩
abbrev S576x144 : Shape := ⟨2, ![576, 144]⟩
abbrev S576x1 : Shape := ⟨2, ![576, 1]⟩
abbrev S576x3 : Shape := ⟨2, ![576, 3]⟩
abbrev S576x16 : Shape := ⟨2, ![576, 16]⟩
abbrev S576x200 : Shape := ⟨2, ![576, 200]⟩
abbrev S1152x200 : Shape := ⟨2, ![1152, 200]⟩
abbrev S1 : Shape := ⟨1, ![1]⟩
abbrev S10 : Shape := ⟨1, ![10]⟩
abbrev S128x40x4096 : Shape := ⟨3, ![128, 40, 4096]⟩
abbrev S144x4096 : Shape := ⟨2, ![144, 4096]⟩
abbrev S128x144x4096 : Shape := ⟨3, ![128, 144, 4096]⟩
abbrev S1x40x4096 : Shape := ⟨3, ![1, 40, 4096]⟩
abbrev S1x144x4096 : Shape := ⟨3, ![1, 144, 4096]⟩
abbrev S160x4096 : Shape := ⟨2, ![160, 4096]⟩
abbrev S1152x256 : Shape := ⟨2, ![1152, 256]⟩
abbrev S16x4096 : Shape := ⟨2, ![16, 4096]⟩
abbrev S1x40x256 : Shape := ⟨3, ![1, 40, 256]⟩
abbrev S40x256 : Shape := ⟨2, ![40, 256]⟩
abbrev S160x256 : Shape := ⟨2, ![160, 256]⟩
abbrev S200x256 : Shape := ⟨2, ![200, 256]⟩
abbrev S576x256 : Shape := ⟨2, ![576, 256]⟩
abbrev S32x128 : Shape := ⟨2, ![32, 128]⟩
abbrev S1x32x128 : Shape := ⟨3, ![1, 32, 128]⟩
abbrev S16x128 : Shape := ⟨2, ![16, 128]⟩
abbrev S1x16x128 : Shape := ⟨3, ![1, 16, 128]⟩
abbrev S128x4096x144 : Shape := ⟨3, ![128, 4096, 144]⟩

abbrev nBuf : Space → Nat
  | .hbm => 107
  | .vmem => 14
  | .smem => 2
  | _ => 0

abbrev bufTy : (tb : Table) → Fin (tcTables nBuf tb) → BufTy
  | .hbm, ⟨0, _⟩ => ⟨S128x4096x40, .i8⟩
  | .hbm, ⟨1, _⟩ => ⟨S_, .i32⟩
  | .hbm, ⟨2, _⟩ => ⟨S4096x144, .i8⟩
  | .hbm, ⟨3, _⟩ => ⟨S4096x144, .i16⟩
  | .hbm, ⟨4, _⟩ => ⟨S_, .i32⟩
  | .hbm, ⟨5, _⟩ => ⟨S40x4x144, .i8⟩
  | .hbm, ⟨6, _⟩ => ⟨S144x4x144, .i8⟩
  | .hbm, ⟨7, _⟩ => ⟨S4x144, .i32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4x144x40, .i8⟩
  | .hbm, ⟨13, _⟩ => ⟨S576x40, .i8⟩
  | .hbm, ⟨14, _⟩ => ⟨S4x144x144, .i8⟩
  | .hbm, ⟨15, _⟩ => ⟨S576x144, .i8⟩
  | .hbm, ⟨16, _⟩ => ⟨S40x4x144, .i32⟩
  | .hbm, ⟨17, _⟩ => ⟨S_, .i32⟩
  | .hbm, ⟨18, _⟩ => ⟨S4x144, .i32⟩
  | .hbm, ⟨19, _⟩ => ⟨S4x144, .i32⟩
  | .hbm, ⟨20, _⟩ => ⟨S4x144, .i32⟩
  | .hbm, ⟨21, _⟩ => ⟨S4x144, .i32⟩
  | .hbm, ⟨22, _⟩ => ⟨S576x1, .i32⟩
  | .hbm, ⟨23, _⟩ => ⟨S_, .i32⟩
  | .hbm, ⟨24, _⟩ => ⟨S144x4x144, .i32⟩
  | .hbm, ⟨25, _⟩ => ⟨S_, .i32⟩
  | .hbm, ⟨26, _⟩ => ⟨S4x144, .i32⟩
  | .hbm, ⟨27, _⟩ => ⟨S4x144, .i32⟩
  | .hbm, ⟨28, _⟩ => ⟨S4x144, .i32⟩
  | .hbm, ⟨29, _⟩ => ⟨S576x1, .i32⟩
  | .hbm, ⟨30, _⟩ => ⟨S576x1, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i1⟩
  | .hbm, ⟨40, _⟩ => ⟨S_, .bf16⟩
  | .hbm, ⟨41, _⟩ => ⟨S576x144, .bf16⟩
  | .hbm, ⟨42, _⟩ => ⟨S_, .i32⟩
  | .hbm, ⟨43, _⟩ => ⟨S_, .i32⟩
  | .hbm, ⟨44, _⟩ => ⟨S576x1, .i32⟩
  | .hbm, ⟨45, _⟩ => ⟨S576x1, .i32⟩
  | .hbm, ⟨46, _⟩ => ⟨S_, .i32⟩
  | .hbm, ⟨47, _⟩ => ⟨S576x1, .i32⟩
  | .hbm, ⟨48, _⟩ => ⟨S576x1, .i32⟩
  | .hbm, ⟨49, _⟩ => ⟨S_, .i32⟩
  | .hbm, ⟨50, _⟩ => ⟨S576x1, .i32⟩
  | .hbm, ⟨51, _⟩ => ⟨S576x1, .i32⟩
  | .hbm, ⟨52, _⟩ => ⟨S576x1, .i32⟩
  | .hbm, ⟨53, _⟩ => ⟨S576x1, .i32⟩
  | .hbm, ⟨54, _⟩ => ⟨S576x3, .i32⟩
  | .hbm, ⟨55, _⟩ => ⟨S576x3, .f32⟩
  | .hbm, ⟨56, _⟩ => ⟨S_, .i32⟩
  | .hbm, ⟨57, _⟩ => ⟨S_, .f32⟩
  | .hbm, ⟨58, _⟩ => ⟨S576x16, .f32⟩
  | .hbm, ⟨59, _⟩ => ⟨S576x16, .bf16⟩
  | .hbm, ⟨60, _⟩ => ⟨S576x40, .i32⟩
  | .hbm, ⟨61, _⟩ => ⟨S576x40, .f32⟩
  | .hbm, ⟨62, _⟩ => ⟨S576x40, .bf16⟩
  | .hbm, ⟨63, _⟩ => ⟨S576x200, .bf16⟩
  | .hbm, ⟨64, _⟩ => ⟨S576x144, .i32⟩
  | .hbm, ⟨65, _⟩ => ⟨S576x144, .f32⟩
  | .hbm, ⟨66, _⟩ => ⟨S576x144, .bf16⟩
  | .hbm, ⟨67, _⟩ => ⟨S_, .i32⟩
  | .hbm, ⟨68, _⟩ => ⟨S576x1, .i32⟩
  | .hbm, ⟨69, _⟩ => ⟨S576x1, .i32⟩
  | .hbm, ⟨70, _⟩ => ⟨S_, .i32⟩
  | .hbm, ⟨71, _⟩ => ⟨S576x1, .i32⟩
  | .hbm, ⟨72, _⟩ => ⟨S576x1, .i32⟩
  | .hbm, ⟨73, _⟩ => ⟨S576x1, .i32⟩
  | .hbm, ⟨74, _⟩ => ⟨S576x1, .i32⟩
  | .hbm, ⟨75, _⟩ => ⟨S576x3, .i32⟩
  | .hbm, ⟨76, _⟩ => ⟨S576x3, .f32⟩
  | .hbm, ⟨77, _⟩ => ⟨S_, .i32⟩
  | .hbm, ⟨78, _⟩ => ⟨S_, .f32⟩
  | .hbm, ⟨79, _⟩ => ⟨S576x16, .f32⟩
  | .hbm, ⟨80, _⟩ => ⟨S576x16, .bf16⟩
  | .hbm, ⟨81, _⟩ => ⟨S_, .bf16⟩
  | .hbm, ⟨82, _⟩ => ⟨S576x40, .bf16⟩
  | .hbm, ⟨83, _⟩ => ⟨S576x200, .bf16⟩
  | .hbm, ⟨84, _⟩ => ⟨S1152x200, .bf16⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S10, .f32⟩
  | .hbm, ⟨96, _⟩ => ⟨S128x40x4096, .i8⟩
  | .hbm, ⟨97, _⟩ => ⟨S144x4096, .i8⟩
  | .hbm, ⟨98, _⟩ => ⟨S144x4096, .i16⟩
  | .hbm, ⟨99, _⟩ => ⟨S_, .i32⟩
  | .hbm, ⟨100, _⟩ => ⟨S1, .i32⟩
  | .hbm, ⟨101, _⟩ => ⟨S128x144x4096, .i8⟩
  | .hbm, ⟨102, _⟩ => ⟨S144x4096, .i16⟩
  | .hbm, ⟨103, _⟩ => ⟨S144x4096, .i8⟩
  | .hbm, ⟨104, _⟩ => ⟨S128x4096x144, .i8⟩
  | .hbm, ⟨105, _⟩ => ⟨S4096x144, .i16⟩
  | .hbm, ⟨106, _⟩ => ⟨S4096x144, .i8⟩
  | .local _ .vmem, ⟨0, _⟩ => ⟨S1152x200, .bf16⟩
  | .local _ .vmem, ⟨1, _⟩ => ⟨S576x1, .i32⟩
  | .local _ .vmem, ⟨2, _⟩ => ⟨S1x40x4096, .i8⟩
  | .local _ .vmem, ⟨3, _⟩ => ⟨S1x40x4096, .i8⟩
  | .local _ .vmem, ⟨4, _⟩ => ⟨S144x4096, .i8⟩
  | .local _ .vmem, ⟨5, _⟩ => ⟨S144x4096, .i16⟩
  | .local _ .vmem, ⟨6, _⟩ => ⟨S1x144x4096, .i8⟩
  | .local _ .vmem, ⟨7, _⟩ => ⟨S1x144x4096, .i8⟩
  | .local _ .vmem, ⟨8, _⟩ => ⟨S144x4096, .i16⟩
  | .local _ .vmem, ⟨9, _⟩ => ⟨S144x4096, .i8⟩
  | .local _ .vmem, ⟨10, _⟩ => ⟨S160x4096, .bf16⟩
  | .local _ .vmem, ⟨11, _⟩ => ⟨S144x4096, .i32⟩
  | .local _ .vmem, ⟨12, _⟩ => ⟨S1152x256, .f32⟩
  | .local _ .vmem, ⟨13, _⟩ => ⟨S1152x256, .f32⟩
  | .local _ .smem, ⟨0, _⟩ => ⟨S1, .i32⟩
  | .local _ .smem, ⟨1, _⟩ => ⟨S10, .f32⟩
  | _, _ => ⟨S128x4096x40, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_c_6 : Ref sig .tc := ⟨.hbm, 42, rfl⟩
abbrev main_call0_v0 : Ref sig .tc := ⟨.hbm, 43, rfl⟩
abbrev main_call0_v1 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_call1_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_call2_v0 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_15 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68_0 : Ref sig .tc := ⟨.hbm, 101, rfl⟩
abbrev main_v68_1 : Ref sig .tc := ⟨.hbm, 102, rfl⟩
abbrev main_v68_2 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![128], ![false]⟩

def k0_mult1 : BitVec 32 :=
  let c0_i32_1 : BitVec 32 := 0#32
  c0_i32_1
@[reducible] def k0_t1_loop : Scf.Loop 32 :=
  let c0_i32_12 : BitVec 32 := 0#32
  let c8_i32 : BitVec 32 := 8#32
  let v31 : BitVec 32 := Scalar.addi c0_i32_12 c8_i32
  let c1_i32 : BitVec 32 := 1#32
  ⟨c0_i32_12, v31, c1_i32⟩
def k0_mult2 (k0_t1 : Fin k0_t1_loop.trips) : BitVec 32 :=
  let c2_i32 : BitVec 32 := 2#32
  let c0_i32_12 : BitVec 32 := 0#32
  let c1_i32 : BitVec 32 := 1#32
  let arg15 : BitVec 32 := Scf.iv c0_i32_12 c1_i32 k0_t1
  let v35 : BitVec 32 := Scalar.muli c2_i32 arg15
  let c1_i32_15 : BitVec 32 := 1#32
  let v36 : BitVec 32 := Scalar.addi v35 c1_i32_15
  let c256_i32 : BitVec 32 := 256#32
  let v37 : BitVec 32 := Scalar.muli v36 c256_i32
  v37
def k0_off1 (k0_t1 : Fin k0_t1_loop.trips) : Fin 3 → Nat :=
  let c0_16 : Index := 0#32
  let c0_17 : Index := 0#32
  let c2_i32 : BitVec 32 := 2#32
  let c0_i32_12 : BitVec 32 := 0#32
  let c1_i32 : BitVec 32 := 1#32
  let arg15 : BitVec 32 := Scf.iv c0_i32_12 c1_i32 k0_t1
  let v35 : BitVec 32 := Scalar.muli c2_i32 arg15
  let c1_i32_15 : BitVec 32 := 1#32
  let v36 : BitVec 32 := Scalar.addi v35 c1_i32_15
  let c256_i32 : BitVec 32 := 256#32
  let v37 : BitVec 32 := Scalar.muli v36 c256_i32
  let v38 : BitVec 32 := v37
  let v39 : Index := Scalar.indexCast v38
  ![0, 0, v39.toNat]
def k0_off2 (k0_t1 : Fin k0_t1_loop.trips) : Fin 2 → Nat :=
  let c0_18 : Index := 0#32
  let c2_i32 : BitVec 32 := 2#32
  let c0_i32_12 : BitVec 32 := 0#32
  let c1_i32 : BitVec 32 := 1#32
  let arg15 : BitVec 32 := Scf.iv c0_i32_12 c1_i32 k0_t1
  let v35 : BitVec 32 := Scalar.muli c2_i32 arg15
  let c1_i32_15 : BitVec 32 := 1#32
  let v36 : BitVec 32 := Scalar.addi v35 c1_i32_15
  let c256_i32 : BitVec 32 := 256#32
  let v37 : BitVec 32 := Scalar.muli v36 c256_i32
  let v38 : BitVec 32 := v37
  let v43 : Index := Scalar.indexCast v38
  ![0, v43.toNat]
def k0_mult3 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_25 : BitVec 32 := 256#32
  let v53 : BitVec 32 := Scalar.muli v52 c256_i32_25
  let c0_i32_26 : BitVec 32 := 0#32
  let v54 : BitVec 32 := Scalar.addi v53 c0_i32_26
  v54
def k0_off3 (k0_t1 : Fin k0_t1_loop.trips) (c0_i32_26 : BitVec 32) : Fin 2 → Nat :=
  let c0_36 : Index := 0#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_25 : BitVec 32 := 256#32
  let v53 : BitVec 32 := Scalar.muli v52 c256_i32_25
  let v54 : BitVec 32 := Scalar.addi v53 c0_i32_26
  let v55 : BitVec 32 := v54
  let v64 : Index := Scalar.indexCast v55
  ![0, v64.toNat]
def k0_off4 (k0_t1 : Fin k0_t1_loop.trips) (c0_i32_26 : BitVec 32) : Fin 3 → Nat :=
  let c0_127 : Index := 0#32
  let c0_128 : Index := 0#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_25 : BitVec 32 := 256#32
  let v53 : BitVec 32 := Scalar.muli v52 c256_i32_25
  let v54 : BitVec 32 := Scalar.addi v53 c0_i32_26
  let v55 : BitVec 32 := v54
  let v315 : Index := Scalar.indexCast v55
  ![0, 0, v315.toNat]
def k0_off5 (k0_t1 : Fin k0_t1_loop.trips) (c0_i32_26 : BitVec 32) : Fin 2 → Nat :=
  let c0_129 : Index := 0#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_25 : BitVec 32 := 256#32
  let v53 : BitVec 32 := Scalar.muli v52 c256_i32_25
  let v54 : BitVec 32 := Scalar.addi v53 c0_i32_26
  let v55 : BitVec 32 := v54
  let v320 : Index := Scalar.indexCast v55
  ![0, v320.toNat]
def k0_mult4 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_130 : BitVec 32 := 256#32
  let v324 : BitVec 32 := Scalar.muli v52 c256_i32_130
  let c128_i32 : BitVec 32 := 128#32
  let v325 : BitVec 32 := Scalar.addi v324 c128_i32
  v325
def k0_mult5 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_248 : BitVec 32 := 256#32
  let v595 : BitVec 32 := Scalar.muli v52 c256_i32_248
  let c0_i32_249 : BitVec 32 := 0#32
  let v596 : BitVec 32 := Scalar.addi v595 c0_i32_249
  v596
def k0_off6 (k0_t1 : Fin k0_t1_loop.trips) (c0_i32_249 : BitVec 32) : Fin 2 → Nat :=
  let c32_258 : Index := 32#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_248 : BitVec 32 := 256#32
  let v595 : BitVec 32 := Scalar.muli v52 c256_i32_248
  let v596 : BitVec 32 := Scalar.addi v595 c0_i32_249
  let v597 : BitVec 32 := v596
  let v606 : Index := Scalar.indexCast v597
  ![32, v606.toNat]
def k0_off7 (k0_t1 : Fin k0_t1_loop.trips) (c0_i32_249 : BitVec 32) : Fin 3 → Nat :=
  let c0_357 : Index := 0#32
  let c32_358 : Index := 32#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_248 : BitVec 32 := 256#32
  let v595 : BitVec 32 := Scalar.muli v52 c256_i32_248
  let v596 : BitVec 32 := Scalar.addi v595 c0_i32_249
  let v597 : BitVec 32 := v596
  let v857 : Index := Scalar.indexCast v597
  ![0, 32, v857.toNat]
def k0_off8 (k0_t1 : Fin k0_t1_loop.trips) (c0_i32_249 : BitVec 32) : Fin 2 → Nat :=
  let c32_359 : Index := 32#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_248 : BitVec 32 := 256#32
  let v595 : BitVec 32 := Scalar.muli v52 c256_i32_248
  let v596 : BitVec 32 := Scalar.addi v595 c0_i32_249
  let v597 : BitVec 32 := v596
  let v862 : Index := Scalar.indexCast v597
  ![32, v862.toNat]
def k0_mult6 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_360 : BitVec 32 := 256#32
  let v866 : BitVec 32 := Scalar.muli v52 c256_i32_360
  let c128_i32_361 : BitVec 32 := 128#32
  let v867 : BitVec 32 := Scalar.addi v866 c128_i32_361
  v867
def k0_mult7 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_480 : BitVec 32 := 256#32
  let v1137 : BitVec 32 := Scalar.muli v52 c256_i32_480
  let c0_i32_481 : BitVec 32 := 0#32
  let v1138 : BitVec 32 := Scalar.addi v1137 c0_i32_481
  v1138
def k0_off9 (k0_t1 : Fin k0_t1_loop.trips) (c0_i32_481 : BitVec 32) : Fin 2 → Nat :=
  let c64_490 : Index := 64#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_480 : BitVec 32 := 256#32
  let v1137 : BitVec 32 := Scalar.muli v52 c256_i32_480
  let v1138 : BitVec 32 := Scalar.addi v1137 c0_i32_481
  let v1139 : BitVec 32 := v1138
  let v1148 : Index := Scalar.indexCast v1139
  ![64, v1148.toNat]
def k0_off10 (k0_t1 : Fin k0_t1_loop.trips) (c0_i32_481 : BitVec 32) : Fin 3 → Nat :=
  let c0_589 : Index := 0#32
  let c64_590 : Index := 64#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_480 : BitVec 32 := 256#32
  let v1137 : BitVec 32 := Scalar.muli v52 c256_i32_480
  let v1138 : BitVec 32 := Scalar.addi v1137 c0_i32_481
  let v1139 : BitVec 32 := v1138
  let v1399 : Index := Scalar.indexCast v1139
  ![0, 64, v1399.toNat]
def k0_off11 (k0_t1 : Fin k0_t1_loop.trips) (c0_i32_481 : BitVec 32) : Fin 2 → Nat :=
  let c64_591 : Index := 64#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_480 : BitVec 32 := 256#32
  let v1137 : BitVec 32 := Scalar.muli v52 c256_i32_480
  let v1138 : BitVec 32 := Scalar.addi v1137 c0_i32_481
  let v1139 : BitVec 32 := v1138
  let v1404 : Index := Scalar.indexCast v1139
  ![64, v1404.toNat]
def k0_mult8 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_592 : BitVec 32 := 256#32
  let v1408 : BitVec 32 := Scalar.muli v52 c256_i32_592
  let c128_i32_593 : BitVec 32 := 128#32
  let v1409 : BitVec 32 := Scalar.addi v1408 c128_i32_593
  v1409
def k0_mult9 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_712 : BitVec 32 := 256#32
  let v1679 : BitVec 32 := Scalar.muli v52 c256_i32_712
  let c0_i32_713 : BitVec 32 := 0#32
  let v1680 : BitVec 32 := Scalar.addi v1679 c0_i32_713
  v1680
def k0_off12 (k0_t1 : Fin k0_t1_loop.trips) (c0_i32_713 : BitVec 32) : Fin 2 → Nat :=
  let c96_722 : Index := 96#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_712 : BitVec 32 := 256#32
  let v1679 : BitVec 32 := Scalar.muli v52 c256_i32_712
  let v1680 : BitVec 32 := Scalar.addi v1679 c0_i32_713
  let v1681 : BitVec 32 := v1680
  let v1690 : Index := Scalar.indexCast v1681
  ![96, v1690.toNat]
def k0_off13 (k0_t1 : Fin k0_t1_loop.trips) (c0_i32_713 : BitVec 32) : Fin 3 → Nat :=
  let c0_821 : Index := 0#32
  let c96_822 : Index := 96#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_712 : BitVec 32 := 256#32
  let v1679 : BitVec 32 := Scalar.muli v52 c256_i32_712
  let v1680 : BitVec 32 := Scalar.addi v1679 c0_i32_713
  let v1681 : BitVec 32 := v1680
  let v1941 : Index := Scalar.indexCast v1681
  ![0, 96, v1941.toNat]
def k0_off14 (k0_t1 : Fin k0_t1_loop.trips) (c0_i32_713 : BitVec 32) : Fin 2 → Nat :=
  let c96_823 : Index := 96#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_712 : BitVec 32 := 256#32
  let v1679 : BitVec 32 := Scalar.muli v52 c256_i32_712
  let v1680 : BitVec 32 := Scalar.addi v1679 c0_i32_713
  let v1681 : BitVec 32 := v1680
  let v1946 : Index := Scalar.indexCast v1681
  ![96, v1946.toNat]
def k0_mult10 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_824 : BitVec 32 := 256#32
  let v1950 : BitVec 32 := Scalar.muli v52 c256_i32_824
  let c128_i32_825 : BitVec 32 := 128#32
  let v1951 : BitVec 32 := Scalar.addi v1950 c128_i32_825
  v1951
def k0_mult11 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_944 : BitVec 32 := 256#32
  let v2221 : BitVec 32 := Scalar.muli v52 c256_i32_944
  let c0_i32_945 : BitVec 32 := 0#32
  let v2222 : BitVec 32 := Scalar.addi v2221 c0_i32_945
  v2222
def k0_off15 (k0_t1 : Fin k0_t1_loop.trips) (c0_i32_945 : BitVec 32) : Fin 2 → Nat :=
  let c128_955 : Index := 128#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_944 : BitVec 32 := 256#32
  let v2221 : BitVec 32 := Scalar.muli v52 c256_i32_944
  let v2222 : BitVec 32 := Scalar.addi v2221 c0_i32_945
  let v2223 : BitVec 32 := v2222
  let v2232 : Index := Scalar.indexCast v2223
  ![128, v2232.toNat]
def k0_off16 (k0_t1 : Fin k0_t1_loop.trips) (c0_i32_945 : BitVec 32) : Fin 3 → Nat :=
  let c0_1054 : Index := 0#32
  let c128_1055 : Index := 128#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_944 : BitVec 32 := 256#32
  let v2221 : BitVec 32 := Scalar.muli v52 c256_i32_944
  let v2222 : BitVec 32 := Scalar.addi v2221 c0_i32_945
  let v2223 : BitVec 32 := v2222
  let v2483 : Index := Scalar.indexCast v2223
  ![0, 128, v2483.toNat]
def k0_off17 (k0_t1 : Fin k0_t1_loop.trips) (c0_i32_945 : BitVec 32) : Fin 2 → Nat :=
  let c128_1056 : Index := 128#32
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_944 : BitVec 32 := 256#32
  let v2221 : BitVec 32 := Scalar.muli v52 c256_i32_944
  let v2222 : BitVec 32 := Scalar.addi v2221 c0_i32_945
  let v2223 : BitVec 32 := v2222
  let v2488 : Index := Scalar.indexCast v2223
  ![128, v2488.toNat]
def k0_mult12 (k0_t1 : Fin k0_t1_loop.trips) : BitVec 32 :=
  let c2_i32_24 : BitVec 32 := 2#32
  let c0_i32_12 : BitVec 32 := 0#32
  let c1_i32 : BitVec 32 := 1#32
  let arg15 : BitVec 32 := Scf.iv c0_i32_12 c1_i32 k0_t1
  let v52 : BitVec 32 := Scalar.muli c2_i32_24 arg15
  let c256_i32_1057 : BitVec 32 := 256#32
  let v2492 : BitVec 32 := Scalar.muli v52 c256_i32_1057
  let c128_i32_1058 : BitVec 32 := 128#32
  let v2493 : BitVec 32 := Scalar.addi v2492 c128_i32_1058
  v2493
def k0_mult13 (k0_t1 : Fin k0_t1_loop.trips) : BitVec 32 :=
  let c2_i32_1180 : BitVec 32 := 2#32
  let c0_i32_12 : BitVec 32 := 0#32
  let c1_i32 : BitVec 32 := 1#32
  let arg15 : BitVec 32 := Scf.iv c0_i32_12 c1_i32 k0_t1
  let v2767 : BitVec 32 := Scalar.muli c2_i32_1180 arg15
  let c2_i32_1181 : BitVec 32 := 2#32
  let v2768 : BitVec 32 := Scalar.addi v2767 c2_i32_1181
  let c15_i32_1182 : BitVec 32 := 15#32
  let v2769 : BitVec 32 := Scalar.minsi v2768 c15_i32_1182
  let c256_i32_1183 : BitVec 32 := 256#32
  let v2770 : BitVec 32 := Scalar.muli v2769 c256_i32_1183
  v2770
def k0_off18 (k0_t1 : Fin k0_t1_loop.trips) : Fin 3 → Nat :=
  let c0_1184 : Index := 0#32
  let c0_1185 : Index := 0#32
  let c2_i32_1180 : BitVec 32 := 2#32
  let c0_i32_12 : BitVec 32 := 0#32
  let c1_i32 : BitVec 32 := 1#32
  let arg15 : BitVec 32 := Scf.iv c0_i32_12 c1_i32 k0_t1
  let v2767 : BitVec 32 := Scalar.muli c2_i32_1180 arg15
  let c2_i32_1181 : BitVec 32 := 2#32
  let v2768 : BitVec 32 := Scalar.addi v2767 c2_i32_1181
  let c15_i32_1182 : BitVec 32 := 15#32
  let v2769 : BitVec 32 := Scalar.minsi v2768 c15_i32_1182
  let c256_i32_1183 : BitVec 32 := 256#32
  let v2770 : BitVec 32 := Scalar.muli v2769 c256_i32_1183
  let v2771 : BitVec 32 := v2770
  let v2772 : Index := Scalar.indexCast v2771
  ![0, 0, v2772.toNat]
def k0_off19 (k0_t1 : Fin k0_t1_loop.trips) : Fin 2 → Nat :=
  let c0_1186 : Index := 0#32
  let c2_i32_1180 : BitVec 32 := 2#32
  let c0_i32_12 : BitVec 32 := 0#32
  let c1_i32 : BitVec 32 := 1#32
  let arg15 : BitVec 32 := Scf.iv c0_i32_12 c1_i32 k0_t1
  let v2767 : BitVec 32 := Scalar.muli c2_i32_1180 arg15
  let c2_i32_1181 : BitVec 32 := 2#32
  let v2768 : BitVec 32 := Scalar.addi v2767 c2_i32_1181
  let c15_i32_1182 : BitVec 32 := 15#32
  let v2769 : BitVec 32 := Scalar.minsi v2768 c15_i32_1182
  let c256_i32_1183 : BitVec 32 := 256#32
  let v2770 : BitVec 32 := Scalar.muli v2769 c256_i32_1183
  let v2771 : BitVec 32 := v2770
  let v2776 : Index := Scalar.indexCast v2771
  ![0, v2776.toNat]
def k0_mult14 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1194 : BitVec 32 := 256#32
  let v2787 : BitVec 32 := Scalar.muli v2786 c256_i32_1194
  let c0_i32_1195 : BitVec 32 := 0#32
  let v2788 : BitVec 32 := Scalar.addi v2787 c0_i32_1195
  v2788
def k0_off20 (k0_t1 : Fin k0_t1_loop.trips) (c0_i32_1195 : BitVec 32) : Fin 2 → Nat :=
  let c0_1212 : Index := 0#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1194 : BitVec 32 := 256#32
  let v2787 : BitVec 32 := Scalar.muli v2786 c256_i32_1194
  let v2788 : BitVec 32 := Scalar.addi v2787 c0_i32_1195
  let v2789 : BitVec 32 := v2788
  let v2798 : Index := Scalar.indexCast v2789
  ![0, v2798.toNat]
def k0_off21 (k0_t1 : Fin k0_t1_loop.trips) (c0_i32_1195 : BitVec 32) : Fin 3 → Nat :=
  let c0_1311 : Index := 0#32
  let c0_1312 : Index := 0#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1194 : BitVec 32 := 256#32
  let v2787 : BitVec 32 := Scalar.muli v2786 c256_i32_1194
  let v2788 : BitVec 32 := Scalar.addi v2787 c0_i32_1195
  let v2789 : BitVec 32 := v2788
  let v3049 : Index := Scalar.indexCast v2789
  ![0, 0, v3049.toNat]
def k0_off22 (k0_t1 : Fin k0_t1_loop.trips) (c0_i32_1195 : BitVec 32) : Fin 2 → Nat :=
  let c0_1313 : Index := 0#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1194 : BitVec 32 := 256#32
  let v2787 : BitVec 32 := Scalar.muli v2786 c256_i32_1194
  let v2788 : BitVec 32 := Scalar.addi v2787 c0_i32_1195
  let v2789 : BitVec 32 := v2788
  let v3054 : Index := Scalar.indexCast v2789
  ![0, v3054.toNat]
def k0_mult15 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1314 : BitVec 32 := 256#32
  let v3058 : BitVec 32 := Scalar.muli v2786 c256_i32_1314
  let c128_i32_1315 : BitVec 32 := 128#32
  let v3059 : BitVec 32 := Scalar.addi v3058 c128_i32_1315
  v3059
def k0_mult16 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1434 : BitVec 32 := 256#32
  let v3329 : BitVec 32 := Scalar.muli v2786 c256_i32_1434
  let c0_i32_1435 : BitVec 32 := 0#32
  let v3330 : BitVec 32 := Scalar.addi v3329 c0_i32_1435
  v3330
def k0_off23 (k0_t1 : Fin k0_t1_loop.trips) (c0_i32_1435 : BitVec 32) : Fin 2 → Nat :=
  let c32_1452 : Index := 32#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1434 : BitVec 32 := 256#32
  let v3329 : BitVec 32 := Scalar.muli v2786 c256_i32_1434
  let v3330 : BitVec 32 := Scalar.addi v3329 c0_i32_1435
  let v3331 : BitVec 32 := v3330
  let v3340 : Index := Scalar.indexCast v3331
  ![32, v3340.toNat]
def k0_off24 (k0_t1 : Fin k0_t1_loop.trips) (c0_i32_1435 : BitVec 32) : Fin 3 → Nat :=
  let c0_1551 : Index := 0#32
  let c32_1552 : Index := 32#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1434 : BitVec 32 := 256#32
  let v3329 : BitVec 32 := Scalar.muli v2786 c256_i32_1434
  let v3330 : BitVec 32 := Scalar.addi v3329 c0_i32_1435
  let v3331 : BitVec 32 := v3330
  let v3591 : Index := Scalar.indexCast v3331
  ![0, 32, v3591.toNat]
def k0_off25 (k0_t1 : Fin k0_t1_loop.trips) (c0_i32_1435 : BitVec 32) : Fin 2 → Nat :=
  let c32_1553 : Index := 32#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1434 : BitVec 32 := 256#32
  let v3329 : BitVec 32 := Scalar.muli v2786 c256_i32_1434
  let v3330 : BitVec 32 := Scalar.addi v3329 c0_i32_1435
  let v3331 : BitVec 32 := v3330
  let v3596 : Index := Scalar.indexCast v3331
  ![32, v3596.toNat]
def k0_mult17 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1554 : BitVec 32 := 256#32
  let v3600 : BitVec 32 := Scalar.muli v2786 c256_i32_1554
  let c128_i32_1555 : BitVec 32 := 128#32
  let v3601 : BitVec 32 := Scalar.addi v3600 c128_i32_1555
  v3601
def k0_mult18 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1674 : BitVec 32 := 256#32
  let v3871 : BitVec 32 := Scalar.muli v2786 c256_i32_1674
  let c0_i32_1675 : BitVec 32 := 0#32
  let v3872 : BitVec 32 := Scalar.addi v3871 c0_i32_1675
  v3872
def k0_off26 (k0_t1 : Fin k0_t1_loop.trips) (c0_i32_1675 : BitVec 32) : Fin 2 → Nat :=
  let c64_1692 : Index := 64#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1674 : BitVec 32 := 256#32
  let v3871 : BitVec 32 := Scalar.muli v2786 c256_i32_1674
  let v3872 : BitVec 32 := Scalar.addi v3871 c0_i32_1675
  let v3873 : BitVec 32 := v3872
  let v3882 : Index := Scalar.indexCast v3873
  ![64, v3882.toNat]
def k0_off27 (k0_t1 : Fin k0_t1_loop.trips) (c0_i32_1675 : BitVec 32) : Fin 3 → Nat :=
  let c0_1791 : Index := 0#32
  let c64_1792 : Index := 64#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1674 : BitVec 32 := 256#32
  let v3871 : BitVec 32 := Scalar.muli v2786 c256_i32_1674
  let v3872 : BitVec 32 := Scalar.addi v3871 c0_i32_1675
  let v3873 : BitVec 32 := v3872
  let v4133 : Index := Scalar.indexCast v3873
  ![0, 64, v4133.toNat]
def k0_off28 (k0_t1 : Fin k0_t1_loop.trips) (c0_i32_1675 : BitVec 32) : Fin 2 → Nat :=
  let c64_1793 : Index := 64#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1674 : BitVec 32 := 256#32
  let v3871 : BitVec 32 := Scalar.muli v2786 c256_i32_1674
  let v3872 : BitVec 32 := Scalar.addi v3871 c0_i32_1675
  let v3873 : BitVec 32 := v3872
  let v4138 : Index := Scalar.indexCast v3873
  ![64, v4138.toNat]
def k0_mult19 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1794 : BitVec 32 := 256#32
  let v4142 : BitVec 32 := Scalar.muli v2786 c256_i32_1794
  let c128_i32_1795 : BitVec 32 := 128#32
  let v4143 : BitVec 32 := Scalar.addi v4142 c128_i32_1795
  v4143
def k0_mult20 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1914 : BitVec 32 := 256#32
  let v4413 : BitVec 32 := Scalar.muli v2786 c256_i32_1914
  let c0_i32_1915 : BitVec 32 := 0#32
  let v4414 : BitVec 32 := Scalar.addi v4413 c0_i32_1915
  v4414
def k0_off29 (k0_t1 : Fin k0_t1_loop.trips) (c0_i32_1915 : BitVec 32) : Fin 2 → Nat :=
  let c96_1932 : Index := 96#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1914 : BitVec 32 := 256#32
  let v4413 : BitVec 32 := Scalar.muli v2786 c256_i32_1914
  let v4414 : BitVec 32 := Scalar.addi v4413 c0_i32_1915
  let v4415 : BitVec 32 := v4414
  let v4424 : Index := Scalar.indexCast v4415
  ![96, v4424.toNat]
def k0_off30 (k0_t1 : Fin k0_t1_loop.trips) (c0_i32_1915 : BitVec 32) : Fin 3 → Nat :=
  let c0_2031 : Index := 0#32
  let c96_2032 : Index := 96#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1914 : BitVec 32 := 256#32
  let v4413 : BitVec 32 := Scalar.muli v2786 c256_i32_1914
  let v4414 : BitVec 32 := Scalar.addi v4413 c0_i32_1915
  let v4415 : BitVec 32 := v4414
  let v4675 : Index := Scalar.indexCast v4415
  ![0, 96, v4675.toNat]
def k0_off31 (k0_t1 : Fin k0_t1_loop.trips) (c0_i32_1915 : BitVec 32) : Fin 2 → Nat :=
  let c96_2033 : Index := 96#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_1914 : BitVec 32 := 256#32
  let v4413 : BitVec 32 := Scalar.muli v2786 c256_i32_1914
  let v4414 : BitVec 32 := Scalar.addi v4413 c0_i32_1915
  let v4415 : BitVec 32 := v4414
  let v4680 : Index := Scalar.indexCast v4415
  ![96, v4680.toNat]
def k0_mult21 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2034 : BitVec 32 := 256#32
  let v4684 : BitVec 32 := Scalar.muli v2786 c256_i32_2034
  let c128_i32_2035 : BitVec 32 := 128#32
  let v4685 : BitVec 32 := Scalar.addi v4684 c128_i32_2035
  v4685
def k0_mult22 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2154 : BitVec 32 := 256#32
  let v4955 : BitVec 32 := Scalar.muli v2786 c256_i32_2154
  let c0_i32_2155 : BitVec 32 := 0#32
  let v4956 : BitVec 32 := Scalar.addi v4955 c0_i32_2155
  v4956
def k0_off32 (k0_t1 : Fin k0_t1_loop.trips) (c0_i32_2155 : BitVec 32) : Fin 2 → Nat :=
  let c128_2172 : Index := 128#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2154 : BitVec 32 := 256#32
  let v4955 : BitVec 32 := Scalar.muli v2786 c256_i32_2154
  let v4956 : BitVec 32 := Scalar.addi v4955 c0_i32_2155
  let v4957 : BitVec 32 := v4956
  let v4966 : Index := Scalar.indexCast v4957
  ![128, v4966.toNat]
def k0_off33 (k0_t1 : Fin k0_t1_loop.trips) (c0_i32_2155 : BitVec 32) : Fin 3 → Nat :=
  let c0_2271 : Index := 0#32
  let c128_2272 : Index := 128#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2154 : BitVec 32 := 256#32
  let v4955 : BitVec 32 := Scalar.muli v2786 c256_i32_2154
  let v4956 : BitVec 32 := Scalar.addi v4955 c0_i32_2155
  let v4957 : BitVec 32 := v4956
  let v5217 : Index := Scalar.indexCast v4957
  ![0, 128, v5217.toNat]
def k0_off34 (k0_t1 : Fin k0_t1_loop.trips) (c0_i32_2155 : BitVec 32) : Fin 2 → Nat :=
  let c128_2273 : Index := 128#32
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2154 : BitVec 32 := 256#32
  let v4955 : BitVec 32 := Scalar.muli v2786 c256_i32_2154
  let v4956 : BitVec 32 := Scalar.addi v4955 c0_i32_2155
  let v4957 : BitVec 32 := v4956
  let v5222 : Index := Scalar.indexCast v4957
  ![128, v5222.toNat]
def k0_mult23 (k0_t1 : Fin k0_t1_loop.trips) : BitVec 32 :=
  let c2_i32_1192 : BitVec 32 := 2#32
  let c0_i32_12 : BitVec 32 := 0#32
  let c1_i32 : BitVec 32 := 1#32
  let arg15 : BitVec 32 := Scf.iv c0_i32_12 c1_i32 k0_t1
  let v2785 : BitVec 32 := Scalar.muli c2_i32_1192 arg15
  let c1_i32_1193 : BitVec 32 := 1#32
  let v2786 : BitVec 32 := Scalar.addi v2785 c1_i32_1193
  let c256_i32_2274 : BitVec 32 := 256#32
  let v5226 : BitVec 32 := Scalar.muli v2786 c256_i32_2274
  let c128_i32_2275 : BitVec 32 := 128#32
  let v5227 : BitVec 32 := Scalar.addi v5226 c128_i32_2275
  v5227
def k0_cond5 (i : grid0.Coords) : BitVec 1 :=
  let arg0 : BitVec 32 := BitVec.ofNat 32 (i 0).val
  let c127_i32 : BitVec 32 := 127#32
  let v32 : BitVec 1 := Scalar.cmpi .eq arg0 c127_i32
  let v33 : BitVec 32 := Scalar.extui v32
  let c0_i32_14 : BitVec 32 := 0#32
  let v34 : BitVec 1 := Scalar.cmpi .ne v33 c0_i32_14
  v34

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x40x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S144x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S144x4096 .i16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x144x4096 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S144x4096 .i16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S128x4096x40 : Shape := ⟨3, ![128, 4096, 40]⟩
abbrev S_ : Shape := ⟨0, ![]⟩
abbrev S4096x144 : Shape := ⟨2, ![4096, 144]⟩
abbrev S40x4x144 : Shape := ⟨3, ![40, 4, 144]⟩
abbrev S144x4x144 : Shape := ⟨3, ![144, 4, 144]⟩
abbrev S4x144 : Shape := ⟨2, ![4, 144]⟩
abbrev S4 : Shape := ⟨1, ![4]⟩
abbrev S4x40x144 : Shape := ⟨3, ![4, 40, 144]⟩
abbrev S4x144x144 : Shape := ⟨3, ![4, 144, 144]⟩
abbrev S4x1x144 : Shape := ⟨3, ![4, 1, 144]⟩
abbrev S1 : Shape := ⟨1, ![1]⟩
abbrev S128x4096x144 : Shape := ⟨3, ![128, 4096, 144]⟩
abbrev S1x4096x40 : Shape := ⟨3, ![1, 4096, 40]⟩
abbrev S4096x40 : Shape := ⟨2, ![4096, 40]⟩
abbrev S1x1x144 : Shape := ⟨3, ![1, 1, 144]⟩
abbrev S1x144 : Shape := ⟨2, ![1, 144]⟩
abbrev S1x40x144 : Shape := ⟨3, ![1, 40, 144]⟩
abbrev S40x144 : Shape := ⟨2, ![40, 144]⟩
abbrev S1x144x144 : Shape := ⟨3, ![1, 144, 144]⟩
abbrev S144x144 : Shape := ⟨2, ![144, 144]⟩
abbrev S1x4096x144 : Shape := ⟨3, ![1, 4096, 144]⟩

abbrev nBuf : Space → Nat
  | .hbm => 32
  | .vmem => 10
  | .smem => 4
  | _ => 0

abbrev bufTy : (tb : Table) → Fin (tcTables nBuf tb) → BufTy
  | .hbm, ⟨0, _⟩ => ⟨S128x4096x40, .i8⟩
  | .hbm, ⟨1, _⟩ => ⟨S_, .i32⟩
  | .hbm, ⟨2, _⟩ => ⟨S4096x144, .i8⟩
  | .hbm, ⟨3, _⟩ => ⟨S4096x144, .i16⟩
  | .hbm, ⟨4, _⟩ => ⟨S_, .i32⟩
  | .hbm, ⟨5, _⟩ => ⟨S40x4x144, .i8⟩
  | .hbm, ⟨6, _⟩ => ⟨S144x4x144, .i8⟩
  | .hbm, ⟨7, _⟩ => ⟨S4x144, .i32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4x40x144, .i8⟩
  | .hbm, ⟨12, _⟩ => ⟨S4x144x144, .i8⟩
  | .hbm, ⟨13, _⟩ => ⟨S40x4x144, .i32⟩
  | .hbm, ⟨14, _⟩ => ⟨S_, .i32⟩
  | .hbm, ⟨15, _⟩ => ⟨S4x144, .i32⟩
  | .hbm, ⟨16, _⟩ => ⟨S144x4x144, .i32⟩
  | .hbm, ⟨17, _⟩ => ⟨S_, .i32⟩
  | .hbm, ⟨18, _⟩ => ⟨S4x144, .i32⟩
  | .hbm, ⟨19, _⟩ => ⟨S4x144, .i32⟩
  | .hbm, ⟨20, _⟩ => ⟨S4x144, .i32⟩
  | .hbm, ⟨21, _⟩ => ⟨S4x144, .i32⟩
  | .hbm, ⟨22, _⟩ => ⟨S4x1x144, .i32⟩
  | .hbm, ⟨23, _⟩ => ⟨S_, .i32⟩
  | .hbm, ⟨24, _⟩ => ⟨S4x144, .i32⟩
  | .hbm, ⟨25, _⟩ => ⟨S4x144, .i32⟩
  | .hbm, ⟨26, _⟩ => ⟨S4x1x144, .i32⟩
  | .hbm, ⟨27, _⟩ => ⟨S1, .i32⟩
  | .hbm, ⟨28, _⟩ => ⟨S1, .f32⟩
  | .hbm, ⟨29, _⟩ => ⟨S128x4096x144, .i8⟩
  | .hbm, ⟨30, _⟩ => ⟨S4096x144, .i16⟩
  | .hbm, ⟨31, _⟩ => ⟨S4096x144, .i8⟩
  | .local _ .vmem, ⟨0, _⟩ => ⟨S128x4096x40, .i8⟩
  | .local _ .vmem, ⟨1, _⟩ => ⟨S4096x144, .i8⟩
  | .local _ .vmem, ⟨2, _⟩ => ⟨S4096x144, .i16⟩
  | .local _ .vmem, ⟨3, _⟩ => ⟨S4x40x144, .i8⟩
  | .local _ .vmem, ⟨4, _⟩ => ⟨S4x144x144, .i8⟩
  | .local _ .vmem, ⟨5, _⟩ => ⟨S4x1x144, .i32⟩
  | .local _ .vmem, ⟨6, _⟩ => ⟨S4x1x144, .i32⟩
  | .local _ .vmem, ⟨7, _⟩ => ⟨S128x4096x144, .i8⟩
  | .local _ .vmem, ⟨8, _⟩ => ⟨S4096x144, .i16⟩
  | .local _ .vmem, ⟨9, _⟩ => ⟨S4096x144, .i8⟩
  | .local _ .smem, ⟨0, _⟩ => ⟨S4, .f32⟩
  | .local _ .smem, ⟨1, _⟩ => ⟨S4, .f32⟩
  | .local _ .smem, ⟨2, _⟩ => ⟨S1, .i32⟩
  | .local _ .smem, ⟨3, _⟩ => ⟨S1, .f32⟩
  | _, _ => ⟨S128x4096x40, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v4 : BitVec 32 := Scalar.addi c0_i32 c128_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v8 : Index := Scalar.indexCast arg14
  let c0_10 : Index := 0#32
  let c0_11 : Index := 0#32
  ![v8.toNat, 0, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v276 : Index := Scalar.indexCast arg14
  let c0_134 : Index := 0#32
  let c0_135 : Index := 0#32
  ![v276.toNat, 0, 0]
abbrev stage0_0 : Fin 1 → Memref sig .tc .vmem S128x4096x40 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x144 .i16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x40x144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x144x144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x144 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x144 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x4096x144 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x144 .i16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x144 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Trip.lean ====
module

public import proofs.«01_k».proof.Proof.Gen.Kernel.Loops

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

def trip (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
   Σ' (L8 : List (View.Piece (Elt F) S1x144x4096 .i8)) (L11 : List (View.Piece (Elt F) S160x4096 .bf16)) (L12 : List (View.Piece (Elt F) S144x4096 .i32))
    (f13' : Buf (Elt F) (arg13.view.loc (c : Thread nD τ))), { f14' : Buf (Elt F) (arg14.view.loc (c : Thread nD τ)) //
    (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 0#32 k ⟨⟩)
      (fun _ => iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} arg8.view.writes (Elt F) f8 L8) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (arg13.view.loc (c : Thread nD τ) ↦[arg13.view.set]{fullShare} f13') ∗ (arg14.view.loc (c : Thread nD τ) ↦[arg14.view.set]{fullShare} f14'))) } := by
  refine ⟨?_, ?_, ?_, ?_, ?_, ?run⟩
  case run =>
    unfold k0_t1_body
    iintro ⟨H1, H3, H4, H5, H8, H11, H12, H13, H14⟩
    sl_exec_parts
    sl_step
    sl_close
-- ==== Proof.Cell.lean ====
module

public import proofs.«01_k».proof.Proof.Trip

@[expose] public section

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- A float constant from its bits. -/
abbrev kf (b : BitVec 32) : F .f32 := Scalar.ofBits .f32 b

/-- The kernel's clip, which bounds its argument twice. -/
def clampS (lo hi : BitVec 32) (v : F .f32) : F .f32 :=
  FloatOps.minimumf (FloatOps.maximumf (FloatOps.minimumf (FloatOps.maximumf v (kf lo)) (kf hi)) (kf lo)) (kf hi)

/-- A gate before its activation: the two scaled accumulators, clipped, added and clipped again. -/
def gateP (lo hi mg hi2 : BitVec 32) (sx sh a b : F .f32) : F .f32 :=
  clampS lo hi2 (FloatOps.addf (FloatOps.addf (clampS lo hi (FloatOps.mulf a sx)) (kf mg))
    (FloatOps.subf (clampS lo hi (FloatOps.mulf b sh)) (kf mg)))

/-- A gate of the sigmoid kind before its activation. -/
abbrev gateS (sx sh a b : F .f32) : F .f32 := gateP 0xC0800000#32 0x407FFE00#32 0x44C00000#32 0x407FFE00#32 sx sh a b
/-- The gate of the tanh kind before its activation. -/
abbrev gateT (sx sh a b : F .f32) : F .f32 := gateP 0xC1000000#32 0x40FFFE00#32 0x45400000#32 0x40B50400#32 sx sh a b

/-- The sigmoid, still a float. -/
def sigF (p : F .f32) : F .f32 := FloatOps.subf (FloatOps.addf (FloatOps.tanh p) (kf 0x44404000#32)) (kf 0x44400000#32)

/-- The sigmoid as an integer. -/
def sigI (p : F .f32) : BitVec 32 :=
  IntOp.subi (IntOp.addi (FloatOps.fptosi 32 (FloatOps.roundeven (FloatOps.mulf (sigF p) (kf 0x46800000#32)))) 1145044992#32) 1145044992#32

/-- The tanh as an integer. -/
def tanI (p : F .f32) : BitVec 32 :=
  IntOp.subi (IntOp.addi (FloatOps.fptosi 32 (FloatOps.roundeven (FloatOps.mulf
    (FloatOps.subf (FloatOps.addf (FloatOps.tanh p) (kf 0x43C00000#32)) (kf 0x43C00000#32)) (kf 0x47000000#32)))) 1136656384#32) 1136656384#32

/-- A rounding division by a power of two. -/
def rdivI (h e v : BitVec 32) : BitVec 32 :=
  IntOp.shrsi .vector (IntOp.addi (IntOp.addi v (IntOp.shrsi .vector v 31#32)) h) e

/-- The new cell state, still a float. -/
def cellF (i f g c : BitVec 32) : F .f32 :=
  clampS 0xC7000000#32 0x46FFFE00#32 (FloatOps.sitofp .f32 (IntOp.addi (rdivI 16384#32 15#32 (IntOp.muli f c)) (rdivI 262144#32 19#32 (IntOp.muli i g))))

/-- The new hidden state as an integer, from the output gate and the new cell state. -/
def outI (so zp o cf : F .f32) : BitVec 32 :=
  IntOp.addi (FloatOps.fptosi 32 (FloatOps.addf (FloatOps.roundeven (FloatOps.subf (FloatOps.subf
    (clampS 0x4B3FFF80#32 0x4B40007F#32 (FloatOps.addf (FloatOps.addf (FloatOps.mulf (FloatOps.mulf o
      (FloatOps.subf (clampS 0x43BF8000#32 0x43C07FFF#32 (FloatOps.addf (FloatOps.tanh (FloatOps.mulf cf (kf 0x3A000000#32))) (kf 0x43C00000#32))) (kf 0x43C00000#32)))
      so) (kf 0x4B400000#32)) zp)) (kf 0x4B400000#32)) zp)) zp)) 1262485504#32

/-- The scales that the kernel reads: per gate for the two products, then the output's and its zero point. -/
structure Scales (F : FTy → Type) where
  /-- the scales of the input's products -/
  x : Fin 4 → F .f32
  /-- the scales of the hidden state's products -/
  h : Fin 4 → F .f32
  /-- the scale of the output -/
  o : F .f32
  /-- the zero point of the output -/
  z : F .f32

/-- The new cell state of one cell, still a float. -/
def newF (S : Scales F) (a b : Fin 4 → F .f32) (c : BitVec 32) : F .f32 :=
  cellF (sigI (gateS (S.x 0) (S.h 0) (a 0) (b 0))) (sigI (gateS (S.x 1) (S.h 1) (a 1) (b 1))) (tanI (gateT (S.x 2) (S.h 2) (a 2) (b 2))) c

/-- The new cell state of one cell. -/
def newC (S : Scales F) (a b : Fin 4 → F .f32) (c : BitVec 32) : BitVec 32 := FloatOps.fptosi 32 (FloatOps.roundeven (newF S a b c))

/-- The new hidden state of one cell. -/
def newH (S : Scales F) (a b : Fin 4 → F .f32) (c : BitVec 32) : BitVec 8 :=
  (outI S.o S.z (sigF (gateS (S.x 3) (S.h 3) (a 3) (b 3))) (newF S a b c)).setWidth 8

/-- The scales as the ten words that the kernel reads. -/
abbrev scalesOf (v3 v4 v5 v6 v7 v8 v9 v10 v11 v12 : F .f32) : Scales F := ⟨![v3, v4, v5, v6], ![v7, v8, v9, v10], v11, v12⟩

end Cert.Kernel.Hand

end
-- ==== Proof.Cover.lean ====
module

public import proofs.«01_k».proof.Proof.Cell
public import Idealize.ShloMosaic.Lib.VecWindow
public import Idealize.ShloMosaic.Lib.Pointwise

@[expose] public section

set_option maxRecDepth 16384
set_option maxHeartbeats 1000000

noncomputable section

namespace Cert.Kernel.Hand

open Cert.Kernel Cert.Kernel.Gen
open Idealize.ShloMosaic Idealize.ShloMosaic.TcCoe
open Idealize.SL Idealize.SL.Sem

section Cover

variable {sig : RefSig} {κ : Kind} {sp : Space} {s : Shape} {e : EltTy} {Val : EltTy → Type}

/-- After the stores of a list, the places of the first `n` boxes hold `G`, and the others what they held before. -/
def Cov (v : View sig κ sp s e) (f : v.ty.Contents Val) (box : ℕ → s.Idx → Prop) (G : s.Idx → Val e) (L : List (View.Piece Val s e)) (n : ℕ) : Prop :=
  ∀ y, ((∃ j < n, box j y) → v.read Val (v.writes Val f L) y = G y) ∧ ((¬ ∃ j < n, box j y) → v.read Val (v.writes Val f L) y = v.read Val f y)

/-- No store covers no box. -/
theorem Cov.nil (v : View sig κ sp s e) (f : v.ty.Contents Val) (box : ℕ → s.Idx → Prop) (G : s.Idx → Val e) : Cov v f box G [] 0 :=
  fun y => ⟨fun ⟨j, hj, _⟩ => absurd hj (Nat.not_lt_zero j), fun _ => rfl⟩

/-- One store more, over the next box, whose payload is `G` there. -/
theorem Cov.cons {v : View sig κ sp s e} {f : v.ty.Contents Val} {box : ℕ → s.Idx → Prop} {G : s.Idx → Val e} {L : List (View.Piece Val s e)} {n : ℕ}
    {off off' size : Fin s.rank → ℕ} {inb : ∀ a, off a + size a ≤ s.size a} {w : (Rect.unit off size inb).shape.Idx → Val e} (hoff : off = off')
    (hbox : ∀ y, box n y ↔ ∀ a, off' a ≤ (y a).val ∧ (y a).val < off' a + size a)
    (hw : ∀ (x : (Rect.unit off size inb).shape.Idx) (y : s.Idx), (∀ a, (y a).val = off' a + (x a).val) → w x = G y)
    (h : Cov v f box G L n) : Cov v f box G (⟨Rect.unit off size inb, w⟩ :: L) (n + 1) := by
  intro y
  by_cases hy : ∀ a, off' a ≤ (y a).val ∧ (y a).val < off' a + size a
  · have e : v.read Val (v.writes Val f (⟨Rect.unit off size inb, w⟩ :: L)) y = G y := by
      rw [View.read_writes_cons_unit v f inb w L y hoff, dif_pos hy]
      exact hw _ y fun a => by
        have := hy a
        rw [Rect.unitLocal_val]
        omega
    exact ⟨fun _ => e, fun hn => absurd ⟨n, Nat.lt_succ_self n, (hbox y).mpr hy⟩ hn⟩
  · have e : v.read Val (v.writes Val f (⟨Rect.unit off size inb, w⟩ :: L)) y = v.read Val (v.writes Val f L) y := by
      rw [View.read_writes_cons_unit v f inb w L y hoff, dif_neg hy]
    rw [e]
    refine ⟨fun ⟨j, hj, hb⟩ => (h y).1 ⟨j, ?_, hb⟩, fun hn => (h y).2 fun ⟨j, hj, hb⟩ => hn ⟨j, Nat.lt_succ_of_lt hj, hb⟩⟩
    rcases Nat.lt_succ_iff_lt_or_eq.mp hj with h' | rfl
    · exact h'
    · exact absurd ((hbox y).mp hb) hy

end Cover

/-! ### The cells of a trip -/

/-- The first row of a trip's cell `j`. -/
def rowLo (j : ℕ) : ℕ := 32 * (j % 10 / 2)
/-- Its first column within its block of 256. -/
def colLo (j : ℕ) : ℕ := 128 * (j % 2)
/-- Its number of rows. -/
def nRows (j : ℕ) : ℕ := if j % 10 / 2 = 4 then 16 else 32
/-- The block of 256 columns that it lies in, in trip `k`. -/
def blkOf (k j : ℕ) : ℕ := 2 * k + j / 10
/-- The places of cell `j` of trip `k`. -/
def box (k j row col : ℕ) : Prop := (rowLo j ≤ row ∧ row < rowLo j + nRows j) ∧ (256 * blkOf k j + colLo j ≤ col ∧ col < 256 * blkOf k j + colLo j + 128)

/-- The cells of a trip cover its columns. -/
theorem box_all (k row col : ℕ) : (∃ j < 20, box k j row col) ↔ row < 144 ∧ 512 * k ≤ col ∧ col < 512 * k + 512 := by
  constructor
  · rintro ⟨j, hj, ⟨h1, h2⟩, h3, h4⟩
    unfold rowLo nRows at *
    unfold blkOf colLo at *
    split at h2 <;> omega
  · rintro ⟨h1, h2, h3⟩
    refine ⟨10 * ((col - 512 * k) / 256) + 2 * (row / 32) + (col - 512 * k) % 256 / 128, by omega, ?_⟩
    have e1 : (10 * ((col - 512 * k) / 256) + 2 * (row / 32) + (col - 512 * k) % 256 / 128) % 10 / 2 = row / 32 := by omega
    have e2 : (10 * ((col - 512 * k) / 256) + 2 * (row / 32) + (col - 512 * k) % 256 / 128) % 2 = (col - 512 * k) % 256 / 128 := by omega
    have e3 : (10 * ((col - 512 * k) / 256) + 2 * (row / 32) + (col - 512 * k) % 256 / 128) / 10 = (col - 512 * k) / 256 := by omega
    unfold box rowLo nRows blkOf colLo
    rw [e1, e2, e3]
    refine ⟨⟨by omega, by split <;> omega⟩, by omega, by omega⟩

/-- The first ten lie in the first half of them. -/
theorem box_even (k row col : ℕ) (h : ∃ j < 10, box k j row col) : row < 144 ∧ 512 * k ≤ col ∧ col < 512 * k + 256 := by
  obtain ⟨j, hj, ⟨h1, h2⟩, h3, h4⟩ := h
  unfold rowLo nRows at *
  unfold blkOf colLo at *
  split at h2 <;> omega

end Cert.Kernel.Hand

end
-- ==== Proof.Step.lean ====
module

public import proofs.«01_k».proof.Proof.Cover

@[expose] public section

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- Column `q` of block `n` of 256 columns. -/
def colIx (n : ℕ) (q : Fin 256) : Fin 4096 := ⟨(256 * n + q.val) % 4096, Nat.mod_lt _ (by decide)⟩

/-- The two products of a block of columns, as the matrix unit makes them. -/
def accRaw (X : S1x40x4096.Idx → BitVec 8) (W : S1152x200.Idx → F .bf16) (H : S160x4096.Idx → F .bf16) (n : ℕ) : FVec F S1152x256 .f32 :=
  k0_pay8 (fun y : S1x40x256.Idx => X (ix3 0 (y 1) (colIx n (y 2)))) (fun y : S160x256.Idx => H (ix2 (y 0) (colIx n (y 1)))) W

/-- The input's products with the large offsets added as integers. -/
def fixTop (d : S1152x256.Idx → F .f32) (O : S576x1.Idx → BitVec 32) : S1152x256.Idx → F .f32 :=
  fun j => if h : (j 0).val < 576 then k0_pay5 (F := F) (fun y : S576x256.Idx => d (ix2 ⟨(y 0).val, Nat.lt_trans (y 0).isLt (by decide)⟩ (y 1))) O (ix2 ⟨(j 0).val, h⟩ (j 1)) else d j

/-- Whether the offsets are added as integers. -/
def flagOn (w : BitVec 32) : Prop := Scalar.cmpi .ne (Scalar.extui (Scalar.cmpi .ne w 0#32)) 0#32 = 1#1

instance (w : BitVec 32) : Decidable (flagOn w) := inferInstanceAs (Decidable (_ = _))

/-- What a step reads apart from its state. -/
structure Ins (F : FTy → Type) where
  /-- whether the offsets are added as integers -/
  fl : BitVec 32
  /-- the weights -/
  W : S1152x200.Idx → F .bf16
  /-- the offsets -/
  O : S576x1.Idx → BitVec 32
  /-- the scales -/
  S : Scales F

/-- The accumulators of a block of columns. -/
def accOf (I : Ins F) (X : S1x40x4096.Idx → BitVec 8) (H : S160x4096.Idx → F .bf16) (n : ℕ) : S1152x256.Idx → F .f32 :=
  if flagOn I.fl then fixTop (accRaw X I.W H n) I.O else accRaw X I.W H n

/-- Gate `g` of row `r` and column `q` of the accumulators, at the rows from `b` on. -/
def gateAt (a : S1152x256.Idx → F .f32) (b : ℕ) (hb : b ≤ 576) (r : Fin 144) (q : ℕ) (g : Fin 4) : F .f32 :=
  a (ix2 ⟨b + 144 * g.val + r.val, by omega⟩ ⟨q % 256, Nat.mod_lt _ (by decide)⟩)

/-- The new cell state, at a place. -/
def stepC (I : Ins F) (X : S1x40x4096.Idx → BitVec 8) (H : S160x4096.Idx → F .bf16) (C : S144x4096.Idx → BitVec 32) : S144x4096.Idx → BitVec 32 :=
  fun y => newC I.S (gateAt (accOf I X H ((y 1).val / 256)) 0 (by decide) (y 0) (y 1).val) (gateAt (accOf I X H ((y 1).val / 256)) 576 (by decide) (y 0) (y 1).val) (C y)

/-- The new hidden state, at a place. -/
def stepH (I : Ins F) (X : S1x40x4096.Idx → BitVec 8) (H : S160x4096.Idx → F .bf16) (C : S144x4096.Idx → BitVec 32) : S144x4096.Idx → BitVec 8 :=
  fun y => newH I.S (gateAt (accOf I X H ((y 1).val / 256)) 0 (by decide) (y 0) (y 1).val) (gateAt (accOf I X H ((y 1).val / 256)) 576 (by decide) (y 0) (y 1).val) (C y)

/-- A rectangle's load. -/
abbrev ldAt {sp : Space} {n : ℕ} {sz : Fin n → ℕ} {e : EltTy} (v : View sig .tc sp ⟨n, sz⟩ e) (f : v.ty.Contents (Elt F)) (off size : Fin n → ℕ)
    (inb : ∀ a, off a + size a ≤ sz a) : (⟨n, size⟩ : Shape).Idx → Elt F e :=
  v.readAt (Elt F) (Rect.unit (s := ⟨n, sz⟩) off size inb).toLoadRect f

/-- Row `b + 144 g + r` of the accumulators read through a view. -/
theorem acc_at {sp : Space} (v : View sig .tc sp S1152x256 .f32) (f : v.ty.Contents (Elt F)) {A : S1152x256.Idx → F .f32} (hA : v.read (Elt F) f = A)
    (b : ℕ) (hb : b ≤ 576) (g : Fin 4) {j R k : ℕ} {inb : ∀ a, (![b + 144 * g.val + rowLo j, colLo j] : Fin 2 → ℕ) a + (![R, 128] : Fin 2 → ℕ) a ≤ S1152x256.size a}
    (x : (⟨2, ![R, 128]⟩ : Shape).Idx) (r : Fin 144) (col : ℕ) (hr : r.val = rowLo j + (x 0).val) (hc : col = 256 * blkOf k j + colLo j + (x 1).val) :
    ldAt v f ![b + 144 * g.val + rowLo j, colLo j] ![R, 128] inb x = gateAt A b hb r col g := by
  rw [ldAt, View.readAt_unit v f inb rfl inb, hA]
  unfold gateAt VecWindow.window
  refine congrArg A (funext fun a => Fin.ext ?_)
  have hx1 : (x 1).val < 128 := (x 1).isLt
  have hj : colLo j ≤ 128 := by unfold colLo; omega
  match a with
  | ⟨0, _⟩ =>
    show b + 144 * g.val + rowLo j + 1 * (x 0).val = b + 144 * g.val + r.val
    omega
  | ⟨1, _⟩ =>
    show colLo j + 1 * (x 1).val = col % 256
    omega

/-- A rectangle's load of the cell state, at a place. -/
theorem c_at {sp : Space} (v : View sig .tc sp S144x4096 .i32) (f : v.ty.Contents (Elt F)) {k j R : ℕ} {off : Fin 2 → ℕ} {inb : ∀ a, off a + (![R, 128] : Fin 2 → ℕ) a ≤ S144x4096.size a}
    (hoff : off = ![rowLo j, 256 * blkOf k j + colLo j])
    (x : (⟨2, ![R, 128]⟩ : Shape).Idx) (y : S144x4096.Idx) (hy : ∀ a, (y a).val = (![rowLo j, 256 * blkOf k j + colLo j] : Fin 2 → ℕ) a + (x a).val) :
    ldAt v f off ![R, 128] inb x = v.read (Elt F) f y := by
  subst hoff
  rw [ldAt, View.readAt_unit v f inb rfl inb]
  refine congrArg (v.read (Elt F) f) (funext fun a => Fin.ext ?_)
  rw [hy a]
  show (![rowLo j, 256 * blkOf k j + colLo j] : Fin 2 → ℕ) a + 1 * (x a).val = _
  omega

/-- The eight loads of a cell's accumulators. -/
abbrev ld8 {sp : Space} (v : View sig .tc sp S1152x256 .f32) (f : v.ty.Contents (Elt F)) (b j R : ℕ)
    (inb : ∀ g : Fin 4, ∀ a, (![b + 144 * g.val + rowLo j, colLo j] : Fin 2 → ℕ) a + (![R, 128] : Fin 2 → ℕ) a ≤ S1152x256.size a)
    (x : (⟨2, ![R, 128]⟩ : Shape).Idx) : Fin 4 → F .f32 :=
  ![ldAt v f ![b + 144 * 0 + rowLo j, colLo j] ![R, 128] (inb 0) x,
    ldAt v f ![b + 144 * 1 + rowLo j, colLo j] ![R, 128] (inb 1) x,
    ldAt v f ![b + 144 * 2 + rowLo j, colLo j] ![R, 128] (inb 2) x,
    ldAt v f ![b + 144 * 3 + rowLo j, colLo j] ![R, 128] (inb 3) x]

theorem ld8_eq {sp : Space} (v : View sig .tc sp S1152x256 .f32) (f : v.ty.Contents (Elt F)) {A : S1152x256.Idx → F .f32} (hA : v.read (Elt F) f = A)
    (b : ℕ) (hb : b ≤ 576) {j R k : ℕ} {inb}
    (x : (⟨2, ![R, 128]⟩ : Shape).Idx) (r : Fin 144) (col : ℕ) (hr : r.val = rowLo j + (x 0).val) (hc : col = 256 * blkOf k j + colLo j + (x 1).val) :
    ld8 v f b j R inb x = gateAt A b hb r col := by
  funext g
  match g with
  | ⟨0, _⟩ => exact acc_at v f hA b hb 0 (inb := inb 0) x r col hr hc
  | ⟨1, _⟩ => exact acc_at v f hA b hb 1 (inb := inb 1) x r col hr hc
  | ⟨2, _⟩ => exact acc_at v f hA b hb 2 (inb := inb 2) x r col hr hc
  | ⟨3, _⟩ => exact acc_at v f hA b hb 3 (inb := inb 3) x r col hr hc

/-- A cell's rows stay inside the accumulators. -/
theorem cell_inb (b : ℕ) (hb : b ≤ 576) (j R : ℕ) (hR : R = nRows j) (g : Fin 4) (a : Fin 2) :
    (![b + 144 * g.val + rowLo j, colLo j] : Fin 2 → ℕ) a + (![R, 128] : Fin 2 → ℕ) a ≤ S1152x256.size a := by
  subst hR
  have h1 : rowLo j + nRows j ≤ 144 := by unfold rowLo nRows; split <;> omega
  have h2 : colLo j ≤ 128 := by unfold colLo; omega
  match a with
  | ⟨0, _⟩ => show b + 144 * g.val + rowLo j + nRows j ≤ 1152; omega
  | ⟨1, _⟩ => show colLo j + 128 ≤ 256; omega

/-- The place of a cell's row among the 144 rows. -/
theorem cell_row {k j R : ℕ} {x : (⟨2, ![R, 128]⟩ : Shape).Idx} {y : S144x4096.Idx} (hy : ∀ a, (y a).val = (![rowLo j, 256 * blkOf k j + colLo j] : Fin 2 → ℕ) a + (x a).val) :
    (y 0).val = rowLo j + (x 0).val ∧ (y 1).val = 256 * blkOf k j + colLo j + (x 1).val ∧ (y 1).val / 256 = blkOf k j := by
  have h0 : (y 0).val = rowLo j + (x 0).val := hy 0
  have h1 : (y 1).val = 256 * blkOf k j + colLo j + (x 1).val := hy 1
  have hx1 : (x 1).val < 128 := (x 1).isLt
  have h2 : colLo j ≤ 128 := by unfold colLo; omega
  exact ⟨h0, h1, by omega⟩

section Pay

variable {I : Ins F} {X : S1x40x4096.Idx → BitVec 8} {H : S160x4096.Idx → F .bf16} {sp sp' : Space} (va : View sig .tc sp S1152x256 .f32) (fa : va.ty.Contents (Elt F))
  (vc : View sig .tc sp' S144x4096 .i32) (fc : vc.ty.Contents (Elt F)) {C : S144x4096.Idx → BitVec 32}

/-- The payload of a cell's store of the cell state. -/
theorem payC (k j : ℕ) {R : ℕ} (hR : R = nRows j) (hA : va.read (Elt F) fa = accOf I X H (blkOf k j)) {off : Fin 2 → ℕ}
    (hC : ∀ y : S144x4096.Idx, box k j (y 0).val (y 1).val → vc.read (Elt F) fc y = C y)
    {inb : ∀ a, off a + (![R, 128] : Fin 2 → ℕ) a ≤ S144x4096.size a} (hoff : off = ![rowLo j, 256 * blkOf k j + colLo j])
    {w : (⟨2, ![R, 128]⟩ : Shape).Idx → BitVec 32}
    (hw : ∀ x, w x = newC I.S (ld8 va fa 0 j R (cell_inb 0 (by decide) j R hR) x) (ld8 va fa 576 j R (cell_inb 576 (by decide) j R hR) x)
      (ldAt vc fc off ![R, 128] inb x))
    (x : (⟨2, ![R, 128]⟩ : Shape).Idx) (y : S144x4096.Idx) (hy : ∀ a, (y a).val = (![rowLo j, 256 * blkOf k j + colLo j] : Fin 2 → ℕ) a + (x a).val) :
    w x = stepC I X H C y := by
  obtain ⟨h0, h1, h2⟩ := cell_row hy
  have hx0 : (x 0).val < R := (x 0).isLt
  have hx1 : (x 1).val < 128 := (x 1).isLt
  have e3 := (c_at vc fc (inb := inb) hoff x y hy).trans (hC y ⟨⟨by omega, by omega⟩, by omega, by omega⟩)
  have e1 := ld8_eq va fa hA 0 (by decide) (inb := cell_inb 0 (by decide) j R hR) x (y 0) (y 1).val h0 h1
  have e2 := ld8_eq va fa hA 576 (by decide) (inb := cell_inb 576 (by decide) j R hR) x (y 0) (y 1).val h0 h1
  refine (hw x).trans ((congr (congr (congrArg (newC I.S) e1) e2) e3).trans ?_)
  unfold stepC
  rw [h2]

/-- The payload of a cell's store of the hidden state. -/
theorem payH (k j : ℕ) {R : ℕ} (hR : R = nRows j) (hA : va.read (Elt F) fa = accOf I X H (blkOf k j)) {off : Fin 2 → ℕ}
    (hC : ∀ y : S144x4096.Idx, box k j (y 0).val (y 1).val → vc.read (Elt F) fc y = C y)
    {inb : ∀ a, off a + (![R, 128] : Fin 2 → ℕ) a ≤ S144x4096.size a} (hoff : off = ![rowLo j, 256 * blkOf k j + colLo j])
    {w : (⟨2, ![R, 128]⟩ : Shape).Idx → BitVec 8}
    (hw : ∀ x, w x = newH I.S (ld8 va fa 0 j R (cell_inb 0 (by decide) j R hR) x) (ld8 va fa 576 j R (cell_inb 576 (by decide) j R hR) x)
      (ldAt vc fc off ![R, 128] inb x))
    (x : (⟨2, ![R, 128]⟩ : Shape).Idx) (y : S144x4096.Idx) (hy : ∀ a, (y a).val = (![rowLo j, 256 * blkOf k j + colLo j] : Fin 2 → ℕ) a + (x a).val) :
    w x = stepH I X H C y := by
  obtain ⟨h0, h1, h2⟩ := cell_row hy
  have hx0 : (x 0).val < R := (x 0).isLt
  have hx1 : (x 1).val < 128 := (x 1).isLt
  have e3 := (c_at vc fc (inb := inb) hoff x y hy).trans (hC y ⟨⟨by omega, by omega⟩, by omega, by omega⟩)
  have e1 := ld8_eq va fa hA 0 (by decide) (inb := cell_inb 0 (by decide) j R hR) x (y 0) (y 1).val h0 h1
  have e2 := ld8_eq va fa hA 576 (by decide) (inb := cell_inb 576 (by decide) j R hR) x (y 0) (y 1).val h0 h1
  refine (hw x).trans ((congr (congr (congrArg (newH I.S) e1) e2) e3).trans ?_)
  unfold stepH
  rw [h2]

end Pay

/-- The places of a cell in the cell state are those of a rectangle. -/
theorem box_rect2 {n0 : ℕ} (k j R : ℕ) (hR : R = nRows j) (y : (⟨2, ![n0, 4096]⟩ : Shape).Idx) :
    box k j (y 0).val (y 1).val ↔ ∀ a, (![rowLo j, 256 * blkOf k j + colLo j] : Fin 2 → ℕ) a ≤ (y a).val ∧ (y a).val < (![rowLo j, 256 * blkOf k j + colLo j] : Fin 2 → ℕ) a + (![R, 128] : Fin 2 → ℕ) a := by
  subst hR
  rw [Fin.forall_fin_two]
  rfl

/-- The same under a leading unit axis. -/
theorem box_rect3 (k j R : ℕ) (hR : R = nRows j) (y : S1x144x4096.Idx) :
    box k j (y 1).val (y 2).val ↔ ∀ a, (![0, rowLo j, 256 * blkOf k j + colLo j] : Fin 3 → ℕ) a ≤ (y a).val ∧ (y a).val < (![0, rowLo j, 256 * blkOf k j + colLo j] : Fin 3 → ℕ) a + (![1, R, 128] : Fin 3 → ℕ) a := by
  subst hR
  have h0 : (y 0).val < 1 := (y 0).isLt
  constructor
  · rintro ⟨⟨h1, h2⟩, h3, h4⟩ a
    match a with
    | ⟨0, _⟩ => exact ⟨Nat.zero_le _, h0⟩
    | ⟨1, _⟩ => exact ⟨h1, h2⟩
    | ⟨2, _⟩ => exact ⟨h3, h4⟩
  · intro h
    exact ⟨h 1, h 2⟩

end Cert.Kernel.Hand

end
-- ==== Proof.Acc.lean ====
module

public import proofs.«01_k».proof.Proof.Step
public import proofs.«01_k».proof.Proof.Trip

@[expose] public section

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- A fact of every trip, at one. -/
theorem at_trip {P : Fin k0_t1_loop.trips → Prop} (h : ∀ k, P k) (k : Fin k0_t1_loop.trips) : P k := h k

/-- The offsets' correction, read back. -/
theorem fix_read {sp : Space} (va : View sig .tc sp S1152x256 .f32) (f : va.ty.Contents (Elt F)) (fl : BitVec 32) (w : FVec F S1152x256 .f32) (O : S576x1.Idx → BitVec 32)
    (i1 : ∀ a, (![0, 0] : Fin 2 → ℕ) a + S576x256.size a ≤ S1152x256.size a) (i2 : ∀ a, (![0, 0] : Fin 2 → ℕ) a + S1152x256.size a ≤ S1152x256.size a) :
    va.read (Elt F) (if _hc : flagOn fl then va.writes (Elt F) f (⟨Rect.unit ![0, 0] S576x256.size i1, k0_pay5 (F := F)
        (va.readCov [(⟨Rect.unit ![0, 0] S1152x256.size i2, w⟩ : View.Piece (Elt F) S1152x256 .f32)] (Rect.unit (s := S1152x256) ![0, 0] S576x256.size i1).toLoadRect) O⟩
          :: [⟨Rect.unit ![0, 0] S1152x256.size i2, w⟩]) else va.writes (Elt F) f [⟨Rect.unit ![0, 0] S1152x256.size i2, w⟩])
      = if flagOn fl then fixTop w O else w := by
  by_cases hc : flagOn fl
  · rw [dif_pos hc, if_pos hc]
    funext y
    rw [View.read_writes_cons_unit va f i1 _ _ y rfl]
    have hd : va.readCov [(⟨Rect.unit ![0, 0] S1152x256.size i2, w⟩ : View.Piece (Elt F) S1152x256 .f32)] (Rect.unit (s := S1152x256) ![0, 0] S576x256.size i1).toLoadRect
        = fun y : S576x256.Idx => w (ix2 ⟨(y 0).val, Nat.lt_trans (y 0).isLt (by decide)⟩ (y 1)) := by
      funext x
      show va.read (Elt F) (va.writes (Elt F) va.junk [⟨Rect.unit ![0, 0] S1152x256.size i2, w⟩]) _ = _
      refine (congrFun (View.read_writes_full (Val := Elt F) va va.junk i2 w []) _).trans ?_
      refine congrArg w (funext fun a => Fin.ext ?_)
      match a with
      | ⟨0, _⟩ => show 0 + 1 * (x 0).val = (x 0).val; omega
      | ⟨1, _⟩ => show 0 + 1 * (x 1).val = (x 1).val; omega
    by_cases h : (y 0).val < 576
    · have hy : ∀ a, (![0, 0] : Fin 2 → ℕ) a ≤ (y a).val ∧ (y a).val < (![0, 0] : Fin 2 → ℕ) a + S576x256.size a := by
        intro a
        match a with
        | ⟨0, _⟩ => exact ⟨Nat.zero_le _, by show (y 0).val < 0 + 576; omega⟩
        | ⟨1, _⟩ => exact ⟨Nat.zero_le _, by have := (y 1).isLt; show (y 1).val < 0 + 256; have : (y 1).val < 256 := (y 1).isLt; omega⟩
      rw [dif_pos hy, hd]
      unfold fixTop
      rw [dif_pos h]
      refine congrArg _ (funext fun a => Fin.ext ?_)
      rw [Rect.unitLocal_val]
      match a with
      | ⟨0, _⟩ => rfl
      | ⟨1, _⟩ => rfl
    · have hy : ¬ ∀ a, (![0, 0] : Fin 2 → ℕ) a ≤ (y a).val ∧ (y a).val < (![0, 0] : Fin 2 → ℕ) a + S576x256.size a := by
        intro hy
        have h2 : (y 0).val < 0 + 576 := (hy 0).2
        omega
      rw [dif_neg hy]
      unfold fixTop
      rw [dif_neg h]
      exact congrFun (View.read_writes_full va f i2 w []) y
  · rw [dif_neg hc, if_neg hc]
    exact View.read_writes_full va f i2 w []

/-- The products of a block of columns, from the loads that make them. -/
theorem raw_eq {s3 s5 s11 : Space} (v3 : View sig .tc s3 S1152x200 .bf16) (f3 : v3.ty.Contents (Elt F)) (v5 : View sig .tc s5 S1x40x4096 .i8) (f5 : v5.ty.Contents (Elt F))
    (v11 : View sig .tc s11 S160x4096 .bf16) (f11 : v11.ty.Contents (Elt F)) {H : S160x4096.Idx → F .bf16} {n : ℕ} (hn : n < 16)
    (hH : ∀ y : S160x4096.Idx, 256 * n ≤ (y 1).val → (y 1).val < 256 * n + 256 → v11.read (Elt F) f11 y = H y)
    {o5 : Fin 3 → ℕ} {o11 : Fin 2 → ℕ} (i5 : ∀ a, o5 a + S1x40x256.size a ≤ S1x40x4096.size a) (i11 : ∀ a, o11 a + S160x256.size a ≤ S160x4096.size a)
    (i3 : ∀ a, (![0, 0] : Fin 2 → ℕ) a + S1152x200.size a ≤ S1152x200.size a)
    (e5 : o5 = ![0, 0, 256 * n]) (e11 : o11 = ![0, 256 * n]) :
    k0_pay8 (F := F) (v5.readAt (Elt F) (Rect.unit (s := S1x40x4096) o5 S1x40x256.size i5).toLoadRect f5) (v11.readAt (Elt F) (Rect.unit (s := S160x4096) o11 S160x256.size i11).toLoadRect f11)
      (v3.readAt (Elt F) (Rect.unit (s := S1152x200) ![0, 0] S1152x200.size i3).toLoadRect f3) = accRaw (v5.read (Elt F) f5) (v3.read (Elt F) f3) H n := by
  subst e5 e11
  have a5 : v5.readAt (Elt F) (Rect.unit (s := S1x40x4096) ![0, 0, 256 * n] S1x40x256.size i5).toLoadRect f5 = fun y : S1x40x256.Idx => v5.read (Elt F) f5 (ix3 0 (y 1) (colIx n (y 2))) := by
    rw [View.readAt_unit v5 f5 i5 rfl i5]
    funext y
    refine congrArg (v5.read (Elt F) f5) (funext fun a => Fin.ext ?_)
    have h0 : (y 0).val < 1 := (y 0).isLt
    have h2 : (y 2).val < 256 := (y 2).isLt
    match a with
    | ⟨0, _⟩ => show 0 + 1 * (y 0).val = 0; omega
    | ⟨1, _⟩ => show 0 + 1 * (y 1).val = (y 1).val; omega
    | ⟨2, _⟩ => show 256 * n + 1 * (y 2).val = (256 * n + (y 2).val) % 4096; omega
  have a11 : v11.readAt (Elt F) (Rect.unit (s := S160x4096) ![0, 256 * n] S160x256.size i11).toLoadRect f11 = fun y : S160x256.Idx => H (ix2 (y 0) (colIx n (y 1))) := by
    rw [View.readAt_unit v11 f11 i11 rfl i11]
    funext y
    have h1 : (y 1).val < 256 := (y 1).isLt
    have e : (Rect.unit (s := S160x4096) ![0, 256 * n] S160x256.size i11).emb y = ix2 (y 0) (colIx n (y 1)) := by
      refine funext fun a => Fin.ext ?_
      match a with
      | ⟨0, _⟩ => show 0 + 1 * (y 0).val = (y 0).val; omega
      | ⟨1, _⟩ => show 256 * n + 1 * (y 1).val = (256 * n + (y 1).val) % 4096; omega
    show v11.read (Elt F) f11 ((Rect.unit (s := S160x4096) ![0, 256 * n] S160x256.size i11).emb y) = _
    rw [e]
    refine hH _ ?_ ?_
    · show 256 * n ≤ (256 * n + (y 1).val) % 4096; omega
    · show (256 * n + (y 1).val) % 4096 < 256 * n + 256; omega
  rw [a5, a11, View.readAt_full v3 f3 i3]
  rfl

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- The second accumulators after a trip. -/
def acc14 (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f14 : Buf (Elt F) (arg14.view.loc (c : Thread nD τ))) : Buf (Elt F) (arg14.view.loc (c : Thread nD τ)) :=
  if hc : trip.sl.v2766 c arg1 f1 = 1#1 then
    arg14.view.writes (Elt F) f14
      (⟨Rect.unit ![0, 0] S576x256.size inb_S1152x256_S576x256_0_0,
        k0_pay226 (trip.sl.v5501 c arg3 arg5 arg11 arg14 k f3 f5 f11) (View.readAt (Elt F) arg4.view (Rect.unit ![0, 0] S576x1.size inb_S576x1_S576x1_0_0).toLoadRect f4)⟩ ::
        trip.sl.H14_1 c arg3 arg5 arg11 k f3 f5 f11)
  else arg14.view.writes (Elt F) f14 (trip.sl.H14_1 c arg3 arg5 arg11 k f3 f5 f11)

/-- The first accumulators after a trip. -/
def acc13 (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) : Buf (Elt F) (arg13.view.loc (c : Thread nD τ)) :=
  if hc : trip.sl.v2766 c arg1 f1 = 1#1 then
    arg13.view.writes (Elt F) f13
      (⟨Rect.unit ![0, 0] S576x256.size inb_S1152x256_S576x256_0_0,
        k0_pay5 (trip.sl.v5501_1 c arg3 arg5 arg11 arg12 arg13 v3 v4 v5 v6 v7 v8 v9 v10 v11 v12 k f3 f5 f11 f12 f13) (View.readAt (Elt F) arg4.view (Rect.unit ![0, 0] S576x1.size inb_S576x1_S576x1_0_0).toLoadRect f4)⟩ ::
        trip.sl.H13_1 c arg3 arg5 arg11 arg12 arg13 v3 v4 v5 v6 v7 v8 v9 v10 v11 v12 k f3 f5 f11 f12 f13)
  else arg13.view.writes (Elt F) f13 (trip.sl.H13_1 c arg3 arg5 arg11 arg12 arg13 v3 v4 v5 v6 v7 v8 v9 v10 v11 v12 k f3 f5 f11 f12 f13)

theorem off1_eq : ∀ k : Fin k0_t1_loop.trips, k0_off1 k = ![0, 0, 256 * (2 * k.val + 1)] := by decide
theorem off2_eq : ∀ k : Fin k0_t1_loop.trips, k0_off2 k = ![0, 256 * (2 * k.val + 1)] := by decide
theorem off18_eq : ∀ k : Fin k0_t1_loop.trips, k0_off18 k = ![0, 0, 256 * (min (2 * k.val + 2) 15)] := by decide
theorem off19_eq : ∀ k : Fin k0_t1_loop.trips, k0_off19 k = ![0, 256 * (min (2 * k.val + 2) 15)] := by decide

theorem trips_eq : k0_t1_loop.trips = 8 := by decide

/-- What a step reads, from the buffers that hold it. -/
abbrev insOf (f1 : Buf (Elt F) (arg1.view.loc (c : Thread nD τ))) (f3 : Buf (Elt F) (arg3.view.loc (c : Thread nD τ))) (f4 : Buf (Elt F) (arg4.view.loc (c : Thread nD τ))) : Ins F :=
  ⟨trip.sl.r_225 c arg1 f1, arg3.view.read (Elt F) f3, arg4.view.read (Elt F) f4, scalesOf v3 v4 v5 v6 v7 v8 v9 v10 v11 v12⟩

theorem acc14_read (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f14 : Buf (Elt F) (arg14.view.loc (c : Thread nD τ))) (H : S160x4096.Idx → F .bf16)
    (hH : ∀ y : S160x4096.Idx, 256 * (2 * k.val + 1) ≤ (y 1).val → (y 1).val < 256 * (2 * k.val + 1) + 256 → arg11.view.read (Elt F) f11 y = H y) :
    arg14.view.read (Elt F) (acc14 c arg1 arg3 arg4 arg5 arg11 arg14 k f1 f3 f4 f5 f11 f14)
      = accOf (insOf c arg1 arg3 arg4 v3 v4 v5 v6 v7 v8 v9 v10 v11 v12 f1 f3 f4) (arg5.view.read (Elt F) f5) H (2 * k.val + 1) := by
  have hk : k.val < 8 := lt_of_lt_of_eq k.isLt trips_eq
  have e1 := raw_eq arg3.view f3 arg5.view f5 arg11.view f11 (n := 2 * k.val + 1) (by omega) hH (k0_off1_inb k) (k0_off2_inb k) inb_S1152x200_S1152x200_0_0
    (off1_eq k) (off2_eq k)
  have e2 : View.readAt (Elt F) arg4.view (Rect.unit ![0, 0] S576x1.size inb_S576x1_S576x1_0_0).toLoadRect f4 = arg4.view.read (Elt F) f4 := View.readAt_full arg4.view f4 _
  have e3 := fix_read arg14.view f14 (trip.sl.r_225 c arg1 f1) (accRaw (arg5.view.read (Elt F) f5) (arg3.view.read (Elt F) f3) H (2 * k.val + 1)) (arg4.view.read (Elt F) f4) inb_S1152x256_S576x256_0_0 inb_S1152x256_S1152x256_0_0
  rw [← e1, ← e2] at e3
  refine e3.trans ?_
  rw [e1, e2]
  rfl

theorem acc13_read (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (H : S160x4096.Idx → F .bf16) (n : ℕ) (hn : n = min (2 * k.val + 2) 15)
    (hH : ∀ y : S160x4096.Idx, 256 * n ≤ (y 1).val → (y 1).val < 256 * n + 256 →
      arg11.view.read (Elt F) (arg11.view.writes (Elt F) f11 (trip.sl.H11_10 c arg12 arg13 v3 v4 v5 v6 v7 v8 v9 v10 v11 v12 k f12 f13)) y = H y) :
    arg13.view.read (Elt F) (acc13 c arg1 arg3 arg4 arg5 arg11 arg12 arg13 v3 v4 v5 v6 v7 v8 v9 v10 v11 v12 k f1 f3 f4 f5 f11 f12 f13)
      = accOf (insOf c arg1 arg3 arg4 v3 v4 v5 v6 v7 v8 v9 v10 v11 v12 f1 f3 f4) (arg5.view.read (Elt F) f5) H n := by
  subst hn
  have hk : k.val < 8 := lt_of_lt_of_eq k.isLt trips_eq
  have e1 := raw_eq arg3.view f3 arg5.view f5 arg11.view (arg11.view.writes (Elt F) f11 (trip.sl.H11_10 c arg12 arg13 v3 v4 v5 v6 v7 v8 v9 v10 v11 v12 k f12 f13)) (n := min (2 * k.val + 2) 15) (by omega) hH (k0_off18_inb k) (k0_off19_inb k) inb_S1152x200_S1152x200_0_0
    (off18_eq k) (off19_eq k)
  have e2 : View.readAt (Elt F) arg4.view (Rect.unit ![0, 0] S576x1.size inb_S576x1_S576x1_0_0).toLoadRect f4 = arg4.view.read (Elt F) f4 := View.readAt_full arg4.view f4 _
  have e3 := fix_read arg13.view f13 (trip.sl.r_225 c arg1 f1) (accRaw (arg5.view.read (Elt F) f5) (arg3.view.read (Elt F) f3) H (min (2 * k.val + 2) 15)) (arg4.view.read (Elt F) f4) inb_S1152x256_S576x256_0_0 inb_S1152x256_S1152x256_0_0
  rw [← e1, ← e2] at e3
  refine e3.trans ?_
  rw [e1, e2]
  rfl

end Cert.Kernel.Hand

end
-- ==== Proof.Cons.lean ====
module

public import proofs.«01_k».proof.Proof.Acc
public import Idealize.ShloMosaic.Lib.ValueLayout

@[expose] public section

set_option maxRecDepth 16384
set_option maxHeartbeats 16000000

noncomputable section

namespace Cert.Kernel.Hand

open Cert.Kernel Cert.Kernel.Gen
open Idealize.ShloMosaic Idealize.ShloMosaic.TcCoe
open Idealize.SL Idealize.SL.Sem

variable {F : FTy → Type} [FloatOps F]

section Cons

variable {I : Ins F} {X : S1x40x4096.Idx → BitVec 8} {H : S160x4096.Idx → F .bf16} {sp sp' sq : Space} (va : View sig .tc sp S1152x256 .f32) (fa : va.ty.Contents (Elt F))
  (vc : View sig .tc sp' S144x4096 .i32) (fc : vc.ty.Contents (Elt F)) {C : S144x4096.Idx → BitVec 32}

/-- One cell more of the cell state. -/
theorem Cov.cellC (k : ℕ) {j R : ℕ} {off : Fin 2 → ℕ} {inb : ∀ a, off a + (![R, 128] : Fin 2 → ℕ) a ≤ S144x4096.size a} {w : (⟨2, ![R, 128]⟩ : Shape).Idx → BitVec 32}
    {L : List (View.Piece (Elt F) S144x4096 .i32)}
    (h : Cov vc fc (fun j y => box k j (y 0).val (y 1).val) (stepC I X H C) L j)
    (hC : ∀ j, ∀ y : S144x4096.Idx, box k j (y 0).val (y 1).val → vc.read (Elt F) fc y = C y)
    (hA : va.read (Elt F) fa = accOf I X H (blkOf k j)) (hR : R = nRows j)
    (hoff : off = ![rowLo j, 256 * blkOf k j + colLo j])
    (sc : (⟨2, ![R, 128]⟩ : Shape).ShapeCasts ⟨2, ![R, 128]⟩)
    (hw : ∀ x, w x = shapeCast ⟨2, ![R, 128]⟩ (fun x => newC I.S (ld8 va fa 0 j R (cell_inb 0 (by decide) j R hR) x) (ld8 va fa 576 j R (cell_inb 576 (by decide) j R hR) x)
      (vc.readAt (Elt F) (Rect.unit (s := S144x4096) off ![R, 128] inb).toLoadRect fc x)) sc x) :
    Cov vc fc (fun j y => box k j (y 0).val (y 1).val) (stepC I X H C) (⟨Rect.unit (s := S144x4096) off ![R, 128] inb, w⟩ :: L) (j + 1) :=
  Cov.cons hoff (fun y => box_rect2 k j R hR y) (payC va fa vc fc k j hR hA (hC j) (inb := inb) hoff fun x => (hw x).trans (congrFun (shapeCast_self _ _) x)) h

/-- The hidden state as the matrix unit takes it: the new one over the constant rows. -/
def hiRows (N : S144x4096.Idx → BitVec 8) (H0 : S160x4096.Idx → F .bf16) : S160x4096.Idx → F .bf16 :=
  fun y => if h : (y 0).val < 144 then FloatOps.sitofp .bf16 (N (ix2 ⟨(y 0).val, h⟩ (y 1))) else H0 y

/-- A cell's rectangle stays inside the cell state. -/
theorem cell_inbc {k j R : ℕ} {off : Fin 2 → ℕ} (hk : k < 8) (hj : j < 20) (hR : R = nRows j) (hoff : off = ![rowLo j, 256 * blkOf k j + colLo j]) (a : Fin 2) :
    off a + (![R, 128] : Fin 2 → ℕ) a ≤ S144x4096.size a := by
  subst hR hoff
  have h1 : rowLo j + nRows j ≤ 144 := by unfold rowLo nRows; split <;> omega
  have h2 : 256 * blkOf k j + colLo j + 128 ≤ 4096 := by unfold blkOf colLo; omega
  match a with
  | ⟨0, _⟩ => exact h1
  | ⟨1, _⟩ => exact h2

/-- One cell more of the hidden state, as the matrix unit takes it. -/
theorem Cov.cellHi (k : ℕ) (vh : View sig .tc sq S160x4096 .bf16) (fh : vh.ty.Contents (Elt F)) {H0 : S160x4096.Idx → F .bf16} {j R : ℕ} {off : Fin 2 → ℕ}
    {inb : ∀ a, off a + (![R, 128] : Fin 2 → ℕ) a ≤ S160x4096.size a} {w : (⟨2, ![R, 128]⟩ : Shape).Idx → F .bf16}
    {L : List (View.Piece (Elt F) S160x4096 .bf16)}
    (h : Cov vh fh (fun j y => box k j (y 0).val (y 1).val) (hiRows (stepH I X H C) H0) L j)
    (hC : ∀ j, ∀ y : S144x4096.Idx, box k j (y 0).val (y 1).val → vc.read (Elt F) fc y = C y)
    (hA : va.read (Elt F) fa = accOf I X H (blkOf k j)) (hR : R = nRows j)
    (hoff : off = ![rowLo j, 256 * blkOf k j + colLo j]) (hk : k < 8) (hj : j < 20)
    (sc : (⟨2, ![R, 128]⟩ : Shape).ShapeCasts ⟨2, ![R, 128]⟩)
    (hw : ∀ x, w x = shapeCast ⟨2, ![R, 128]⟩ (fun x => FloatOps.sitofp .bf16 (newH I.S (ld8 va fa 0 j R (cell_inb 0 (by decide) j R hR) x) (ld8 va fa 576 j R (cell_inb 576 (by decide) j R hR) x)
      (vc.readAt (Elt F) (Rect.unit (s := S144x4096) off ![R, 128] (cell_inbc hk hj hR hoff)).toLoadRect fc x))) sc x) :
    Cov vh fh (fun j y => box k j (y 0).val (y 1).val) (hiRows (stepH I X H C) H0) (⟨Rect.unit (s := S160x4096) off ![R, 128] inb, w⟩ :: L) (j + 1) := by
  refine Cov.cons hoff (fun y => box_rect2 k j R hR y) ?_ h
  intro x y hy
  have h1 : rowLo j + nRows j ≤ 144 := by unfold rowLo nRows; split <;> omega
  have hx0 : (x 0).val < R := (x 0).isLt
  have hy0 : (y 0).val = rowLo j + (x 0).val := hy 0
  have hlt : (y 0).val < 144 := by omega
  unfold hiRows
  rw [dif_pos hlt]
  refine (hw x).trans ((congrFun (shapeCast_self _ _) x).trans (congrArg (FloatOps.sitofp .bf16) ?_))
  refine payH va fa vc fc k j hR hA (hC j) (inb := cell_inbc hk hj hR hoff) hoff (w := fun x => newH I.S (ld8 va fa 0 j R (cell_inb 0 (by decide) j R hR) x) (ld8 va fa 576 j R (cell_inb 576 (by decide) j R hR) x)
      (vc.readAt (Elt F) (Rect.unit (s := S144x4096) off ![R, 128] (cell_inbc hk hj hR hoff)).toLoadRect fc x)) (fun _ => rfl) x _ ?_
  intro a
  match a with
  | ⟨0, _⟩ => exact hy 0
  | ⟨1, _⟩ => exact hy 1

/-- The new hidden state under its leading unit axis. -/
def lead (N : S144x4096.Idx → BitVec 8) : S1x144x4096.Idx → BitVec 8 := fun y => N (ix2 (y 1) (y 2))

/-- One cell more of the result's hidden state. -/
theorem Cov.cellH (k : ℕ) (vh : View sig .tc sq S1x144x4096 .i8) (fh : vh.ty.Contents (Elt F)) {j R : ℕ} {off : Fin 3 → ℕ} (offc : Fin 2 → ℕ)
    {inb : ∀ a, off a + (![1, R, 128] : Fin 3 → ℕ) a ≤ S1x144x4096.size a} {w : (⟨3, ![1, R, 128]⟩ : Shape).Idx → BitVec 8}
    {L : List (View.Piece (Elt F) S1x144x4096 .i8)}
    (h : Cov vh fh (fun j y => box k j (y 1).val (y 2).val) (lead (stepH I X H C)) L j)
    (hC : ∀ j, ∀ y : S144x4096.Idx, box k j (y 0).val (y 1).val → vc.read (Elt F) fc y = C y)
    (hA : va.read (Elt F) fa = accOf I X H (blkOf k j)) (hR : R = nRows j)
    (hoff : off = ![0, rowLo j, 256 * blkOf k j + colLo j]) (hoffc : offc = ![rowLo j, 256 * blkOf k j + colLo j])
    (hk : k < 8) (hj : j < 20) (sc : (⟨2, ![R, 128]⟩ : Shape).ShapeCasts ⟨3, ![1, R, 128]⟩)
    (hw : ∀ (u : Fin 1) (a : Fin R) (b : Fin 128), w (ix3 u a b) = shapeCast ⟨3, ![1, R, 128]⟩ (fun x => newH I.S (ld8 va fa 0 j R (cell_inb 0 (by decide) j R hR) x) (ld8 va fa 576 j R (cell_inb 576 (by decide) j R hR) x)
      (vc.readAt (Elt F) (Rect.unit (s := S144x4096) offc ![R, 128] (cell_inbc hk hj hR hoffc)).toLoadRect fc x)) sc (ix3 u a b)) :
    Cov vh fh (fun j y => box k j (y 1).val (y 2).val) (lead (stepH I X H C)) (⟨Rect.unit (s := S1x144x4096) off ![1, R, 128] inb, w⟩ :: L) (j + 1) := by
  refine Cov.cons hoff (fun y => box_rect3 k j R hR y) ?_ h
  intro x y hy
  have hx : x = ix3 (x 0) (x 1) (x 2) := (ix3_eta x).symm
  rw [hx]
  refine ((hw (x 0) (x 1) (x 2)).trans (ValueIdx.shapeCast_ab_1ab_apply _ _ _ _ _)).trans ?_
  refine payH va fa vc fc k j hR hA (hC j) (inb := cell_inbc hk hj hR hoffc) hoffc (w := fun x => newH I.S (ld8 va fa 0 j R (cell_inb 0 (by decide) j R hR) x) (ld8 va fa 576 j R (cell_inb 576 (by decide) j R hR) x)
      (vc.readAt (Elt F) (Rect.unit (s := S144x4096) offc ![R, 128] (cell_inbc hk hj hR hoffc)).toLoadRect fc x)) (fun _ => rfl) (ix2 (x 1) (x 2)) (ix2 (y 1) (y 2)) ?_
  intro a
  match a with
  | ⟨0, _⟩ => exact hy 1
  | ⟨1, _⟩ => exact hy 2

end Cons

end Cert.Kernel.Hand

end
-- ==== Proof.CovC.lean ====
module

public import proofs.«01_k».proof.Proof.Acc
public import proofs.«01_k».proof.Proof.Cons

@[expose] public section

set_option maxRecDepth 16384
set_option maxHeartbeats 16000000

noncomputable section

namespace Cert.Kernel.Hand

open Cert.Kernel Cert.Kernel.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covC_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg12.view f12 (fun j y => box k.val j (y 0).val (y 1).val) (stepC (insOf c arg1 arg3 arg4 v3 v4 v5 v6 v7 v8 v9 v10 v11 v12 f1 f3 f4) X H C) (trip.sl.H12_10 c arg12 arg13 v3 v4 v5 v7 v8 v9 k f12 f13) 10 := by
  iterate 10
    refine Cov.cellC (I := insOf c arg1 arg3 arg4 v3 v4 v5 v6 v7 v8 v9 v10 v11 v12 f1 f3 f4) arg13.view f13 arg12.view f12 k.val ?_ hC hE rfl (by generalize k = k'; revert k'; decide) rfl (fun _ => rfl)
  exact Cov.nil _ _ _ _

/-- After a trip. -/
theorem covC_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg12.view f12 (fun j y => box k.val j (y 0).val (y 1).val) (stepC (insOf c arg1 arg3 arg4 v3 v4 v5 v6 v7 v8 v9 v10 v11 v12 f1 f3 f4) X H C) (trip.sl.H12_20 c arg1 arg3 arg4 arg5 arg11 arg12 arg13 arg14 v3 v4 v5 v7 v8 v9 k f1 f3 f4 f5 f11 f12 f13 f14) 20 := by
  iterate 10
    refine Cov.cellC (I := insOf c arg1 arg3 arg4 v3 v4 v5 v6 v7 v8 v9 v10 v11 v12 f1 f3 f4) arg14.view (acc14 c arg1 arg3 arg4 arg5 arg11 arg14 k f1 f3 f4 f5 f11 f14) arg12.view f12 k.val ?_ hC hO rfl (by generalize k = k'; revert k'; decide) rfl (fun _ => rfl)
  exact covC_even (H0 := H0) c arg1 arg3 arg4 arg5 arg8 arg11 arg12 arg13 arg14 v3 v4 v5 v6 v7 v8 v9 v10 v11 v12 k f1 f3 f4 f5 f11 f12 f13 f14 hE hC f8

end Cert.Kernel.Hand

end
-- ==== Proof.CovH.lean ====
module

public import proofs.«01_k».proof.Proof.Acc
public import proofs.«01_k».proof.Proof.Cons
public import Idealize.ShloMosaic.Lib.ValueLayout

@[expose] public section

set_option maxRecDepth 16384
set_option maxHeartbeats 16000000

noncomputable section

namespace Cert.Kernel.Hand

open Cert.Kernel Cert.Kernel.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covH_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg8.view f8 (fun j y => box k.val j (y 1).val (y 2).val) (lead (stepH (insOf c arg1 arg3 arg4 v3 v4 v5 v6 v7 v8 v9 v10 v11 v12 f1 f3 f4) X H C)) (trip.sl.H8_10 c arg12 arg13 v3 v4 v5 v6 v7 v8 v9 v10 v11 v12 k f12 f13) 10 := by
  refine Cov.cellH (I := insOf c arg1 arg3 arg4 v3 v4 v5 v6 v7 v8 v9 v10 v11 v12 f1 f3 f4) arg13.view f13 arg12.view f12 k.val arg8.view f8 (k0_off15 k 128#32) ?_ hC hE rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg13.view f13 arg12.view f12 k.val arg8.view f8 (k0_off15 k 0#32) ?_ hC hE rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg13.view f13 arg12.view f12 k.val arg8.view f8 (k0_off12 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off12 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off9 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off9 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off6 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off6 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off3 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off3 k 0#32) ?_ hC hE rfl (by generalize k = k'; revert k'; decide) (by generalize k = k'; revert k'; decide) (lt_of_lt_of_eq k.isLt trips_eq) (by decide) shapeCasts_S32x128_S1x32x128 (fun _ _ _ => rfl)
  exact Cov.nil _ _ _ _

/-- After a trip. -/
theorem covH_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg8.view f8 (fun j y => box k.val j (y 1).val (y 2).val) (lead (stepH (insOf c arg1 arg3 arg4 v3 v4 v5 v6 v7 v8 v9 v10 v11 v12 f1 f3 f4) X H C)) (trip.sl.H8_20 c arg1 arg3 arg4 arg5 arg11 arg12 arg13 arg14 v3 v4 v5 v6 v7 v8 v9 v10 v11 v12 k f1 f3 f4 f5 f11 f12 f13 f14) 20 := by
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off32 k 128#32) ?_ hC hO rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off32 k 0#32) ?_ hC hO rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off29 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off29 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off26 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off26 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off23 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off23 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off20 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off20 k 0#32) ?_ hC hO rfl (by generalize k = k'; revert k'; decide) (by generalize k = k'; revert k'; decide) (lt_of_lt_of_eq k.isLt trips_eq) (by decide) shapeCasts_S32x128_S1x32x128 (fun _ _ _ => rfl)
  exact covH_even (H0 := H0) c arg1 arg3 arg4 arg5 arg8 arg11 arg12 arg13 arg14 v3 v4 v5 v6 v7 v8 v9 v10 v11 v12 k f1 f3 f4 f5 f11 f12 f13 f14 hE hC f8

end Cert.Kernel.Hand

end
-- ==== Proof.CovHi.lean ====
module

public import proofs.«01_k».proof.Proof.Acc
public import proofs.«01_k».proof.Proof.Cons

@[expose] public section

set_option maxRecDepth 16384
set_option maxHeartbeats 16000000

noncomputable section

namespace Cert.Kernel.Hand

open Cert.Kernel Cert.Kernel.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covHi_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg11.view f11 (fun j y => box k.val j (y 0).val (y 1).val) (hiRows (stepH (insOf c arg1 arg3 arg4 v3 v4 v5 v6 v7 v8 v9 v10 v11 v12 f1 f3 f4) X H C) H0) (trip.sl.H11_10 c arg12 arg13 v3 v4 v5 v6 v7 v8 v9 v10 v11 v12 k f12 f13) 10 := by
  iterate 10
    refine Cov.cellHi (I := insOf c arg1 arg3 arg4 v3 v4 v5 v6 v7 v8 v9 v10 v11 v12 f1 f3 f4) arg13.view f13 arg12.view f12 k.val arg11.view f11 ?_ hC hE rfl (by generalize k = k'; revert k'; decide) (lt_of_lt_of_eq k.isLt trips_eq) (by decide) rfl (fun _ => rfl)
  exact Cov.nil _ _ _ _

/-- After a trip. -/
theorem covHi_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg11.view f11 (fun j y => box k.val j (y 0).val (y 1).val) (hiRows (stepH (insOf c arg1 arg3 arg4 v3 v4 v5 v6 v7 v8 v9 v10 v11 v12 f1 f3 f4) X H C) H0) (trip.sl.H11_20 c arg1 arg3 arg4 arg5 arg11 arg12 arg13 arg14 v3 v4 v5 v6 v7 v8 v9 v10 v11 v12 k f1 f3 f4 f5 f11 f12 f13 f14) 20 := by
  iterate 10
    refine Cov.cellHi (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg11.view f11 ?_ hC hO rfl (by generalize k = k'; revert k'; decide) (lt_of_lt_of_eq k.isLt trips_eq) (by decide) rfl (fun _ => rfl)
  exact covHi_even (H0 := H0) c arg1 arg3 arg4 arg5 arg8 arg11 arg12 arg13 arg14 v3 v4 v5 v6 v7 v8 v9 v10 v11 v12 k f1 f3 f4 f5 f11 f12 f13 f14 hE hC f8

end Cert.Kernel.Hand

end
-- ==== Proof.TripValue.lean ====
module

public import proofs.«01_k».proof.Proof.Acc
public import proofs.«01_k».proof.Proof.CovC
public import proofs.«01_k».proof.Proof.CovH
public import proofs.«01_k».proof.Proof.CovHi

@[expose] public section

set_option maxRecDepth 16384
set_option maxHeartbeats 16000000

noncomputable section

namespace Cert.Kernel.Hand

open Cert.Kernel Cert.Kernel.Gen
open Idealize.ShloMosaic Idealize.ShloMosaic.TcCoe
open Idealize.SL Idealize.SL.Sem

variable {F : FTy → Type} [FloatOps F]

/-- The first columns new, the others old. -/
def mixAt {m : ℕ} {α : Type} (k : ℕ) (N O : (⟨2, ![m, 4096]⟩ : Shape).Idx → α) : (⟨2, ![m, 4096]⟩ : Shape).Idx → α := fun y => if (y 1).val < 512 * k then N y else O y

theorem mixAt_old {m : ℕ} {α : Type} (k : ℕ) (N O : (⟨2, ![m, 4096]⟩ : Shape).Idx → α) (y : (⟨2, ![m, 4096]⟩ : Shape).Idx) (h : 512 * k ≤ (y 1).val) : mixAt k N O y = O y :=
  if_neg (by omega)

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- The buffers that a trip changes. -/
structure Bufs (F : FTy → Type) (c : Dev nD) (arg8 : Memref sig .tc .vmem S1x144x4096 .i8) (arg11 : Memref sig .tc .vmem S160x4096 .bf16) (arg12 : Memref sig .tc .vmem S144x4096 .i32)
    (arg13 : Memref sig .tc .vmem S1152x256 .f32) (arg14 : Memref sig .tc .vmem S1152x256 .f32) where
  /-- the result's hidden state -/
  f8 : Buf (Elt F) (arg8.view.loc (c : Thread nD τ))
  /-- the hidden state -/
  f11 : Buf (Elt F) (arg11.view.loc (c : Thread nD τ))
  /-- the cell state -/
  f12 : Buf (Elt F) (arg12.view.loc (c : Thread nD τ))
  /-- the first accumulators -/
  f13 : Buf (Elt F) (arg13.view.loc (c : Thread nD τ))
  /-- the second accumulators -/
  f14 : Buf (Elt F) (arg14.view.loc (c : Thread nD τ))

/-- The buffers after a trip. -/
def nextB (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (b : Bufs F c arg8 arg11 arg12 arg13 arg14) : Bufs F c arg8 arg11 arg12 arg13 arg14 :=
  ⟨arg8.view.writes (Elt F) b.f8 (trip.sl.H8_20 c arg1 arg3 arg4 arg5 arg11 arg12 arg13 arg14 v3 v4 v5 v6 v7 v8 v9 v10 v11 v12 k f1 f3 f4 f5 b.f11 b.f12 b.f13 b.f14),
   arg11.view.writes (Elt F) b.f11 (trip.sl.H11_20 c arg1 arg3 arg4 arg5 arg11 arg12 arg13 arg14 v3 v4 v5 v6 v7 v8 v9 v10 v11 v12 k f1 f3 f4 f5 b.f11 b.f12 b.f13 b.f14),
   arg12.view.writes (Elt F) b.f12 (trip.sl.H12_20 c arg1 arg3 arg4 arg5 arg11 arg12 arg13 arg14 v3 v4 v5 v7 v8 v9 k f1 f3 f4 f5 b.f11 b.f12 b.f13 b.f14),
   acc13 c arg1 arg3 arg4 arg5 arg11 arg12 arg13 v3 v4 v5 v6 v7 v8 v9 v10 v11 v12 k f1 f3 f4 f5 b.f11 b.f12 b.f13,
   acc14 c arg1 arg3 arg4 arg5 arg11 arg14 k f1 f3 f4 f5 b.f11 b.f14⟩

/-- The buffers after `n` trips. -/
def stB (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) : ℕ → Bufs F c arg8 arg11 arg12 arg13 arg14
  | 0 => b
  | n + 1 => if h : n < k0_t1_loop.trips then nextB c arg1 arg3 arg4 arg5 arg8 arg11 arg12 arg13 arg14 v3 v4 v5 v6 v7 v8 v9 v10 v11 v12 f1 f3 f4 f5 ⟨n, h⟩ (stB f1 f3 f4 f5 b n) else stB f1 f3 f4 f5 b n

/-- What the buffers hold after `n` trips. -/
structure Good (I : Ins F) (X : S1x40x4096.Idx → BitVec 8) (H : S160x4096.Idx → F .bf16) (C : S144x4096.Idx → BitVec 32) (n : ℕ) (b : Bufs F c arg8 arg11 arg12 arg13 arg14) : Prop where
  h8 : ∀ y, (y 2).val < 512 * n → arg8.view.read (Elt F) b.f8 y = lead (stepH I X H C) y
  h11 : arg11.view.read (Elt F) b.f11 = mixAt n (hiRows (stepH I X H C) H) H
  h12 : arg12.view.read (Elt F) b.f12 = mixAt n (stepC I X H C) C
  h13 : arg13.view.read (Elt F) b.f13 = accOf I X H (min (2 * n) 15)

theorem Good.next (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (b : Bufs F c arg8 arg11 arg12 arg13 arg14) {H : S160x4096.Idx → F .bf16} {C : S144x4096.Idx → BitVec 32}
    (g : Good c arg8 arg11 arg12 arg13 arg14 (insOf c arg1 arg3 arg4 v3 v4 v5 v6 v7 v8 v9 v10 v11 v12 f1 f3 f4) (arg5.view.read (Elt F) f5) H C k.val b) :
    Good c arg8 arg11 arg12 arg13 arg14 (insOf c arg1 arg3 arg4 v3 v4 v5 v6 v7 v8 v9 v10 v11 v12 f1 f3 f4) (arg5.view.read (Elt F) f5) H C (k.val + 1) (nextB c arg1 arg3 arg4 arg5 arg8 arg11 arg12 arg13 arg14 v3 v4 v5 v6 v7 v8 v9 v10 v11 v12 f1 f3 f4 f5 k b) := by
  obtain ⟨f8, f11, f12, f13, f14⟩ := b
  obtain ⟨h8, h11, h12, h13⟩ := g
  have hk : k.val < 8 := lt_of_lt_of_eq k.isLt trips_eq
  have hE : arg13.view.read (Elt F) f13 = accOf (insOf c arg1 arg3 arg4 v3 v4 v5 v6 v7 v8 v9 v10 v11 v12 f1 f3 f4) (arg5.view.read (Elt F) f5) H (2 * k.val) := by
    refine Eq.trans h13 ?_
    rw [Nat.min_eq_left (by omega)]
  have hO := acc14_read c arg1 arg3 arg4 arg5 arg11 arg14 v3 v4 v5 v6 v7 v8 v9 v10 v11 v12 k f1 f3 f4 f5 f11 f14 H fun y hy _ => by
    refine (congrFun h11 y).trans (mixAt_old k.val _ _ y (by omega))
  have hC : ∀ j, ∀ y : S144x4096.Idx, box k.val j (y 0).val (y 1).val → arg12.view.read (Elt F) f12 y = C y := fun j y hb => by
    refine (congrFun h12 y).trans (mixAt_old k.val _ _ y ?_)
    have := hb.2.1
    unfold blkOf at this
    omega
  have cC := covC_all (H0 := H) c arg1 arg3 arg4 arg5 arg8 arg11 arg12 arg13 arg14 v3 v4 v5 v6 v7 v8 v9 v10 v11 v12 k f1 f3 f4 f5 f11 f12 f13 f14 hE hO hC f8
  have cH := covH_all (H0 := H) c arg1 arg3 arg4 arg5 arg8 arg11 arg12 arg13 arg14 v3 v4 v5 v6 v7 v8 v9 v10 v11 v12 k f1 f3 f4 f5 f11 f12 f13 f14 hE hO hC f8
  have cHi := covHi_all (H0 := H) c arg1 arg3 arg4 arg5 arg8 arg11 arg12 arg13 arg14 v3 v4 v5 v6 v7 v8 v9 v10 v11 v12 k f1 f3 f4 f5 f11 f12 f13 f14 hE hO hC f8
  have cE := covHi_even (H0 := H) c arg1 arg3 arg4 arg5 arg8 arg11 arg12 arg13 arg14 v3 v4 v5 v6 v7 v8 v9 v10 v11 v12 k f1 f3 f4 f5 f11 f12 f13 f14 hE hC f8
  refine ⟨?_, ?_, ?_, ?_⟩
  · intro y hy
    have hr : (y 1).val < 144 := (y 1).isLt
    by_cases hb : 512 * k.val ≤ (y 2).val
    · exact (cH y).1 ((box_all k.val _ _).mpr ⟨hr, hb, by omega⟩)
    · refine ((cH y).2 fun h => hb ((box_all k.val _ _).mp h).2.1).trans (h8 y (by omega))
  · funext y
    have e11 := congrFun h11 y
    by_cases hb : (y 0).val < 144 ∧ 512 * k.val ≤ (y 1).val ∧ (y 1).val < 512 * k.val + 512
    · refine ((cHi y).1 ((box_all k.val _ _).mpr hb)).trans (if_pos (by omega)).symm
    · refine ((cHi y).2 fun h => hb ((box_all k.val _ _).mp h)).trans (e11.trans ?_)
      unfold mixAt
      by_cases h1 : (y 1).val < 512 * k.val
      · rw [if_pos h1, if_pos (by omega)]
      · rw [if_neg h1]
        by_cases h2 : (y 1).val < 512 * (k.val + 1)
        · rw [if_pos h2]
          unfold hiRows
          rw [dif_neg (by omega)]
        · rw [if_neg h2]
  · funext y
    have hr : (y 0).val < 144 := (y 0).isLt
    have e12 := congrFun h12 y
    by_cases hb : 512 * k.val ≤ (y 1).val ∧ (y 1).val < 512 * k.val + 512
    · refine ((cC y).1 ((box_all k.val _ _).mpr ⟨hr, hb⟩)).trans (if_pos (by omega)).symm
    · refine ((cC y).2 fun h => hb ((box_all k.val _ _).mp h).2).trans (e12.trans ?_)
      unfold mixAt
      by_cases h1 : (y 1).val < 512 * k.val
      · rw [if_pos h1, if_pos (by omega)]
      · rw [if_neg h1, if_neg (by omega)]
  · refine acc13_read c arg1 arg3 arg4 arg5 arg11 arg12 arg13 v3 v4 v5 v6 v7 v8 v9 v10 v11 v12 k f1 f3 f4 f5 f11 f12 f13 H (min (2 * (k.val + 1)) 15) rfl fun y hy _ => ?_
    refine ((cE y).2 fun h => ?_).trans ((congrFun h11 y).trans (mixAt_old k.val _ _ y (by omega)))
    have := (box_even k.val _ _ h).2
    omega

/-- What the buffers hold after the trips. -/
theorem Good.all (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) {H : S160x4096.Idx → F .bf16} {C : S144x4096.Idx → BitVec 32}
    (g : Good c arg8 arg11 arg12 arg13 arg14 (insOf c arg1 arg3 arg4 v3 v4 v5 v6 v7 v8 v9 v10 v11 v12 f1 f3 f4) (arg5.view.read (Elt F) f5) H C 0 b) : ∀ n, n ≤ k0_t1_loop.trips →
    Good c arg8 arg11 arg12 arg13 arg14 (insOf c arg1 arg3 arg4 v3 v4 v5 v6 v7 v8 v9 v10 v11 v12 f1 f3 f4) (arg5.view.read (Elt F) f5) H C n (stB c arg1 arg3 arg4 arg5 arg8 arg11 arg12 arg13 arg14 v3 v4 v5 v6 v7 v8 v9 v10 v11 v12 f1 f3 f4 f5 b n)
  | 0, _ => g
  | n + 1, h => by
    rw [stB, dif_pos (Nat.lt_of_succ_le h)]
    exact Good.next c arg1 arg3 arg4 arg5 arg8 arg11 arg12 arg13 arg14 v3 v4 v5 v6 v7 v8 v9 v10 v11 v12 f1 f3 f4 f5 ⟨n, Nat.lt_of_succ_le h⟩ _ (Good.all f1 f3 f4 f5 b g n (Nat.le_of_succ_le h))

end Cert.Kernel.Hand

end
-- ==== Proof.Loop.lean ====
module

public import proofs.«01_k».proof.Proof.Acc
public import proofs.«01_k».proof.Proof.TripValue

@[expose] public section

set_option maxRecDepth 16384
set_option maxHeartbeats 16000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

theorem stB_succ (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) (k : Fin k0_t1_loop.trips) :
    stB c arg1 arg3 arg4 arg5 arg8 arg11 arg12 arg13 arg14 v3 v4 v5 v6 v7 v8 v9 v10 v11 v12 f1 f3 f4 f5 b (k.val + 1) = nextB c arg1 arg3 arg4 arg5 arg8 arg11 arg12 arg13 arg14 v3 v4 v5 v6 v7 v8 v9 v10 v11 v12 f1 f3 f4 f5 k (stB c arg1 arg3 arg4 arg5 arg8 arg11 arg12 arg13 arg14 v3 v4 v5 v6 v7 v8 v9 v10 v11 v12 f1 f3 f4 f5 b k.val) := by
  rw [stB, dif_pos k.isLt]

/-- Before trip `n` the buffers are those of `n` trips. -/
@[sl_loop] def loopInv_k0_t1 (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 0#32 where
  inv n _ := (Nat.casesOn (motive := fun _ => (sProp 𝕄)) n (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) (fun m => (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (m + 1))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (m + 1))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (m + 1))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (m + 1))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (m + 1))).f14)) : sProp 𝕄)))
  step k acc := by
    have e : ∀ n : ℕ, (Nat.casesOn (motive := fun _ => (sProp 𝕄)) n (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) (fun m => (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (m + 1))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (m + 1))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (m + 1))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (m + 1))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (m + 1))).f14)) : sProp 𝕄))) = (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (n))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (n))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (n))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (n))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (n))).f14)) : sProp 𝕄) := by
      intro n; cases n <;> rfl
    simp only [e, stB_succ]
    exact (trip c i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 k f1 f3 f4 f5 (stB c arg1 arg3 arg4 arg5 arg8 arg11 arg12 arg13 arg14 v3 v4 v5 v6 v7 v8 v9 v10 v11 v12 f1 f3 f4 f5 ⟨f8, f11, f12, f13, f14⟩ k.val).f8 (stB c arg1 arg3 arg4 arg5 arg8 arg11 arg12 arg13 arg14 v3 v4 v5 v6 v7 v8 v9 v10 v11 v12 f1 f3 f4 f5 ⟨f8, f11, f12, f13, f14⟩ k.val).f11 (stB c arg1 arg3 arg4 arg5 arg8 arg11 arg12 arg13 arg14 v3 v4 v5 v6 v7 v8 v9 v10 v11 v12 f1 f3 f4 f5 ⟨f8, f11, f12, f13, f14⟩ k.val).f12 (stB c arg1 arg3 arg4 arg5 arg8 arg11 arg12 arg13 arg14 v3 v4 v5 v6 v7 v8 v9 v10 v11 v12 f1 f3 f4 f5 ⟨f8, f11, f12, f13, f14⟩ k.val).f13 (stB c arg1 arg3 arg4 arg5 arg8 arg11 arg12 arg13 arg14 v3 v4 v5 v6 v7 v8 v9 v10 v11 v12 f1 f3 f4 f5 ⟨f8, f11, f12, f13, f14⟩ k.val).f14).2.2.2.2.2

end Cert.Kernel.Hand

end
-- ==== Proof.Body.lean ====
module

public import proofs.«01_k».proof.Proof.Acc
public import proofs.«01_k».proof.Proof.Loop

@[expose] public section

set_option maxRecDepth 16384
set_option maxHeartbeats 16000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- One grid step: the buffers before it and after it. -/
def bodyRun (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
   Σ' (f8' : Buf (Elt F) (arg8.view.loc (c : Thread nD τ))) (f9' : Buf (Elt F) (arg9.view.loc (c : Thread nD τ))) (f10' : Buf (Elt F) (arg10.view.loc (c : Thread nD τ))) (f11' : Buf (Elt F) (arg11.view.loc (c : Thread nD τ))) (f12' : Buf (Elt F) (arg12.view.loc (c : Thread nD τ))) (f13' : Buf (Elt F) (arg13.view.loc (c : Thread nD τ))), { f14' : Buf (Elt F) (arg14.view.loc (c : Thread nD τ)) //
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_int_lstm (F := F) i arg1 harg1 arg2 harg2 arg3 harg3 arg4 harg4 arg5 harg5 arg6 harg6 arg7 harg7 arg8 harg8 arg9 harg9 arg10 harg10 arg11 harg11 arg12 harg12 arg13 harg13 arg14 harg14)
      (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14'))) } := by
  refine ⟨?_, ?_, ?_, ?_, ?_, ?_, ?_, ?run⟩
  case run =>
    rw [cc0_int_lstm_eq_skeleton]
    unfold cc0_int_lstm_skel
    iintro ⟨H1, H2, H3, H4, H5, H6, H7, H8, H9, H10, H11, H12, H13, H14⟩
    sl_exec_parts
    sl_exec
    sl_step
    sl_close

end Cert.Kernel.Hand

end
-- ==== Proof.BodyValue.lean ====
module

public import proofs.«01_k».proof.Proof.Acc
public import proofs.«01_k».proof.Proof.Body

@[expose] public section

set_option maxRecDepth 16384
set_option maxHeartbeats 16000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The rows that multiply the offsets: ones. -/
def onesH : S160x4096.Idx → F .bf16 := fun _ => Scalar.ofBits .bf16 0x3F80#16

/-- A step's inputs, from the arrays that the step reads. -/
def insR (a : S1.Idx → BitVec 32) (b : S10.Idx → F .f32) (w : S1152x200.Idx → F .bf16) (o : S576x1.Idx → BitVec 32) : Ins F :=
  ⟨a (ix1 0), w, o, scalesOf (b (ix1 0)) (b (ix1 1)) (b (ix1 2)) (b (ix1 3)) (b (ix1 4)) (b (ix1 5)) (b (ix1 6)) (b (ix1 7)) (b (ix1 8)) (b (ix1 9))⟩

/-- The state before a step: at the first step the given one, later the one that is kept. -/
def preH (first : Prop) [Decidable first] (h0 : S144x4096.Idx → BitVec 8) (H : S160x4096.Idx → F .bf16) : S160x4096.Idx → F .bf16 :=
  if first then hiRows h0 onesH else H

def preC (first : Prop) [Decidable first] (c0 : S144x4096.Idx → BitVec 16) (C : S144x4096.Idx → BitVec 32) : S144x4096.Idx → BitVec 32 :=
  if first then (fun y => (c0 y).signExtend 32) else C

/-- One word of a short vector. -/
theorem word_at {sp : Space} {n : ℕ} {e : EltTy} (v : View sig .tc sp ⟨1, ![n]⟩ e) (f : v.ty.Contents (Elt F)) (k : ℕ) (hk : k < n)
    (inb : ∀ a, (![k] : Fin 1 → ℕ) a + S1.size a ≤ (⟨1, ![n]⟩ : Shape).size a) (x : S1.Idx) :
    v.readAt (Elt F) (Rect.unit (s := ⟨1, ![n]⟩) ![k] S1.size inb).toLoadRect f x = v.read (Elt F) f (ix1 ⟨k, hk⟩) := by
  rw [View.readAt_unit v f inb rfl inb]
  refine congrArg (v.read (Elt F) f) (funext fun a => Fin.ext ?_)
  match a with
  | ⟨0, _⟩ =>
    have : (x 0).val < 1 := (x 0).isLt
    show k + 1 * (x 0).val = k
    omega

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- A step's inputs as the kernel reads them. -/
theorem insB_eq (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) :
    insOf c arg1 arg3 arg4 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4 = insR (arg1.view.read (Elt F) f1) (arg2.view.read (Elt F) f2) (arg3.view.read (Elt F) f3) (arg4.view.read (Elt F) f4) := by
  have e1 : trip.sl.r_225 c arg1 f1 = arg1.view.read (Elt F) f1 (ix1 0) := word_at arg1.view f1 0 (by decide) _ _
  have e2 : bodyRun.sl.r c arg2 f2 = arg2.view.read (Elt F) f2 (ix1 0) := word_at arg2.view f2 0 (by decide) _ _
  have g1 : bodyRun.sl.r_1 c arg2 f2 = arg2.view.read (Elt F) f2 (ix1 1) := word_at arg2.view f2 1 (by decide) _ _
  have g2 : bodyRun.sl.r_2 c arg2 f2 = arg2.view.read (Elt F) f2 (ix1 2) := word_at arg2.view f2 2 (by decide) _ _
  have g3 : bodyRun.sl.r_3 c arg2 f2 = arg2.view.read (Elt F) f2 (ix1 3) := word_at arg2.view f2 3 (by decide) _ _
  have g4 : bodyRun.sl.r_4 c arg2 f2 = arg2.view.read (Elt F) f2 (ix1 4) := word_at arg2.view f2 4 (by decide) _ _
  have g5 : bodyRun.sl.r_5 c arg2 f2 = arg2.view.read (Elt F) f2 (ix1 5) := word_at arg2.view f2 5 (by decide) _ _
  have g6 : bodyRun.sl.r_6 c arg2 f2 = arg2.view.read (Elt F) f2 (ix1 6) := word_at arg2.view f2 6 (by decide) _ _
  have g7 : bodyRun.sl.r_7 c arg2 f2 = arg2.view.read (Elt F) f2 (ix1 7) := word_at arg2.view f2 7 (by decide) _ _
  have g8 : bodyRun.sl.r_8 c arg2 f2 = arg2.view.read (Elt F) f2 (ix1 8) := word_at arg2.view f2 8 (by decide) _ _
  have g9 : bodyRun.sl.r_9 c arg2 f2 = arg2.view.read (Elt F) f2 (ix1 9) := word_at arg2.view f2 9 (by decide) _ _
  unfold insOf insR
  rw [e1, e2, g1, g2, g3, g4, g5, g6, g7, g8, g9]

/-- Before the trips. -/
theorem body_good (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    Good c arg8 arg11 arg12 arg13 arg14 (insOf c arg1 arg3 arg4 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4) (arg5.view.read (Elt F) f5)
      (preH (bodyRun.sl.v2 i = 1#1) (arg6.view.read (Elt F) f6) (arg11.view.read (Elt F) f11)) (preC (bodyRun.sl.v2 i = 1#1) (arg7.view.read (Elt F) f7) (arg12.view.read (Elt F) f12)) 0
      ⟨f8,
       if hc : bodyRun.sl.v2 i = 1#1 then
              arg11.view.writes (Elt F) f11
                [⟨Rect.unit ![144, 0] S16x4096.size Gen.inb_S160x4096_S16x4096_144_0, Gen.k0_pay447⟩,
                  ⟨Rect.unit ![0, 0] S144x4096.size Gen.inb_S160x4096_S144x4096_0_0,
                    Gen.k0_pay446 (View.readAt (Elt F) arg6.view (Rect.unit ![0, 0] S144x4096.size Gen.inb_S144x4096_S144x4096_0_0).toLoadRect f6)⟩]
            else f11,
       if hc : bodyRun.sl.v2 i = 1#1 then
              arg12.view.writes (Elt F) f12
                [⟨Rect.unit ![0, 0] S144x4096.size Gen.inb_S144x4096_S144x4096_0_0,
                    Gen.k0_pay448 (View.readAt (Elt F) arg7.view (Rect.unit ![0, 0] S144x4096.size Gen.inb_S144x4096_S144x4096_0_0).toLoadRect f7)⟩]
            else f12,
       if hc : bodyRun.sl.v30 c arg1 f1 = 1#1 then
              arg13.view.writes (Elt F) f13
                (⟨Rect.unit ![0, 0] S576x256.size Gen.inb_S1152x256_S576x256_0_0,
                    Gen.k0_pay450 (bodyRun.sl.v35 c i arg3 arg5 arg6 arg11 arg13 f3 f5 f6 f11)
                      (View.readAt (Elt F) arg4.view (Rect.unit ![0, 0] S576x1.size Gen.inb_S576x1_S576x1_0_0).toLoadRect f4)⟩ ::
                  bodyRun.sl.H13_1 c i arg3 arg5 arg6 arg11 f3 f5 f6 f11)
            else arg13.view.writes (Elt F) f13 (bodyRun.sl.H13_1 c i arg3 arg5 arg6 arg11 f3 f5 f6 f11),
       f14⟩ := by
  have hH : ∀ y : S160x4096.Idx, arg11.view.read (Elt F) (if hc : bodyRun.sl.v2 i = 1#1 then
              arg11.view.writes (Elt F) f11
                [⟨Rect.unit ![144, 0] S16x4096.size Gen.inb_S160x4096_S16x4096_144_0, Gen.k0_pay447⟩,
                  ⟨Rect.unit ![0, 0] S144x4096.size Gen.inb_S160x4096_S144x4096_0_0,
                    Gen.k0_pay446 (View.readAt (Elt F) arg6.view (Rect.unit ![0, 0] S144x4096.size Gen.inb_S144x4096_S144x4096_0_0).toLoadRect f6)⟩]
            else f11) y = preH (bodyRun.sl.v2 i = 1#1) (arg6.view.read (Elt F) f6) (arg11.view.read (Elt F) f11) y := by
    intro y
    by_cases hc : bodyRun.sl.v2 i = 1#1
    · rw [dif_pos hc]
      unfold preH
      rw [if_pos hc]
      have h1 : (y 1).val < 4096 := (y 1).isLt
      have h0 : (y 0).val < 160 := (y 0).isLt
      by_cases hy : (y 0).val < 144
      · refine (View.read_writes_cons_unit_of_not_mem (Val := Elt F) arg11.view f11 _ _ _ y rfl 0 (Or.inl hy)).trans ?_
        refine (View.read_writes_cons_unit_of_mem (Val := Elt F) arg11.view f11 Gen.inb_S160x4096_S144x4096_0_0 _ [] y (ix2 ⟨(y 0).val, hy⟩ (y 1)) rfl ?_).trans ?_
        · intro a
          match a with
          | ⟨0, _⟩ => show (y 0).val = 0 + (y 0).val; omega
          | ⟨1, _⟩ => show (y 1).val = 0 + (y 1).val; omega
        · unfold hiRows
          rw [dif_pos hy]
          have e : Gen.k0_pay446 (F := F) (View.readAt (Elt F) arg6.view (Rect.unit ![0, 0] S144x4096.size Gen.inb_S144x4096_S144x4096_0_0).toLoadRect f6) = fun x => FloatOps.sitofp .bf16 (arg6.view.read (Elt F) f6 x) := by
            rw [View.readAt_full arg6.view f6 _]
            unfold k0_pay446
            simp only [shapeCast_self]
            rfl
          exact congrFun e _
      · refine (View.read_writes_cons_unit_of_mem (Val := Elt F) arg11.view f11 Gen.inb_S160x4096_S16x4096_144_0 _ _ y (ix2 ⟨(y 0).val - 144, by omega⟩ (y 1)) rfl ?_).trans ?_
        · intro a
          match a with
          | ⟨0, _⟩ => show (y 0).val = 144 + ((y 0).val - 144); omega
          | ⟨1, _⟩ => show (y 1).val = 0 + (y 1).val; omega
        · unfold hiRows onesH
          rw [dif_neg hy]
          unfold k0_pay447
          simp only [shapeCast_self]
          rfl
    · rw [dif_neg hc]
      unfold preH
      rw [if_neg hc]
  refine ⟨fun y hy => absurd hy (Nat.not_lt_zero _), ?_, ?_, ?_⟩
  · funext y
    exact (hH y).trans (mixAt_old 0 _ _ y (Nat.zero_le _)).symm
  · funext y
    refine Eq.trans ?_ (mixAt_old 0 _ _ y (Nat.zero_le _)).symm
    show arg12.view.read (Elt F) (dite _ _ _) y = _
    unfold preC
    by_cases hc : bodyRun.sl.v2 i = 1#1
    · rw [dif_pos hc, if_pos hc]
      refine (congrFun (View.read_writes_full (Val := Elt F) arg12.view f12 Gen.inb_S144x4096_S144x4096_0_0 _ []) y).trans ?_
      rw [View.readAt_full arg7.view f7 _]
      unfold k0_pay448
      simp only [shapeCast_self]
      rfl
    · rw [dif_neg hc, if_neg hc]
  · have e1 := raw_eq arg3.view f3 arg5.view f5 arg11.view _ (n := 0) (by decide) (fun y _ _ => hH y) Gen.inb_S1x40x4096_S1x40x256_0_0_0 Gen.inb_S160x4096_S160x256_0_0 inb_S1152x200_S1152x200_0_0 rfl rfl
    have e2 : View.readAt (Elt F) arg4.view (Rect.unit ![0, 0] S576x1.size inb_S576x1_S576x1_0_0).toLoadRect f4 = arg4.view.read (Elt F) f4 := View.readAt_full arg4.view f4 _
    have e3 := fix_read arg13.view f13 (trip.sl.r_225 c arg1 f1) (accRaw (arg5.view.read (Elt F) f5) (arg3.view.read (Elt F) f3) (preH (bodyRun.sl.v2 i = 1#1) (arg6.view.read (Elt F) f6) (arg11.view.read (Elt F) f11)) 0) (arg4.view.read (Elt F) f4) inb_S1152x256_S576x256_0_0 inb_S1152x256_S1152x256_0_0
    rw [← e1, ← e2] at e3
    refine e3.trans ?_
    rw [e1, e2]
    rfl

/-- What a grid step leaves. -/
theorem body_value (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    let I := insR (arg1.view.read (Elt F) f1) (arg2.view.read (Elt F) f2) (arg3.view.read (Elt F) f3) (arg4.view.read (Elt F) f4)
    let X := arg5.view.read (Elt F) f5
    let H := preH (bodyRun.sl.v2 i = 1#1) (arg6.view.read (Elt F) f6) (arg11.view.read (Elt F) f11)
    let C := preC (bodyRun.sl.v2 i = 1#1) (arg7.view.read (Elt F) f7) (arg12.view.read (Elt F) f12)
    let r := bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14
    arg8.view.read (Elt F) r.1 = lead (stepH I X H C)
    ∧ arg9.view.read (Elt F) r.2.1 = (if k0_cond5 i = 1#1 then (fun y => (stepC I X H C y).setWidth 16) else arg9.view.read (Elt F) f9)
    ∧ arg10.view.read (Elt F) r.2.2.1 = (if k0_cond5 i = 1#1 then stepH I X H C else arg10.view.read (Elt F) f10)
    ∧ arg11.view.read (Elt F) r.2.2.2.1 = hiRows (stepH I X H C) H
    ∧ arg12.view.read (Elt F) r.2.2.2.2.1 = stepC I X H C := by
  intro I X H C r
  have g := Good.all c arg1 arg3 arg4 arg5 arg8 arg11 arg12 arg13 arg14 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4 f5 _ (body_good c i arg1 arg2 arg3 arg4 arg5 arg6 arg7 arg8 arg11 arg12 arg13 arg14 f1 f2 f3 f4 f5 f6 f7 f8 f11 f12 f13 f14) 8 (le_of_eq trips_eq.symm)
  rw [insB_eq] at g
  obtain ⟨h8, h11, h12, -⟩ := g
  have k8 := funext fun y => h8 y (show (y 2).val < 4096 from (y 2).isLt)
  have k11 := h11.trans (funext fun y => if_pos (show (y 1).val < 4096 from (y 1).isLt))
  have k12 := h12.trans (funext fun y => if_pos (show (y 1).val < 4096 from (y 1).isLt))
  refine ⟨k8, ?_, ?_, k11, k12⟩
  · show arg9.view.read (Elt F) (dite _ _ _) = _
    by_cases hc : k0_cond5 i = 1#1
    · rw [dif_pos hc, if_pos hc]
      refine (View.read_writes_full (Val := Elt F) arg9.view f9 Gen.inb_S144x4096_S144x4096_0_0 _ []).trans ?_
      have e := (View.readAt_full arg12.view _ Gen.inb_S144x4096_S144x4096_0_0).trans k12
      exact congrArg k0_pay6 e
    · rw [dif_neg hc, if_neg hc]
  · show arg10.view.read (Elt F) (dite _ _ _) = _
    by_cases hc : k0_cond5 i = 1#1
    · rw [dif_pos hc, if_pos hc]
      refine (View.read_writes_full (Val := Elt F) arg10.view f10 Gen.inb_S144x4096_S144x4096_0_0 _ []).trans ?_
      have e := (View.readAt_full arg8.view _ Gen.inb_S1x144x4096_S1x144x4096_0_0_0).trans k8
      refine (congrArg k0_pay7 e).trans ?_
      funext y
      obtain ⟨p, q, rfl⟩ : ∃ p q, y = ix2 p q := ⟨y 0, y 1, (ix2_eta y).symm⟩
      exact (ValueIdx.shapeCast_1ab_ab_apply (lead (stepH I X H C)) shapeCasts_S1x144x4096_S144x4096 p q).trans rfl
    · rw [dif_neg hc, if_neg hc]

end Cert.Kernel.Hand

end
-- ==== Proof.Owns.lean ====
module

public import proofs.«01_k».proof.Proof.Acc
public import proofs.«01_k».proof.Proof.BodyValue

@[expose] public section

set_option maxRecDepth 16384
set_option maxHeartbeats 16000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- A grid step, on what its windows and its scratch hold. -/
theorem body_owns (X1 : S1.Idx → BitVec 32) (X2 : S10.Idx → F .f32) (X3 : S1152x200.Idx → F .bf16) (X4 : S576x1.Idx → BitVec 32) (X5 : S1x40x4096.Idx → BitVec 8) (X6 : S144x4096.Idx → BitVec 8) (X7 : S144x4096.Idx → BitVec 16) (X8 : S1x144x4096.Idx → BitVec 8) (X9 : S144x4096.Idx → BitVec 16) (X10 : S144x4096.Idx → BitVec 8) (X11 : S160x4096.Idx → F .bf16) (X12 : S144x4096.Idx → BitVec 32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ X : S1152x256.Idx → F .f32, owns (c : Thread nD τ) arg13 fullShare X) ∗ (∃ X : S1152x256.Idx → F .f32, owns (c : Thread nD τ) arg14 fullShare X)) : sProp 𝕄)
      ⊢ wp frame (wpE (defs₀ (F := F)) Variants.none (c : Thread nD τ) none) Set.univ (cc0_int_lstm (F := F) i arg1 harg1 arg2 harg2 arg3 harg3 arg4 harg4 arg5 harg5 arg6 harg6 arg7 harg7 arg8 harg8 arg9 harg9 arg10 harg10 arg11 harg11 arg12 harg12 arg13 harg13 arg14 harg14)
      (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (lead (stepH (insR X1 X2 X3 X4) X5 (preH (bodyRun.sl.v2 i = 1#1) X6 X11) (preC (bodyRun.sl.v2 i = 1#1) X7 X12))) ∗ owns (c : Thread nD τ) arg9 fullShare (if k0_cond5 i = 1#1 then (fun y => ((stepC (insR X1 X2 X3 X4) X5 (preH (bodyRun.sl.v2 i = 1#1) X6 X11) (preC (bodyRun.sl.v2 i = 1#1) X7 X12)) y).setWidth 16) else X9) ∗ owns (c : Thread nD τ) arg10 fullShare (if k0_cond5 i = 1#1 then (stepH (insR X1 X2 X3 X4) X5 (preH (bodyRun.sl.v2 i = 1#1) X6 X11) (preC (bodyRun.sl.v2 i = 1#1) X7 X12)) else X10) ∗ owns (c : Thread nD τ) arg11 fullShare (hiRows (stepH (insR X1 X2 X3 X4) X5 (preH (bodyRun.sl.v2 i = 1#1) X6 X11) (preC (bodyRun.sl.v2 i = 1#1) X7 X12)) (preH (bodyRun.sl.v2 i = 1#1) X6 X11)) ∗ owns (c : Thread nD τ) arg12 fullShare (stepC (insR X1 X2 X3 X4) X5 (preH (bodyRun.sl.v2 i = 1#1) X6 X11) (preC (bodyRun.sl.v2 i = 1#1) X7 X12)) ∗ (∃ X : S1152x256.Idx → F .f32, owns (c : Thread nD τ) arg13 fullShare X) ∗ (∃ X : S1152x256.Idx → F .f32, owns (c : Thread nD τ) arg14 fullShare X))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%X13, %f13, %h13, H13⟩, ⟨%X14, %f14, %h14, H14⟩⟩
  subst h1 h2 h3 h4 h5 h6 h7 h8 h9 h10 h11 h12
  have hv := body_value c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14
  have hr := (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).2.2.2.2.2.2.2
  generalize bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 = r at hv hr
  obtain ⟨g8, g9, g10, g11, g12, g13, g14, hg⟩ := r
  obtain ⟨h8, h9, h10, h11, h12⟩ := hv
  iapply (Idealize.SL.Sem.wp_wand_r _ _ _)
  isplitl [H1 H2 H3 H4 H5 H6 H7 H8 H9 H10 H11 H12 H13 H14]
  · iapply hr
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨H1, H2, H3, H4, H5, H6, H7, H8, H9, H10, H11, H12, H13, H14⟩
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _, _; isplitr; swap; · iexact H13
    ipureintro; rfl
  iexists _, _; isplitr; swap; · iexact H14
  ipureintro; rfl

end Cert.Kernel.Hand

end
-- ==== Proof.Run.lean ====
module

public import proofs.«01_k».proof.Proof.Acc
public import proofs.«01_k».proof.Proof.Gen.Kernel.Frame
public import proofs.«01_k».proof.Proof.Owns
public import Idealize.ShloMosaic.Lib.Pipeline.FrameBody
public import Idealize.ShloMosaic.Lib.Pipeline.FrameSuffix
public import Idealize.ShloMosaic.Lib.Pipeline.Quiescent

@[expose] public section

set_option maxRecDepth 100000
set_option maxHeartbeats 16000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat Cfg Window BodyObligation BodyObligationLoose cellOf)

local notation "𝕄" => MT nD τ sig Unit (Elt F) ℕ (UR sig nD τ) ℕ

variable (m : (ℓ : Loc nD τ sig) → Buf (Elt F) ℓ) (ρ : Dev nD → PrngReg)

abbrev scM0 : Memref sig .tc .vmem S160x4096 .bf16 := Memref.whole cc0_scratch0
abbrev scM1 : Memref sig .tc .vmem S144x4096 .i32 := Memref.whole cc0_scratch1
abbrev scM2 : Memref sig .tc .vmem S1152x256 .f32 := Memref.whole cc0_scratch2
abbrev scM3 : Memref sig .tc .vmem S1152x256 .f32 := Memref.whole cc0_scratch3

/-! ## The state from step to step -/

/-- Whether a step is the first one, as the kernel tests it. -/
abbrev firstAt (t : Fin cfg0.N) : Prop := bodyRun.sl.v2 (grid0.coords t) = 1#1

/-- What a step reads apart from its state. -/
def insAt (c : Dev nD) (t : Fin cfg0.N) : Ins F := insR (iblk m c 0 t) (iblk m c 1 t) (iblk m c 2 t) (iblk m c 3 t)

/-- The state before a step, from what the scratch holds. -/
def hIn (c : Dev nD) (t : Fin cfg0.N) (H : S160x4096.Idx → F .bf16) : S160x4096.Idx → F .bf16 := preH (firstAt t) (iblk m c 5 t) H
def cIn (c : Dev nD) (t : Fin cfg0.N) (C : S144x4096.Idx → BitVec 32) : S144x4096.Idx → BitVec 32 := preC (firstAt t) (iblk m c 6 t) C

/-- What the scratch holds before step `n`. -/
def scr (c : Dev nD) : ℕ → (S160x4096.Idx → F .bf16) × (S144x4096.Idx → BitVec 32)
  | 0 => (onesH, fun _ => 0#32)
  | n + 1 => if h : n < cfg0.N then
      (hiRows (stepH (insAt m c ⟨n, h⟩) (iblk m c 4 ⟨n, h⟩) (hIn m c ⟨n, h⟩ (scr c n).1) (cIn m c ⟨n, h⟩ (scr c n).2)) (hIn m c ⟨n, h⟩ (scr c n).1),
       stepC (insAt m c ⟨n, h⟩) (iblk m c 4 ⟨n, h⟩) (hIn m c ⟨n, h⟩ (scr c n).1) (cIn m c ⟨n, h⟩ (scr c n).2))
    else scr c n

/-- The hidden and the cell state that step `t` makes. -/
def outH (c : Dev nD) (t : Fin cfg0.N) : S144x4096.Idx → BitVec 8 :=
  stepH (insAt m c t) (iblk m c 4 t) (hIn m c t (scr m c t.val).1) (cIn m c t (scr m c t.val).2)
def outC (c : Dev nD) (t : Fin cfg0.N) : S144x4096.Idx → BitVec 32 :=
  stepC (insAt m c t) (iblk m c 4 t) (hIn m c t (scr m c t.val).1) (cIn m c t (scr m c t.val).2)

theorem scr_succ (c : Dev nD) (t : Fin cfg0.N) :
    scr m c (t.val + 1) = (hiRows (outH m c t) (hIn m c t (scr m c t.val).1), outC m c t) := by
  rw [scr, dif_pos t.isLt]
  rfl

/-! ## The data of the pipeline -/

/-- What the scratch holds between steps: before the first one anything. -/
def scrΦ (c : Dev nD) (n : ℕ) : sProp 𝕄 :=
  iprop((∃ X : S160x4096.Idx → F .bf16, ⌜n ≠ 0 → X = (scr m c n).1⌝ ∗ owns (c : Thread nD τ) scM0 fullShare X)
    ∗ (∃ X : S144x4096.Idx → BitVec 32, ⌜n ≠ 0 → X = (scr m c n).2⌝ ∗ owns (c : Thread nD τ) scM1 fullShare X)
    ∗ (∃ X : S1152x256.Idx → F .f32, owns (c : Thread nD τ) scM2 fullShare X)
    ∗ (∃ X : S1152x256.Idx → F .f32, owns (c : Thread nD τ) scM3 fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => lead (outH m c t)
    | ⟨8, _⟩ => fun y => (outC m c t y).setWidth 16
    | ⟨9, _⟩ => outH m c t
  Φ t := scrΦ m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = lead (outH m c t) := rfl
theorem after0_8 (c : Dev nD) (t : Fin cfg0.N) : (dats m 0 c).after 8 t = fun y => (outC m c t y).setWidth 16 := rfl
theorem after0_9 (c : Dev nD) (t : Fin cfg0.N) : (dats m 0 c).after 9 t = outH m c t := rfl

/-- The last step is the one at which the kernel writes the final states. -/
theorem cond5_iff : ∀ t : Fin grid0.N, k0_cond5 (grid0.coords t) = 1#1 ↔ t.val = 127 := by decide

/-- The first step is the one at which the kernel takes the given state. -/
theorem first_iff : ∀ t : Fin grid0.N, bodyRun.sl.v2 (grid0.coords t) = 1#1 ↔ t.val = 0 := by decide

/-- What a step is given and what it leaves, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t)
    ∗ (if t.val = 127 then owns (c : Thread nD τ) (st0_8 t) fullShare ((dats m 0 c).after 8 t) else iprop(∃ d, owns (c : Thread nD τ) (st0_8 t) fullShare ((dats m 0 c).before 8 t d))) ∗ (if t.val = 127 then owns (c : Thread nD τ) (st0_9 t) fullShare ((dats m 0 c).after 9 t) else iprop(∃ d, owns (c : Thread nD τ) (st0_9 t) fullShare ((dats m 0 c).before 9 t d))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = scrΦ m c (t.val + 1) from rfl, show (dats m 0 c).Φ t.castSucc = scrΦ m c t.val from rfl]
  unfold Dat.owesAt Pipeline.owesWithin scrΦ
  rw [show (dats m 0 c).owed t.castSucc = 0 from rfl, show (dats m 0 c).owed t.succ = 0 from rfl]
  simp only [before0_0_of m (dats m 0 c) (A_eq m c 0) (after0_0 m c) t]
  simp only [before0_1_of m (dats m 0 c) (A_eq m c 1) (after0_1 m c) t]
  simp only [before0_2_of m (dats m 0 c) (A_eq m c 2) (after0_2 m c) t]
  simp only [before0_3_of m (dats m 0 c) (A_eq m c 3) (after0_3 m c) t]
  simp only [before0_4_of m (dats m 0 c) (A_eq m c 4) (after0_4 m c) t]
  simp only [before0_5_of m (dats m 0 c) (A_eq m c 5) (after0_5 m c) t]
  simp only [before0_6_of m (dats m 0 c) (A_eq m c 6) (after0_6 m c) t]

  rw [after0_0, after0_1, after0_2, after0_3, after0_4, after0_5, after0_6, after0_7, after0_8, after0_9]
  iintro ⟨⟨⟨%X11, %h11, S0⟩, ⟨%X12, %h12, S1⟩, S2, S3, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hv := body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t)
    ((dats m 0 c).before 7 t d7) ((dats m 0 c).before 8 t d8) ((dats m 0 c).before 9 t d9) X11 X12
  have eH : preH (firstAt t) (iblk m c 5 t) X11 = hIn m c t (scr m c t.val).1 := by
    unfold hIn preH
    by_cases hf : firstAt t
    · rw [if_pos hf, if_pos hf]
    · rw [if_neg hf, if_neg hf]
      exact h11 fun h => hf ((first_iff t).mpr h)
  have eC : preC (firstAt t) (iblk m c 6 t) X12 = cIn m c t (scr m c t.val).2 := by
    unfold cIn preC
    by_cases hf : firstAt t
    · rw [if_pos hf, if_pos hf]
    · rw [if_neg hf, if_neg hf]
      exact h12 fun h => hf ((first_iff t).mpr h)
  rw [eH, eC] at hv
  iapply (Idealize.SL.Sem.wp_wand_r _ _ _)
  isplitl [H0 H1 H2 H3 H4 H5 H6 H7 H8 H9 S0 S1 S2 S3]
  · iapply hv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %a ⟨H0, H1, H2, H3, H4, H5, H6, H7, H8, H9, S0, S1, S2, S3⟩
  isplitl [S0 S1 S2 S3 Hg]
  · isplitl [S0]
    · iexists _; isplitr; swap; · iexact S0
      ipureintro; intro _; rw [scr_succ]; rfl
    isplitl [S1]
    · iexists _; isplitr; swap; · iexact S1
      ipureintro; intro _; rw [scr_succ]; rfl
    isplitl [S2]; · iexact S2
    isplitl [S3]; · iexact S3
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : t.val = 127
  · rw [if_pos hl, if_pos hl, if_pos ((cond5_iff t).mpr hl), if_pos ((cond5_iff t).mpr hl)]
    isplitl [H8]; · iexact H8
    iexact H9
  · rw [if_neg hl, if_neg hl, if_neg fun h => hl ((cond5_iff t).mp h), if_neg fun h => hl ((cond5_iff t).mp h)]
    isplitl [H8]; · iexists d8; iexact H8
    iexists d9; iexact H9

theorem defs₀_row (t : Fin cfg0.N) :
    defs₀ (F := F) .tc cfg0.body (cfg0.bodyArgs t (cfg0.slots t)) = bodyAt0 t := by
  unfold defs₀; rw [Defs.onTc_tc]

theorem leaves_8 (c : Dev nD) (t : Fin cfg0.N) :
    (if t.val = 127 then owns (c : Thread nD τ) (st0_8 t) fullShare ((dats m 0 c).after 8 t) else iprop(∃ d, owns (c : Thread nD τ) (st0_8 t) fullShare ((dats m 0 c).before 8 t d))) ⊢ ((dats m 0 c).leaves 8 t : sProp 𝕄) := by
  have hlt : t.val < 128 := lt_of_lt_of_eq t.isLt N_0
  by_cases h : t.val = 127
  · rw [if_pos h]
    have hi : cfg0.idle 8 (cfg0.grid.coords t) = false := by
      show (!(k0_cond5 (grid0.coords t) == 1#1)) = false
      rw [(cond5_iff t).mpr h]; rfl
    unfold Dat.leaves
    rw [hi]
  · rw [if_neg h]
    have hi : cfg0.idle 8 (cfg0.grid.coords t) = true := by
      show (!(k0_cond5 (grid0.coords t) == 1#1)) = true
      have := fun e => h ((cond5_iff t).mp e)
      simpa using this
    have hf : (cfg0.win 8).flush t = false := by
      have := flush0_8 t
      cases hb : (cfg0.win 8).flush t
      · rfl
      · have := this.mp hb; omega
    rw [Dat.leaves_idle _ 8 t hi hf]

theorem leaves_9 (c : Dev nD) (t : Fin cfg0.N) :
    (if t.val = 127 then owns (c : Thread nD τ) (st0_9 t) fullShare ((dats m 0 c).after 9 t) else iprop(∃ d, owns (c : Thread nD τ) (st0_9 t) fullShare ((dats m 0 c).before 9 t d))) ⊢ ((dats m 0 c).leaves 9 t : sProp 𝕄) := by
  have hlt : t.val < 128 := lt_of_lt_of_eq t.isLt N_0
  by_cases h : t.val = 127
  · rw [if_pos h]
    have hi : cfg0.idle 9 (cfg0.grid.coords t) = false := by
      show (!(k0_cond5 (grid0.coords t) == 1#1)) = false
      rw [(cond5_iff t).mpr h]; rfl
    unfold Dat.leaves
    rw [hi]
  · rw [if_neg h]
    have hi : cfg0.idle 9 (cfg0.grid.coords t) = true := by
      show (!(k0_cond5 (grid0.coords t) == 1#1)) = true
      have := fun e => h ((cond5_iff t).mp e)
      simpa using this
    have hf : (cfg0.win 8).flush t = false := by
      have := flush0_9 t
      cases hb : (cfg0.win 8).flush t
      · rfl
      · have := this.mp hb; omega
    rw [Dat.leaves_idle _ 9 t hi hf]

theorem body_obligation (c : Dev nD) : BodyObligationLoose (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, HO, H0, H1, H2, H3, H4, H5, H6, H7, H8, H9⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_8 m c t); iexact H8
  · iapply (leaves_9 m c t); iexact H9

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) sfx_sub sfx_fresh sfx_keeps (hmain := hmain m Variants.none) (hA := A_eq m)
    (hin := fun c => by
      show _ ⊢ scrΦ m c 0
      unfold Pipeline.ΦA scrΦ
      rw [scopedRest0_eq]
      iintro ⟨⟨⟨%g0, S0⟩, ⟨%g1, S1⟩, ⟨%g2, S2⟩, ⟨%g3, S3⟩⟩, Hg⟩
      simp only [scM0, scM1, scM2, scM3, owns_whole]
      isplitl [S0]; · iexists g0; isplitr; swap; · iexact S0
                      ipureintro; exact fun h => absurd rfl h
      isplitl [S1]; · iexists g1; isplitr; swap; · iexact S1
                      ipureintro; exact fun h => absurd rfl h
      isplitl [S2]; · iexists g2; iexact S2
      isplitl [S3]; · iexists g3; iexact S3
      iexact Hg)
    (hout := fun c => by
      show scrΦ m c _ ⊢ _
      unfold Pipeline.ΦA scrΦ
      rw [scopedRest0_eq]
      simp only [scM0, scM1, scM2, scM3, owns_whole]
      iintro ⟨⟨%X0, -, S0⟩, ⟨%X1, -, S1⟩, ⟨%X2, S2⟩, ⟨%X3, S3⟩, Hg⟩
      isplitr [Hg]
      · isplitl [S0]; · iexists X0; iexact S0
        isplitl [S1]; · iexists X1; iexact S1
        isplitl [S2]; · iexists X2; iexact S2
        iexists X3; iexact S3
      iexact Hg)

/-- The frame: the program ends, nothing faults, its arguments end unchanged, every counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_with_sems (frame_of m ρ (dats m) (A_eq m)) (run_main m ρ)

end Cert.Kernel.Hand

end
-- ==== Proof.Ideal.Trip.lean ====
module

public import proofs.«01_k».proof.Proof.Gen.KernelIdeal.Loops

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

def trip (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
   Σ' (L8 : List (View.Piece (Elt F) S1x144x4096 .i8)) (L11 : List (View.Piece (Elt F) S160x4096 .bf16)) (L12 : List (View.Piece (Elt F) S144x4096 .i32))
    (f13' : Buf (Elt F) (arg13.view.loc (c : Thread nD τ))), { f14' : Buf (Elt F) (arg14.view.loc (c : Thread nD τ)) //
    (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 0#32 k ⟨⟩)
      (fun _ => iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} arg8.view.writes (Elt F) f8 L8) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (arg13.view.loc (c : Thread nD τ) ↦[arg13.view.set]{fullShare} f13') ∗ (arg14.view.loc (c : Thread nD τ) ↦[arg14.view.set]{fullShare} f14'))) } := by
  refine ⟨?_, ?_, ?_, ?_, ?_, ?run⟩
  case run =>
    unfold k0_t1_body
    iintro ⟨H1, H3, H4, H5, H8, H11, H12, H13, H14⟩
    sl_exec_parts
    sl_step
    sl_close
-- ==== Proof.Ideal.Cell.lean ====
module

public import proofs.«01_k».proof.Proof.Ideal.Trip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- A float constant from its bits. -/
abbrev kf (b : BitVec 32) : F .f32 := Scalar.ofBits .f32 b

/-- The kernel's clip, which bounds its argument twice. -/
def clampS (lo hi : BitVec 32) (v : F .f32) : F .f32 :=
  FloatOps.minimumf (FloatOps.maximumf (FloatOps.minimumf (FloatOps.maximumf v (kf lo)) (kf hi)) (kf lo)) (kf hi)

/-- A gate before its activation: the two scaled accumulators, clipped, added and clipped again. -/
def gateP (lo hi mg hi2 : BitVec 32) (sx sh a b : F .f32) : F .f32 :=
  clampS lo hi2 (FloatOps.addf (FloatOps.addf (clampS lo hi (FloatOps.mulf a sx)) (kf mg))
    (FloatOps.subf (clampS lo hi (FloatOps.mulf b sh)) (kf mg)))

/-- A gate of the sigmoid kind before its activation. -/
abbrev gateS (sx sh a b : F .f32) : F .f32 := gateP 0xC0800000#32 0x407FFE00#32 0x44C00000#32 0x407FFE00#32 sx sh a b
/-- The gate of the tanh kind before its activation. -/
abbrev gateT (sx sh a b : F .f32) : F .f32 := gateP 0xC1000000#32 0x40FFFE00#32 0x45400000#32 0x40B50400#32 sx sh a b

/-- The sigmoid, still a float. -/
def sigF (p : F .f32) : F .f32 := FloatOps.subf (FloatOps.addf (FloatOps.tanh p) (kf 0x44404000#32)) (kf 0x44400000#32)

/-- The sigmoid as an integer. -/
def sigI (p : F .f32) : BitVec 32 :=
  IntOp.subi (IntOp.addi (FloatOps.fptosi 32 (FloatOps.roundeven (FloatOps.mulf (sigF p) (kf 0x46800000#32)))) 1145044992#32) 1145044992#32

/-- The tanh as an integer. -/
def tanI (p : F .f32) : BitVec 32 :=
  IntOp.subi (IntOp.addi (FloatOps.fptosi 32 (FloatOps.roundeven (FloatOps.mulf
    (FloatOps.subf (FloatOps.addf (FloatOps.tanh p) (kf 0x43C00000#32)) (kf 0x43C00000#32)) (kf 0x47000000#32)))) 1136656384#32) 1136656384#32

/-- A rounding division by a power of two. -/
def rdivI (h e v : BitVec 32) : BitVec 32 :=
  IntOp.shrsi .vector (IntOp.addi (IntOp.addi v (IntOp.shrsi .vector v 31#32)) h) e

/-- The new cell state, still a float. -/
def cellF (i f g c : BitVec 32) : F .f32 :=
  clampS 0xC7000000#32 0x46FFFE00#32 (FloatOps.sitofp .f32 (IntOp.addi (rdivI 16384#32 15#32 (IntOp.muli f c)) (rdivI 262144#32 19#32 (IntOp.muli i g))))

/-- The new hidden state as an integer, from the output gate and the new cell state. -/
def outI (so zp o cf : F .f32) : BitVec 32 :=
  IntOp.addi (FloatOps.fptosi 32 (FloatOps.addf (FloatOps.roundeven (FloatOps.subf (FloatOps.subf
    (clampS 0x4B3FFF80#32 0x4B40007F#32 (FloatOps.addf (FloatOps.addf (FloatOps.mulf (FloatOps.mulf o
      (FloatOps.subf (clampS 0x43BF8000#32 0x43C07FFF#32 (FloatOps.addf (FloatOps.tanh (FloatOps.mulf cf (kf 0x3A000000#32))) (kf 0x43C00000#32))) (kf 0x43C00000#32)))
      so) (kf 0x4B400000#32)) zp)) (kf 0x4B400000#32)) zp)) zp)) 1262485504#32

/-- The scales that the kernel reads: per gate for the two products, then the output's and its zero point. -/
structure Scales (F : FTy → Type) where
  /-- the scales of the input's products -/
  x : Fin 4 → F .f32
  /-- the scales of the hidden state's products -/
  h : Fin 4 → F .f32
  /-- the scale of the output -/
  o : F .f32
  /-- the zero point of the output -/
  z : F .f32

/-- The new cell state of one cell, still a float. -/
def newF (S : Scales F) (a b : Fin 4 → F .f32) (c : BitVec 32) : F .f32 :=
  cellF (sigI (gateS (S.x 0) (S.h 0) (a 0) (b 0))) (sigI (gateS (S.x 1) (S.h 1) (a 1) (b 1))) (tanI (gateT (S.x 2) (S.h 2) (a 2) (b 2))) c

/-- The new cell state of one cell. -/
def newC (S : Scales F) (a b : Fin 4 → F .f32) (c : BitVec 32) : BitVec 32 := FloatOps.fptosi 32 (FloatOps.roundeven (newF S a b c))

/-- The new hidden state of one cell. -/
def newH (S : Scales F) (a b : Fin 4 → F .f32) (c : BitVec 32) : BitVec 8 :=
  (outI S.o S.z (sigF (gateS (S.x 3) (S.h 3) (a 3) (b 3))) (newF S a b c)).setWidth 8

/-- The scales as the ten words that the kernel reads. -/
abbrev scalesOf (v3 v4 v5 v6 v7 v8 v9 v10 v11 v12 : F .f32) : Scales F := ⟨![v3, v4, v5, v6], ![v7, v8, v9, v10], v11, v12⟩

end Cert.KernelIdeal.Hand

end
-- ==== Proof.Ideal.Cover.lean ====
module

public import proofs.«01_k».proof.Proof.Ideal.Cell
public import Idealize.ShloMosaic.Lib.VecWindow
public import Idealize.ShloMosaic.Lib.Pointwise

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.Sem

section Cover

variable {sig : RefSig} {κ : Kind} {sp : Space} {s : Shape} {e : EltTy} {Val : EltTy → Type}

/-- After the stores of a list, the places of the first `n` boxes hold `G`, and the others what they held before. -/
def Cov (v : View sig κ sp s e) (f : v.ty.Contents Val) (box : ℕ → s.Idx → Prop) (G : s.Idx → Val e) (L : List (View.Piece Val s e)) (n : ℕ) : Prop :=
  ∀ y, ((∃ j < n, box j y) → v.read Val (v.writes Val f L) y = G y) ∧ ((¬ ∃ j < n, box j y) → v.read Val (v.writes Val f L) y = v.read Val f y)

/-- No store covers no box. -/
theorem Cov.nil (v : View sig κ sp s e) (f : v.ty.Contents Val) (box : ℕ → s.Idx → Prop) (G : s.Idx → Val e) : Cov v f box G [] 0 :=
  fun y => ⟨fun ⟨j, hj, _⟩ => absurd hj (Nat.not_lt_zero j), fun _ => rfl⟩

/-- One store more, over the next box, whose payload is `G` there. -/
theorem Cov.cons {v : View sig κ sp s e} {f : v.ty.Contents Val} {box : ℕ → s.Idx → Prop} {G : s.Idx → Val e} {L : List (View.Piece Val s e)} {n : ℕ}
    {off off' size : Fin s.rank → ℕ} {inb : ∀ a, off a + size a ≤ s.size a} {w : (Rect.unit off size inb).shape.Idx → Val e} (hoff : off = off')
    (hbox : ∀ y, box n y ↔ ∀ a, off' a ≤ (y a).val ∧ (y a).val < off' a + size a)
    (hw : ∀ (x : (Rect.unit off size inb).shape.Idx) (y : s.Idx), (∀ a, (y a).val = off' a + (x a).val) → w x = G y)
    (h : Cov v f box G L n) : Cov v f box G (⟨Rect.unit off size inb, w⟩ :: L) (n + 1) := by
  intro y
  by_cases hy : ∀ a, off' a ≤ (y a).val ∧ (y a).val < off' a + size a
  · have e : v.read Val (v.writes Val f (⟨Rect.unit off size inb, w⟩ :: L)) y = G y := by
      rw [View.read_writes_cons_unit v f inb w L y hoff, dif_pos hy]
      exact hw _ y fun a => by
        have := hy a
        rw [Rect.unitLocal_val]
        omega
    exact ⟨fun _ => e, fun hn => absurd ⟨n, Nat.lt_succ_self n, (hbox y).mpr hy⟩ hn⟩
  · have e : v.read Val (v.writes Val f (⟨Rect.unit off size inb, w⟩ :: L)) y = v.read Val (v.writes Val f L) y := by
      rw [View.read_writes_cons_unit v f inb w L y hoff, dif_neg hy]
    rw [e]
    refine ⟨fun ⟨j, hj, hb⟩ => (h y).1 ⟨j, ?_, hb⟩, fun hn => (h y).2 fun ⟨j, hj, hb⟩ => hn ⟨j, Nat.lt_succ_of_lt hj, hb⟩⟩
    rcases Nat.lt_succ_iff_lt_or_eq.mp hj with h' | rfl
    · exact h'
    · exact absurd ((hbox y).mp hb) hy

end Cover

/-! ### The cells of a trip -/

/-- The first row of a trip's cell `j`. -/
def rowLo (j : ℕ) : ℕ := 32 * (j % 10 / 2)
/-- Its first column within its block of 256. -/
def colLo (j : ℕ) : ℕ := 128 * (j % 2)
/-- Its number of rows. -/
def nRows (j : ℕ) : ℕ := if j % 10 / 2 = 4 then 16 else 32
/-- The block of 256 columns that it lies in, in trip `k`. -/
def blkOf (k j : ℕ) : ℕ := 2 * k + j / 10
/-- The places of cell `j` of trip `k`. -/
def box (k j row col : ℕ) : Prop := (rowLo j ≤ row ∧ row < rowLo j + nRows j) ∧ (256 * blkOf k j + colLo j ≤ col ∧ col < 256 * blkOf k j + colLo j + 128)

/-- The cells of a trip cover its columns. -/
theorem box_all (k row col : ℕ) : (∃ j < 20, box k j row col) ↔ row < 144 ∧ 512 * k ≤ col ∧ col < 512 * k + 512 := by
  constructor
  · rintro ⟨j, hj, ⟨h1, h2⟩, h3, h4⟩
    unfold rowLo nRows at *
    unfold blkOf colLo at *
    split at h2 <;> omega
  · rintro ⟨h1, h2, h3⟩
    refine ⟨10 * ((col - 512 * k) / 256) + 2 * (row / 32) + (col - 512 * k) % 256 / 128, by omega, ?_⟩
    have e1 : (10 * ((col - 512 * k) / 256) + 2 * (row / 32) + (col - 512 * k) % 256 / 128) % 10 / 2 = row / 32 := by omega
    have e2 : (10 * ((col - 512 * k) / 256) + 2 * (row / 32) + (col - 512 * k) % 256 / 128) % 2 = (col - 512 * k) % 256 / 128 := by omega
    have e3 : (10 * ((col - 512 * k) / 256) + 2 * (row / 32) + (col - 512 * k) % 256 / 128) / 10 = (col - 512 * k) / 256 := by omega
    unfold box rowLo nRows blkOf colLo
    rw [e1, e2, e3]
    refine ⟨⟨by omega, by split <;> omega⟩, by omega, by omega⟩

/-- The first ten lie in the first half of them. -/
theorem box_even (k row col : ℕ) (h : ∃ j < 10, box k j row col) : row < 144 ∧ 512 * k ≤ col ∧ col < 512 * k + 256 := by
  obtain ⟨j, hj, ⟨h1, h2⟩, h3, h4⟩ := h
  unfold rowLo nRows at *
  unfold blkOf colLo at *
  split at h2 <;> omega

end Cert.KernelIdeal.Hand

end
-- ==== Proof.Ideal.Step.lean ====
module

public import proofs.«01_k».proof.Proof.Ideal.Cover

@[expose] public section

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Column `q` of block `n` of 256 columns. -/
def colIx (n : ℕ) (q : Fin 256) : Fin 4096 := ⟨(256 * n + q.val) % 4096, Nat.mod_lt _ (by decide)⟩

/-- The two products of a block of columns, as the matrix unit makes them. -/
def accRaw (X : S1x40x4096.Idx → BitVec 8) (W : S1152x200.Idx → F .bf16) (H : S160x4096.Idx → F .bf16) (n : ℕ) : FVec F S1152x256 .f32 :=
  k0_pay8 (fun y : S1x40x256.Idx => X (ix3 0 (y 1) (colIx n (y 2)))) (fun y : S160x256.Idx => H (ix2 (y 0) (colIx n (y 1)))) W

/-- The input's products with the large offsets added as integers. -/
def fixTop (d : S1152x256.Idx → F .f32) (O : S576x1.Idx → BitVec 32) : S1152x256.Idx → F .f32 :=
  fun j => if h : (j 0).val < 576 then k0_pay5 (F := F) (fun y : S576x256.Idx => d (ix2 ⟨(y 0).val, Nat.lt_trans (y 0).isLt (by decide)⟩ (y 1))) O (ix2 ⟨(j 0).val, h⟩ (j 1)) else d j

/-- Whether the offsets are added as integers. -/
def flagOn (w : BitVec 32) : Prop := Scalar.cmpi .ne (Scalar.extui (Scalar.cmpi .ne w 0#32)) 0#32 = 1#1

instance (w : BitVec 32) : Decidable (flagOn w) := inferInstanceAs (Decidable (_ = _))

/-- What a step reads apart from its state. -/
structure Ins (F : FTy → Type) where
  /-- whether the offsets are added as integers -/
  fl : BitVec 32
  /-- the weights -/
  W : S1152x200.Idx → F .bf16
  /-- the offsets -/
  O : S576x1.Idx → BitVec 32
  /-- the scales -/
  S : Scales F

/-- The accumulators of a block of columns. -/
def accOf (I : Ins F) (X : S1x40x4096.Idx → BitVec 8) (H : S160x4096.Idx → F .bf16) (n : ℕ) : S1152x256.Idx → F .f32 :=
  if flagOn I.fl then fixTop (accRaw X I.W H n) I.O else accRaw X I.W H n

/-- Gate `g` of row `r` and column `q` of the accumulators, at the rows from `b` on. -/
def gateAt (a : S1152x256.Idx → F .f32) (b : ℕ) (hb : b ≤ 576) (r : Fin 144) (q : ℕ) (g : Fin 4) : F .f32 :=
  a (ix2 ⟨b + 144 * g.val + r.val, by omega⟩ ⟨q % 256, Nat.mod_lt _ (by decide)⟩)

/-- The new cell state, at a place. -/
def stepC (I : Ins F) (X : S1x40x4096.Idx → BitVec 8) (H : S160x4096.Idx → F .bf16) (C : S144x4096.Idx → BitVec 32) : S144x4096.Idx → BitVec 32 :=
  fun y => newC I.S (gateAt (accOf I X H ((y 1).val / 256)) 0 (by decide) (y 0) (y 1).val) (gateAt (accOf I X H ((y 1).val / 256)) 576 (by decide) (y 0) (y 1).val) (C y)

/-- The new hidden state, at a place. -/
def stepH (I : Ins F) (X : S1x40x4096.Idx → BitVec 8) (H : S160x4096.Idx → F .bf16) (C : S144x4096.Idx → BitVec 32) : S144x4096.Idx → BitVec 8 :=
  fun y => newH I.S (gateAt (accOf I X H ((y 1).val / 256)) 0 (by decide) (y 0) (y 1).val) (gateAt (accOf I X H ((y 1).val / 256)) 576 (by decide) (y 0) (y 1).val) (C y)

/-- A rectangle's load. -/
abbrev ldAt {sp : Space} {n : ℕ} {sz : Fin n → ℕ} {e : EltTy} (v : View sig .tc sp ⟨n, sz⟩ e) (f : v.ty.Contents (Elt F)) (off size : Fin n → ℕ)
    (inb : ∀ a, off a + size a ≤ sz a) : (⟨n, size⟩ : Shape).Idx → Elt F e :=
  v.readAt (Elt F) (Rect.unit (s := ⟨n, sz⟩) off size inb).toLoadRect f

/-- Row `b + 144 g + r` of the accumulators read through a view. -/
theorem acc_at {sp : Space} (v : View sig .tc sp S1152x256 .f32) (f : v.ty.Contents (Elt F)) {A : S1152x256.Idx → F .f32} (hA : v.read (Elt F) f = A)
    (b : ℕ) (hb : b ≤ 576) (g : Fin 4) {j R k : ℕ} {inb : ∀ a, (![b + 144 * g.val + rowLo j, colLo j] : Fin 2 → ℕ) a + (![R, 128] : Fin 2 → ℕ) a ≤ S1152x256.size a}
    (x : (⟨2, ![R, 128]⟩ : Shape).Idx) (r : Fin 144) (col : ℕ) (hr : r.val = rowLo j + (x 0).val) (hc : col = 256 * blkOf k j + colLo j + (x 1).val) :
    ldAt v f ![b + 144 * g.val + rowLo j, colLo j] ![R, 128] inb x = gateAt A b hb r col g := by
  rw [ldAt, View.readAt_unit v f inb rfl inb, hA]
  unfold gateAt VecWindow.window
  refine congrArg A (funext fun a => Fin.ext ?_)
  have hx1 : (x 1).val < 128 := (x 1).isLt
  have hj : colLo j ≤ 128 := by unfold colLo; omega
  match a with
  | ⟨0, _⟩ =>
    show b + 144 * g.val + rowLo j + 1 * (x 0).val = b + 144 * g.val + r.val
    omega
  | ⟨1, _⟩ =>
    show colLo j + 1 * (x 1).val = col % 256
    omega

/-- A rectangle's load of the cell state, at a place. -/
theorem c_at {sp : Space} (v : View sig .tc sp S144x4096 .i32) (f : v.ty.Contents (Elt F)) {k j R : ℕ} {off : Fin 2 → ℕ} {inb : ∀ a, off a + (![R, 128] : Fin 2 → ℕ) a ≤ S144x4096.size a}
    (hoff : off = ![rowLo j, 256 * blkOf k j + colLo j])
    (x : (⟨2, ![R, 128]⟩ : Shape).Idx) (y : S144x4096.Idx) (hy : ∀ a, (y a).val = (![rowLo j, 256 * blkOf k j + colLo j] : Fin 2 → ℕ) a + (x a).val) :
    ldAt v f off ![R, 128] inb x = v.read (Elt F) f y := by
  subst hoff
  rw [ldAt, View.readAt_unit v f inb rfl inb]
  refine congrArg (v.read (Elt F) f) (funext fun a => Fin.ext ?_)
  rw [hy a]
  show (![rowLo j, 256 * blkOf k j + colLo j] : Fin 2 → ℕ) a + 1 * (x a).val = _
  omega

/-- The eight loads of a cell's accumulators. -/
abbrev ld8 {sp : Space} (v : View sig .tc sp S1152x256 .f32) (f : v.ty.Contents (Elt F)) (b j R : ℕ)
    (inb : ∀ g : Fin 4, ∀ a, (![b + 144 * g.val + rowLo j, colLo j] : Fin 2 → ℕ) a + (![R, 128] : Fin 2 → ℕ) a ≤ S1152x256.size a)
    (x : (⟨2, ![R, 128]⟩ : Shape).Idx) : Fin 4 → F .f32 :=
  ![ldAt v f ![b + 144 * 0 + rowLo j, colLo j] ![R, 128] (inb 0) x,
    ldAt v f ![b + 144 * 1 + rowLo j, colLo j] ![R, 128] (inb 1) x,
    ldAt v f ![b + 144 * 2 + rowLo j, colLo j] ![R, 128] (inb 2) x,
    ldAt v f ![b + 144 * 3 + rowLo j, colLo j] ![R, 128] (inb 3) x]

theorem ld8_eq {sp : Space} (v : View sig .tc sp S1152x256 .f32) (f : v.ty.Contents (Elt F)) {A : S1152x256.Idx → F .f32} (hA : v.read (Elt F) f = A)
    (b : ℕ) (hb : b ≤ 576) {j R k : ℕ} {inb}
    (x : (⟨2, ![R, 128]⟩ : Shape).Idx) (r : Fin 144) (col : ℕ) (hr : r.val = rowLo j + (x 0).val) (hc : col = 256 * blkOf k j + colLo j + (x 1).val) :
    ld8 v f b j R inb x = gateAt A b hb r col := by
  funext g
  match g with
  | ⟨0, _⟩ => exact acc_at v f hA b hb 0 (inb := inb 0) x r col hr hc
  | ⟨1, _⟩ => exact acc_at v f hA b hb 1 (inb := inb 1) x r col hr hc
  | ⟨2, _⟩ => exact acc_at v f hA b hb 2 (inb := inb 2) x r col hr hc
  | ⟨3, _⟩ => exact acc_at v f hA b hb 3 (inb := inb 3) x r col hr hc

/-- A cell's rows stay inside the accumulators. -/
theorem cell_inb (b : ℕ) (hb : b ≤ 576) (j R : ℕ) (hR : R = nRows j) (g : Fin 4) (a : Fin 2) :
    (![b + 144 * g.val + rowLo j, colLo j] : Fin 2 → ℕ) a + (![R, 128] : Fin 2 → ℕ) a ≤ S1152x256.size a := by
  subst hR
  have h1 : rowLo j + nRows j ≤ 144 := by unfold rowLo nRows; split <;> omega
  have h2 : colLo j ≤ 128 := by unfold colLo; omega
  match a with
  | ⟨0, _⟩ => show b + 144 * g.val + rowLo j + nRows j ≤ 1152; omega
  | ⟨1, _⟩ => show colLo j + 128 ≤ 256; omega

/-- The place of a cell's row among the 144 rows. -/
theorem cell_row {k j R : ℕ} {x : (⟨2, ![R, 128]⟩ : Shape).Idx} {y : S144x4096.Idx} (hy : ∀ a, (y a).val = (![rowLo j, 256 * blkOf k j + colLo j] : Fin 2 → ℕ) a + (x a).val) :
    (y 0).val = rowLo j + (x 0).val ∧ (y 1).val = 256 * blkOf k j + colLo j + (x 1).val ∧ (y 1).val / 256 = blkOf k j := by
  have h0 : (y 0).val = rowLo j + (x 0).val := hy 0
  have h1 : (y 1).val = 256 * blkOf k j + colLo j + (x 1).val := hy 1
  have hx1 : (x 1).val < 128 := (x 1).isLt
  have h2 : colLo j ≤ 128 := by unfold colLo; omega
  exact ⟨h0, h1, by omega⟩

section Pay

variable {I : Ins F} {X : S1x40x4096.Idx → BitVec 8} {H : S160x4096.Idx → F .bf16} {sp sp' : Space} (va : View sig .tc sp S1152x256 .f32) (fa : va.ty.Contents (Elt F))
  (vc : View sig .tc sp' S144x4096 .i32) (fc : vc.ty.Contents (Elt F)) {C : S144x4096.Idx → BitVec 32}

/-- The payload of a cell's store of the cell state. -/
theorem payC (k j : ℕ) {R : ℕ} (hR : R = nRows j) (hA : va.read (Elt F) fa = accOf I X H (blkOf k j)) {off : Fin 2 → ℕ}
    (hC : ∀ y : S144x4096.Idx, box k j (y 0).val (y 1).val → vc.read (Elt F) fc y = C y)
    {inb : ∀ a, off a + (![R, 128] : Fin 2 → ℕ) a ≤ S144x4096.size a} (hoff : off = ![rowLo j, 256 * blkOf k j + colLo j])
    {w : (⟨2, ![R, 128]⟩ : Shape).Idx → BitVec 32}
    (hw : ∀ x, w x = newC I.S (ld8 va fa 0 j R (cell_inb 0 (by decide) j R hR) x) (ld8 va fa 576 j R (cell_inb 576 (by decide) j R hR) x)
      (ldAt vc fc off ![R, 128] inb x))
    (x : (⟨2, ![R, 128]⟩ : Shape).Idx) (y : S144x4096.Idx) (hy : ∀ a, (y a).val = (![rowLo j, 256 * blkOf k j + colLo j] : Fin 2 → ℕ) a + (x a).val) :
    w x = stepC I X H C y := by
  obtain ⟨h0, h1, h2⟩ := cell_row hy
  have hx0 : (x 0).val < R := (x 0).isLt
  have hx1 : (x 1).val < 128 := (x 1).isLt
  have e3 := (c_at vc fc (inb := inb) hoff x y hy).trans (hC y ⟨⟨by omega, by omega⟩, by omega, by omega⟩)
  have e1 := ld8_eq va fa hA 0 (by decide) (inb := cell_inb 0 (by decide) j R hR) x (y 0) (y 1).val h0 h1
  have e2 := ld8_eq va fa hA 576 (by decide) (inb := cell_inb 576 (by decide) j R hR) x (y 0) (y 1).val h0 h1
  refine (hw x).trans ((congr (congr (congrArg (newC I.S) e1) e2) e3).trans ?_)
  unfold stepC
  rw [h2]

/-- The payload of a cell's store of the hidden state. -/
theorem payH (k j : ℕ) {R : ℕ} (hR : R = nRows j) (hA : va.read (Elt F) fa = accOf I X H (blkOf k j)) {off : Fin 2 → ℕ}
    (hC : ∀ y : S144x4096.Idx, box k j (y 0).val (y 1).val → vc.read (Elt F) fc y = C y)
    {inb : ∀ a, off a + (![R, 128] : Fin 2 → ℕ) a ≤ S144x4096.size a} (hoff : off = ![rowLo j, 256 * blkOf k j + colLo j])
    {w : (⟨2, ![R, 128]⟩ : Shape).Idx → BitVec 8}
    (hw : ∀ x, w x = newH I.S (ld8 va fa 0 j R (cell_inb 0 (by decide) j R hR) x) (ld8 va fa 576 j R (cell_inb 576 (by decide) j R hR) x)
      (ldAt vc fc off ![R, 128] inb x))
    (x : (⟨2, ![R, 128]⟩ : Shape).Idx) (y : S144x4096.Idx) (hy : ∀ a, (y a).val = (![rowLo j, 256 * blkOf k j + colLo j] : Fin 2 → ℕ) a + (x a).val) :
    w x = stepH I X H C y := by
  obtain ⟨h0, h1, h2⟩ := cell_row hy
  have hx0 : (x 0).val < R := (x 0).isLt
  have hx1 : (x 1).val < 128 := (x 1).isLt
  have e3 := (c_at vc fc (inb := inb) hoff x y hy).trans (hC y ⟨⟨by omega, by omega⟩, by omega, by omega⟩)
  have e1 := ld8_eq va fa hA 0 (by decide) (inb := cell_inb 0 (by decide) j R hR) x (y 0) (y 1).val h0 h1
  have e2 := ld8_eq va fa hA 576 (by decide) (inb := cell_inb 576 (by decide) j R hR) x (y 0) (y 1).val h0 h1
  refine (hw x).trans ((congr (congr (congrArg (newH I.S) e1) e2) e3).trans ?_)
  unfold stepH
  rw [h2]

end Pay

/-- The places of a cell in the cell state are those of a rectangle. -/
theorem box_rect2 {n0 : ℕ} (k j R : ℕ) (hR : R = nRows j) (y : (⟨2, ![n0, 4096]⟩ : Shape).Idx) :
    box k j (y 0).val (y 1).val ↔ ∀ a, (![rowLo j, 256 * blkOf k j + colLo j] : Fin 2 → ℕ) a ≤ (y a).val ∧ (y a).val < (![rowLo j, 256 * blkOf k j + colLo j] : Fin 2 → ℕ) a + (![R, 128] : Fin 2 → ℕ) a := by
  subst hR
  rw [Fin.forall_fin_two]
  rfl

/-- The same under a leading unit axis. -/
theorem box_rect3 (k j R : ℕ) (hR : R = nRows j) (y : S1x144x4096.Idx) :
    box k j (y 1).val (y 2).val ↔ ∀ a, (![0, rowLo j, 256 * blkOf k j + colLo j] : Fin 3 → ℕ) a ≤ (y a).val ∧ (y a).val < (![0, rowLo j, 256 * blkOf k j + colLo j] : Fin 3 → ℕ) a + (![1, R, 128] : Fin 3 → ℕ) a := by
  subst hR
  have h0 : (y 0).val < 1 := (y 0).isLt
  constructor
  · rintro ⟨⟨h1, h2⟩, h3, h4⟩ a
    match a with
    | ⟨0, _⟩ => exact ⟨Nat.zero_le _, h0⟩
    | ⟨1, _⟩ => exact ⟨h1, h2⟩
    | ⟨2, _⟩ => exact ⟨h3, h4⟩
  · intro h
    exact ⟨h 1, h 2⟩

end Cert.KernelIdeal.Hand

end
-- ==== Proof.Ideal.Acc.lean ====
module

public import proofs.«01_k».proof.Proof.Ideal.Step
public import proofs.«01_k».proof.Proof.Ideal.Trip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- A fact of every trip, at one. -/
theorem at_trip {P : Fin k0_t1_loop.trips → Prop} (h : ∀ k, P k) (k : Fin k0_t1_loop.trips) : P k := h k

/-- The offsets' correction, read back. -/
theorem fix_read {sp : Space} (va : View sig .tc sp S1152x256 .f32) (f : va.ty.Contents (Elt F)) (fl : BitVec 32) (w : FVec F S1152x256 .f32) (O : S576x1.Idx → BitVec 32)
    (i1 : ∀ a, (![0, 0] : Fin 2 → ℕ) a + S576x256.size a ≤ S1152x256.size a) (i2 : ∀ a, (![0, 0] : Fin 2 → ℕ) a + S1152x256.size a ≤ S1152x256.size a) :
    va.read (Elt F) (if _hc : flagOn fl then va.writes (Elt F) f (⟨Rect.unit ![0, 0] S576x256.size i1, k0_pay5 (F := F)
        (va.readCov [(⟨Rect.unit ![0, 0] S1152x256.size i2, w⟩ : View.Piece (Elt F) S1152x256 .f32)] (Rect.unit (s := S1152x256) ![0, 0] S576x256.size i1).toLoadRect) O⟩
          :: [⟨Rect.unit ![0, 0] S1152x256.size i2, w⟩]) else va.writes (Elt F) f [⟨Rect.unit ![0, 0] S1152x256.size i2, w⟩])
      = if flagOn fl then fixTop w O else w := by
  by_cases hc : flagOn fl
  · rw [dif_pos hc, if_pos hc]
    funext y
    rw [View.read_writes_cons_unit va f i1 _ _ y rfl]
    have hd : va.readCov [(⟨Rect.unit ![0, 0] S1152x256.size i2, w⟩ : View.Piece (Elt F) S1152x256 .f32)] (Rect.unit (s := S1152x256) ![0, 0] S576x256.size i1).toLoadRect
        = fun y : S576x256.Idx => w (ix2 ⟨(y 0).val, Nat.lt_trans (y 0).isLt (by decide)⟩ (y 1)) := by
      funext x
      show va.read (Elt F) (va.writes (Elt F) va.junk [⟨Rect.unit ![0, 0] S1152x256.size i2, w⟩]) _ = _
      refine (congrFun (View.read_writes_full (Val := Elt F) va va.junk i2 w []) _).trans ?_
      refine congrArg w (funext fun a => Fin.ext ?_)
      match a with
      | ⟨0, _⟩ => show 0 + 1 * (x 0).val = (x 0).val; omega
      | ⟨1, _⟩ => show 0 + 1 * (x 1).val = (x 1).val; omega
    by_cases h : (y 0).val < 576
    · have hy : ∀ a, (![0, 0] : Fin 2 → ℕ) a ≤ (y a).val ∧ (y a).val < (![0, 0] : Fin 2 → ℕ) a + S576x256.size a := by
        intro a
        match a with
        | ⟨0, _⟩ => exact ⟨Nat.zero_le _, by show (y 0).val < 0 + 576; omega⟩
        | ⟨1, _⟩ => exact ⟨Nat.zero_le _, by have := (y 1).isLt; show (y 1).val < 0 + 256; have : (y 1).val < 256 := (y 1).isLt; omega⟩
      rw [dif_pos hy, hd]
      unfold fixTop
      rw [dif_pos h]
      refine congrArg _ (funext fun a => Fin.ext ?_)
      rw [Rect.unitLocal_val]
      match a with
      | ⟨0, _⟩ => rfl
      | ⟨1, _⟩ => rfl
    · have hy : ¬ ∀ a, (![0, 0] : Fin 2 → ℕ) a ≤ (y a).val ∧ (y a).val < (![0, 0] : Fin 2 → ℕ) a + S576x256.size a := by
        intro hy
        have h2 : (y 0).val < 0 + 576 := (hy 0).2
        omega
      rw [dif_neg hy]
      unfold fixTop
      rw [dif_neg h]
      exact congrFun (View.read_writes_full va f i2 w []) y
  · rw [dif_neg hc, if_neg hc]
    exact View.read_writes_full va f i2 w []

/-- The products of a block of columns, from the loads that make them. -/
theorem raw_eq {s3 s5 s11 : Space} (v3 : View sig .tc s3 S1152x200 .bf16) (f3 : v3.ty.Contents (Elt F)) (v5 : View sig .tc s5 S1x40x4096 .i8) (f5 : v5.ty.Contents (Elt F))
    (v11 : View sig .tc s11 S160x4096 .bf16) (f11 : v11.ty.Contents (Elt F)) {H : S160x4096.Idx → F .bf16} {n : ℕ} (hn : n < 16)
    (hH : ∀ y : S160x4096.Idx, 256 * n ≤ (y 1).val → (y 1).val < 256 * n + 256 → v11.read (Elt F) f11 y = H y)
    {o5 : Fin 3 → ℕ} {o11 : Fin 2 → ℕ} (i5 : ∀ a, o5 a + S1x40x256.size a ≤ S1x40x4096.size a) (i11 : ∀ a, o11 a + S160x256.size a ≤ S160x4096.size a)
    (i3 : ∀ a, (![0, 0] : Fin 2 → ℕ) a + S1152x200.size a ≤ S1152x200.size a)
    (e5 : o5 = ![0, 0, 256 * n]) (e11 : o11 = ![0, 256 * n]) :
    k0_pay8 (F := F) (v5.readAt (Elt F) (Rect.unit (s := S1x40x4096) o5 S1x40x256.size i5).toLoadRect f5) (v11.readAt (Elt F) (Rect.unit (s := S160x4096) o11 S160x256.size i11).toLoadRect f11)
      (v3.readAt (Elt F) (Rect.unit (s := S1152x200) ![0, 0] S1152x200.size i3).toLoadRect f3) = accRaw (v5.read (Elt F) f5) (v3.read (Elt F) f3) H n := by
  subst e5 e11
  have a5 : v5.readAt (Elt F) (Rect.unit (s := S1x40x4096) ![0, 0, 256 * n] S1x40x256.size i5).toLoadRect f5 = fun y : S1x40x256.Idx => v5.read (Elt F) f5 (ix3 0 (y 1) (colIx n (y 2))) := by
    rw [View.readAt_unit v5 f5 i5 rfl i5]
    funext y
    refine congrArg (v5.read (Elt F) f5) (funext fun a => Fin.ext ?_)
    have h0 : (y 0).val < 1 := (y 0).isLt
    have h2 : (y 2).val < 256 := (y 2).isLt
    match a with
    | ⟨0, _⟩ => show 0 + 1 * (y 0).val = 0; omega
    | ⟨1, _⟩ => show 0 + 1 * (y 1).val = (y 1).val; omega
    | ⟨2, _⟩ => show 256 * n + 1 * (y 2).val = (256 * n + (y 2).val) % 4096; omega
  have a11 : v11.readAt (Elt F) (Rect.unit (s := S160x4096) ![0, 256 * n] S160x256.size i11).toLoadRect f11 = fun y : S160x256.Idx => H (ix2 (y 0) (colIx n (y 1))) := by
    rw [View.readAt_unit v11 f11 i11 rfl i11]
    funext y
    have h1 : (y 1).val < 256 := (y 1).isLt
    have e : (Rect.unit (s := S160x4096) ![0, 256 * n] S160x256.size i11).emb y = ix2 (y 0) (colIx n (y 1)) := by
      refine funext fun a => Fin.ext ?_
      match a with
      | ⟨0, _⟩ => show 0 + 1 * (y 0).val = (y 0).val; omega
      | ⟨1, _⟩ => show 256 * n + 1 * (y 1).val = (256 * n + (y 1).val) % 4096; omega
    show v11.read (Elt F) f11 ((Rect.unit (s := S160x4096) ![0, 256 * n] S160x256.size i11).emb y) = _
    rw [e]
    refine hH _ ?_ ?_
    · show 256 * n ≤ (256 * n + (y 1).val) % 4096; omega
    · show (256 * n + (y 1).val) % 4096 < 256 * n + 256; omega
  rw [a5, a11, View.readAt_full v3 f3 i3]
  rfl

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- The second accumulators after a trip. -/
def acc14 (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f14 : Buf (Elt F) (arg14.view.loc (c : Thread nD τ))) : Buf (Elt F) (arg14.view.loc (c : Thread nD τ)) :=
  if hc : trip.sl.v2766 c arg1 f1 = 1#1 then
    arg14.view.writes (Elt F) f14
      (⟨Rect.unit ![0, 0] S576x256.size inb_S1152x256_S576x256_0_0,
        k0_pay226 (trip.sl.v5501 c arg3 arg5 arg11 arg14 k f3 f5 f11) (View.readAt (Elt F) arg4.view (Rect.unit ![0, 0] S576x1.size inb_S576x1_S576x1_0_0).toLoadRect f4)⟩ ::
        trip.sl.H14_1 c arg3 arg5 arg11 k f3 f5 f11)
  else arg14.view.writes (Elt F) f14 (trip.sl.H14_1 c arg3 arg5 arg11 k f3 f5 f11)

/-- The first accumulators after a trip. -/
def acc13 (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) : Buf (Elt F) (arg13.view.loc (c : Thread nD τ)) :=
  if hc : trip.sl.v2766 c arg1 f1 = 1#1 then
    arg13.view.writes (Elt F) f13
      (⟨Rect.unit ![0, 0] S576x256.size inb_S1152x256_S576x256_0_0,
        k0_pay5 (trip.sl.v5501_1 c arg3 arg5 arg11 arg12 arg13 v3 v4 v5 v6 v7 v8 v9 v10 v11 v12 k f3 f5 f11 f12 f13) (View.readAt (Elt F) arg4.view (Rect.unit ![0, 0] S576x1.size inb_S576x1_S576x1_0_0).toLoadRect f4)⟩ ::
        trip.sl.H13_1 c arg3 arg5 arg11 arg12 arg13 v3 v4 v5 v6 v7 v8 v9 v10 v11 v12 k f3 f5 f11 f12 f13)
  else arg13.view.writes (Elt F) f13 (trip.sl.H13_1 c arg3 arg5 arg11 arg12 arg13 v3 v4 v5 v6 v7 v8 v9 v10 v11 v12 k f3 f5 f11 f12 f13)

theorem off1_eq : ∀ k : Fin k0_t1_loop.trips, k0_off1 k = ![0, 0, 256 * (2 * k.val + 1)] := by decide
theorem off2_eq : ∀ k : Fin k0_t1_loop.trips, k0_off2 k = ![0, 256 * (2 * k.val + 1)] := by decide
theorem off18_eq : ∀ k : Fin k0_t1_loop.trips, k0_off18 k = ![0, 0, 256 * (min (2 * k.val + 2) 15)] := by decide
theorem off19_eq : ∀ k : Fin k0_t1_loop.trips, k0_off19 k = ![0, 256 * (min (2 * k.val + 2) 15)] := by decide

theorem trips_eq : k0_t1_loop.trips = 8 := by decide

/-- What a step reads, from the buffers that hold it. -/
abbrev insOf (f1 : Buf (Elt F) (arg1.view.loc (c : Thread nD τ))) (f3 : Buf (Elt F) (arg3.view.loc (c : Thread nD τ))) (f4 : Buf (Elt F) (arg4.view.loc (c : Thread nD τ))) : Ins F :=
  ⟨trip.sl.r_225 c arg1 f1, arg3.view.read (Elt F) f3, arg4.view.read (Elt F) f4, scalesOf v3 v4 v5 v6 v7 v8 v9 v10 v11 v12⟩

theorem acc14_read (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f14 : Buf (Elt F) (arg14.view.loc (c : Thread nD τ))) (H : S160x4096.Idx → F .bf16)
    (hH : ∀ y : S160x4096.Idx, 256 * (2 * k.val + 1) ≤ (y 1).val → (y 1).val < 256 * (2 * k.val + 1) + 256 → arg11.view.read (Elt F) f11 y = H y) :
    arg14.view.read (Elt F) (acc14 c arg1 arg3 arg4 arg5 arg11 arg14 k f1 f3 f4 f5 f11 f14)
      = accOf (insOf c arg1 arg3 arg4 v3 v4 v5 v6 v7 v8 v9 v10 v11 v12 f1 f3 f4) (arg5.view.read (Elt F) f5) H (2 * k.val + 1) := by
  have hk : k.val < 8 := lt_of_lt_of_eq k.isLt trips_eq
  have e1 := raw_eq arg3.view f3 arg5.view f5 arg11.view f11 (n := 2 * k.val + 1) (by omega) hH (k0_off1_inb k) (k0_off2_inb k) inb_S1152x200_S1152x200_0_0
    (off1_eq k) (off2_eq k)
  have e2 : View.readAt (Elt F) arg4.view (Rect.unit ![0, 0] S576x1.size inb_S576x1_S576x1_0_0).toLoadRect f4 = arg4.view.read (Elt F) f4 := View.readAt_full arg4.view f4 _
  have e3 := fix_read arg14.view f14 (trip.sl.r_225 c arg1 f1) (accRaw (arg5.view.read (Elt F) f5) (arg3.view.read (Elt F) f3) H (2 * k.val + 1)) (arg4.view.read (Elt F) f4) inb_S1152x256_S576x256_0_0 inb_S1152x256_S1152x256_0_0
  rw [← e1, ← e2] at e3
  refine e3.trans ?_
  rw [e1, e2]
  rfl

theorem acc13_read (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (H : S160x4096.Idx → F .bf16) (n : ℕ) (hn : n = min (2 * k.val + 2) 15)
    (hH : ∀ y : S160x4096.Idx, 256 * n ≤ (y 1).val → (y 1).val < 256 * n + 256 →
      arg11.view.read (Elt F) (arg11.view.writes (Elt F) f11 (trip.sl.H11_10 c arg12 arg13 v3 v4 v5 v6 v7 v8 v9 v10 v11 v12 k f12 f13)) y = H y) :
    arg13.view.read (Elt F) (acc13 c arg1 arg3 arg4 arg5 arg11 arg12 arg13 v3 v4 v5 v6 v7 v8 v9 v10 v11 v12 k f1 f3 f4 f5 f11 f12 f13)
      = accOf (insOf c arg1 arg3 arg4 v3 v4 v5 v6 v7 v8 v9 v10 v11 v12 f1 f3 f4) (arg5.view.read (Elt F) f5) H n := by
  subst hn
  have hk : k.val < 8 := lt_of_lt_of_eq k.isLt trips_eq
  have e1 := raw_eq arg3.view f3 arg5.view f5 arg11.view (arg11.view.writes (Elt F) f11 (trip.sl.H11_10 c arg12 arg13 v3 v4 v5 v6 v7 v8 v9 v10 v11 v12 k f12 f13)) (n := min (2 * k.val + 2) 15) (by omega) hH (k0_off18_inb k) (k0_off19_inb k) inb_S1152x200_S1152x200_0_0
    (off18_eq k) (off19_eq k)
  have e2 : View.readAt (Elt F) arg4.view (Rect.unit ![0, 0] S576x1.size inb_S576x1_S576x1_0_0).toLoadRect f4 = arg4.view.read (Elt F) f4 := View.readAt_full arg4.view f4 _
  have e3 := fix_read arg13.view f13 (trip.sl.r_225 c arg1 f1) (accRaw (arg5.view.read (Elt F) f5) (arg3.view.read (Elt F) f3) H (min (2 * k.val + 2) 15)) (arg4.view.read (Elt F) f4) inb_S1152x256_S576x256_0_0 inb_S1152x256_S1152x256_0_0
  rw [← e1, ← e2] at e3
  refine e3.trans ?_
  rw [e1, e2]
  rfl

end Cert.KernelIdeal.Hand

end
-- ==== Proof.Ideal.Cons.lean ====
module

public import proofs.«01_k».proof.Proof.Ideal.Acc
public import Idealize.ShloMosaic.Lib.ValueLayout

@[expose] public section

set_option maxRecDepth 16384
set_option maxHeartbeats 16000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section Cons

variable {I : Ins F} {X : S1x40x4096.Idx → BitVec 8} {H : S160x4096.Idx → F .bf16} {sp sp' sq : Space} (va : View sig .tc sp S1152x256 .f32) (fa : va.ty.Contents (Elt F))
  (vc : View sig .tc sp' S144x4096 .i32) (fc : vc.ty.Contents (Elt F)) {C : S144x4096.Idx → BitVec 32}

/-- One cell more of the cell state. -/
theorem Cov.cellC (k : ℕ) {j R : ℕ} {off : Fin 2 → ℕ} {inb : ∀ a, off a + (![R, 128] : Fin 2 → ℕ) a ≤ S144x4096.size a} {w : (⟨2, ![R, 128]⟩ : Shape).Idx → BitVec 32}
    {L : List (View.Piece (Elt F) S144x4096 .i32)}
    (h : Cov vc fc (fun j y => box k j (y 0).val (y 1).val) (stepC I X H C) L j)
    (hC : ∀ j, ∀ y : S144x4096.Idx, box k j (y 0).val (y 1).val → vc.read (Elt F) fc y = C y)
    (hA : va.read (Elt F) fa = accOf I X H (blkOf k j)) (hR : R = nRows j)
    (hoff : off = ![rowLo j, 256 * blkOf k j + colLo j])
    (sc : (⟨2, ![R, 128]⟩ : Shape).ShapeCasts ⟨2, ![R, 128]⟩)
    (hw : ∀ x, w x = shapeCast ⟨2, ![R, 128]⟩ (fun x => newC I.S (ld8 va fa 0 j R (cell_inb 0 (by decide) j R hR) x) (ld8 va fa 576 j R (cell_inb 576 (by decide) j R hR) x)
      (vc.readAt (Elt F) (Rect.unit (s := S144x4096) off ![R, 128] inb).toLoadRect fc x)) sc x) :
    Cov vc fc (fun j y => box k j (y 0).val (y 1).val) (stepC I X H C) (⟨Rect.unit (s := S144x4096) off ![R, 128] inb, w⟩ :: L) (j + 1) :=
  Cov.cons hoff (fun y => box_rect2 k j R hR y) (payC va fa vc fc k j hR hA (hC j) (inb := inb) hoff fun x => (hw x).trans (congrFun (shapeCast_self _ _) x)) h

/-- The hidden state as the matrix unit takes it: the new one over the constant rows. -/
def hiRows (N : S144x4096.Idx → BitVec 8) (H0 : S160x4096.Idx → F .bf16) : S160x4096.Idx → F .bf16 :=
  fun y => if h : (y 0).val < 144 then FloatOps.sitofp .bf16 (N (ix2 ⟨(y 0).val, h⟩ (y 1))) else H0 y

/-- A cell's rectangle stays inside the cell state. -/
theorem cell_inbc {k j R : ℕ} {off : Fin 2 → ℕ} (hk : k < 8) (hj : j < 20) (hR : R = nRows j) (hoff : off = ![rowLo j, 256 * blkOf k j + colLo j]) (a : Fin 2) :
    off a + (![R, 128] : Fin 2 → ℕ) a ≤ S144x4096.size a := by
  subst hR hoff
  have h1 : rowLo j + nRows j ≤ 144 := by unfold rowLo nRows; split <;> omega
  have h2 : 256 * blkOf k j + colLo j + 128 ≤ 4096 := by unfold blkOf colLo; omega
  match a with
  | ⟨0, _⟩ => exact h1
  | ⟨1, _⟩ => exact h2

/-- One cell more of the hidden state, as the matrix unit takes it. -/
theorem Cov.cellHi (k : ℕ) (vh : View sig .tc sq S160x4096 .bf16) (fh : vh.ty.Contents (Elt F)) {H0 : S160x4096.Idx → F .bf16} {j R : ℕ} {off : Fin 2 → ℕ}
    {inb : ∀ a, off a + (![R, 128] : Fin 2 → ℕ) a ≤ S160x4096.size a} {w : (⟨2, ![R, 128]⟩ : Shape).Idx → F .bf16}
    {L : List (View.Piece (Elt F) S160x4096 .bf16)}
    (h : Cov vh fh (fun j y => box k j (y 0).val (y 1).val) (hiRows (stepH I X H C) H0) L j)
    (hC : ∀ j, ∀ y : S144x4096.Idx, box k j (y 0).val (y 1).val → vc.read (Elt F) fc y = C y)
    (hA : va.read (Elt F) fa = accOf I X H (blkOf k j)) (hR : R = nRows j)
    (hoff : off = ![rowLo j, 256 * blkOf k j + colLo j]) (hk : k < 8) (hj : j < 20)
    (sc : (⟨2, ![R, 128]⟩ : Shape).ShapeCasts ⟨2, ![R, 128]⟩)
    (hw : ∀ x, w x = shapeCast ⟨2, ![R, 128]⟩ (fun x => FloatOps.sitofp .bf16 (newH I.S (ld8 va fa 0 j R (cell_inb 0 (by decide) j R hR) x) (ld8 va fa 576 j R (cell_inb 576 (by decide) j R hR) x)
      (vc.readAt (Elt F) (Rect.unit (s := S144x4096) off ![R, 128] (cell_inbc hk hj hR hoff)).toLoadRect fc x))) sc x) :
    Cov vh fh (fun j y => box k j (y 0).val (y 1).val) (hiRows (stepH I X H C) H0) (⟨Rect.unit (s := S160x4096) off ![R, 128] inb, w⟩ :: L) (j + 1) := by
  refine Cov.cons hoff (fun y => box_rect2 k j R hR y) ?_ h
  intro x y hy
  have h1 : rowLo j + nRows j ≤ 144 := by unfold rowLo nRows; split <;> omega
  have hx0 : (x 0).val < R := (x 0).isLt
  have hy0 : (y 0).val = rowLo j + (x 0).val := hy 0
  have hlt : (y 0).val < 144 := by omega
  unfold hiRows
  rw [dif_pos hlt]
  refine (hw x).trans ((congrFun (shapeCast_self _ _) x).trans (congrArg (FloatOps.sitofp .bf16) ?_))
  refine payH va fa vc fc k j hR hA (hC j) (inb := cell_inbc hk hj hR hoff) hoff (w := fun x => newH I.S (ld8 va fa 0 j R (cell_inb 0 (by decide) j R hR) x) (ld8 va fa 576 j R (cell_inb 576 (by decide) j R hR) x)
      (vc.readAt (Elt F) (Rect.unit (s := S144x4096) off ![R, 128] (cell_inbc hk hj hR hoff)).toLoadRect fc x)) (fun _ => rfl) x _ ?_
  intro a
  match a with
  | ⟨0, _⟩ => exact hy 0
  | ⟨1, _⟩ => exact hy 1

/-- The new hidden state under its leading unit axis. -/
def lead (N : S144x4096.Idx → BitVec 8) : S1x144x4096.Idx → BitVec 8 := fun y => N (ix2 (y 1) (y 2))

/-- One cell more of the result's hidden state. -/
theorem Cov.cellH (k : ℕ) (vh : View sig .tc sq S1x144x4096 .i8) (fh : vh.ty.Contents (Elt F)) {j R : ℕ} {off : Fin 3 → ℕ} (offc : Fin 2 → ℕ)
    {inb : ∀ a, off a + (![1, R, 128] : Fin 3 → ℕ) a ≤ S1x144x4096.size a} {w : (⟨3, ![1, R, 128]⟩ : Shape).Idx → BitVec 8}
    {L : List (View.Piece (Elt F) S1x144x4096 .i8)}
    (h : Cov vh fh (fun j y => box k j (y 1).val (y 2).val) (lead (stepH I X H C)) L j)
    (hC : ∀ j, ∀ y : S144x4096.Idx, box k j (y 0).val (y 1).val → vc.read (Elt F) fc y = C y)
    (hA : va.read (Elt F) fa = accOf I X H (blkOf k j)) (hR : R = nRows j)
    (hoff : off = ![0, rowLo j, 256 * blkOf k j + colLo j]) (hoffc : offc = ![rowLo j, 256 * blkOf k j + colLo j])
    (hk : k < 8) (hj : j < 20) (sc : (⟨2, ![R, 128]⟩ : Shape).ShapeCasts ⟨3, ![1, R, 128]⟩)
    (hw : ∀ (u : Fin 1) (a : Fin R) (b : Fin 128), w (ix3 u a b) = shapeCast ⟨3, ![1, R, 128]⟩ (fun x => newH I.S (ld8 va fa 0 j R (cell_inb 0 (by decide) j R hR) x) (ld8 va fa 576 j R (cell_inb 576 (by decide) j R hR) x)
      (vc.readAt (Elt F) (Rect.unit (s := S144x4096) offc ![R, 128] (cell_inbc hk hj hR hoffc)).toLoadRect fc x)) sc (ix3 u a b)) :
    Cov vh fh (fun j y => box k j (y 1).val (y 2).val) (lead (stepH I X H C)) (⟨Rect.unit (s := S1x144x4096) off ![1, R, 128] inb, w⟩ :: L) (j + 1) := by
  refine Cov.cons hoff (fun y => box_rect3 k j R hR y) ?_ h
  intro x y hy
  have hx : x = ix3 (x 0) (x 1) (x 2) := (ix3_eta x).symm
  rw [hx]
  refine ((hw (x 0) (x 1) (x 2)).trans (ValueIdx.shapeCast_ab_1ab_apply _ _ _ _ _)).trans ?_
  refine payH va fa vc fc k j hR hA (hC j) (inb := cell_inbc hk hj hR hoffc) hoffc (w := fun x => newH I.S (ld8 va fa 0 j R (cell_inb 0 (by decide) j R hR) x) (ld8 va fa 576 j R (cell_inb 576 (by decide) j R hR) x)
      (vc.readAt (Elt F) (Rect.unit (s := S144x4096) offc ![R, 128] (cell_inbc hk hj hR hoffc)).toLoadRect fc x)) (fun _ => rfl) (ix2 (x 1) (x 2)) (ix2 (y 1) (y 2)) ?_
  intro a
  match a with
  | ⟨0, _⟩ => exact hy 1
  | ⟨1, _⟩ => exact hy 2

end Cons

end Cert.KernelIdeal.Hand

end
-- ==== Proof.Ideal.CovC.lean ====
module

public import proofs.«01_k».proof.Proof.Ideal.Acc
public import proofs.«01_k».proof.Proof.Ideal.Cons

@[expose] public section

set_option maxRecDepth 16384
set_option maxHeartbeats 16000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covC_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg12.view f12 (fun j y => box k.val j (y 0).val (y 1).val) (stepC (insOf c arg1 arg3 arg4 v3 v4 v5 v6 v7 v8 v9 v10 v11 v12 f1 f3 f4) X H C) (trip.sl.H12_10 c arg12 arg13 v3 v4 v5 v7 v8 v9 k f12 f13) 10 := by
  iterate 10
    refine Cov.cellC (I := insOf c arg1 arg3 arg4 v3 v4 v5 v6 v7 v8 v9 v10 v11 v12 f1 f3 f4) arg13.view f13 arg12.view f12 k.val ?_ hC hE rfl (by generalize k = k'; revert k'; decide) rfl (fun _ => rfl)
  exact Cov.nil _ _ _ _

/-- After a trip. -/
theorem covC_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg12.view f12 (fun j y => box k.val j (y 0).val (y 1).val) (stepC (insOf c arg1 arg3 arg4 v3 v4 v5 v6 v7 v8 v9 v10 v11 v12 f1 f3 f4) X H C) (trip.sl.H12_20 c arg1 arg3 arg4 arg5 arg11 arg12 arg13 arg14 v3 v4 v5 v7 v8 v9 k f1 f3 f4 f5 f11 f12 f13 f14) 20 := by
  iterate 10
    refine Cov.cellC (I := insOf c arg1 arg3 arg4 v3 v4 v5 v6 v7 v8 v9 v10 v11 v12 f1 f3 f4) arg14.view (acc14 c arg1 arg3 arg4 arg5 arg11 arg14 k f1 f3 f4 f5 f11 f14) arg12.view f12 k.val ?_ hC hO rfl (by generalize k = k'; revert k'; decide) rfl (fun _ => rfl)
  exact covC_even (H0 := H0) c arg1 arg3 arg4 arg5 arg8 arg11 arg12 arg13 arg14 v3 v4 v5 v6 v7 v8 v9 v10 v11 v12 k f1 f3 f4 f5 f11 f12 f13 f14 hE hC f8

end Cert.KernelIdeal.Hand

end
-- ==== Proof.Ideal.CovH.lean ====
module

public import proofs.«01_k».proof.Proof.Ideal.Acc
public import proofs.«01_k».proof.Proof.Ideal.Cons
public import Idealize.ShloMosaic.Lib.ValueLayout

@[expose] public section

set_option maxRecDepth 16384
set_option maxHeartbeats 16000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covH_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg8.view f8 (fun j y => box k.val j (y 1).val (y 2).val) (lead (stepH (insOf c arg1 arg3 arg4 v3 v4 v5 v6 v7 v8 v9 v10 v11 v12 f1 f3 f4) X H C)) (trip.sl.H8_10 c arg12 arg13 v3 v4 v5 v6 v7 v8 v9 v10 v11 v12 k f12 f13) 10 := by
  refine Cov.cellH (I := insOf c arg1 arg3 arg4 v3 v4 v5 v6 v7 v8 v9 v10 v11 v12 f1 f3 f4) arg13.view f13 arg12.view f12 k.val arg8.view f8 (k0_off15 k 128#32) ?_ hC hE rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg13.view f13 arg12.view f12 k.val arg8.view f8 (k0_off15 k 0#32) ?_ hC hE rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg13.view f13 arg12.view f12 k.val arg8.view f8 (k0_off12 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off12 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off9 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off9 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off6 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off6 k 0#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off3 k 128#32) ?_ hC hE rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg13.view f13 arg12.view f12 k.val arg8.view f8 (k0_off3 k 0#32) ?_ hC hE rfl (by generalize k = k'; revert k'; decide) (by generalize k = k'; revert k'; decide) (lt_of_lt_of_eq k.isLt trips_eq) (by decide) shapeCasts_S32x128_S1x32x128 (fun _ _ _ => rfl)
  exact Cov.nil _ _ _ _

/-- After a trip. -/
theorem covH_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg8.view f8 (fun j y => box k.val j (y 1).val (y 2).val) (lead (stepH (insOf c arg1 arg3 arg4 v3 v4 v5 v6 v7 v8 v9 v10 v11 v12 f1 f3 f4) X H C)) (trip.sl.H8_20 c arg1 arg3 arg4 arg5 arg11 arg12 arg13 arg14 v3 v4 v5 v6 v7 v8 v9 v10 v11 v12 k f1 f3 f4 f5 f11 f12 f13 f14) 20 := by
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off32 k 128#32) ?_ hC hO rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off32 k 0#32) ?_ hC hO rfl (by generalize k = k'; revert k'; decide) (by generalize k = k'; revert k'; decide) (lt_of_lt_of_eq k.isLt trips_eq) (by decide) shapeCasts_S16x128_S1x16x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off29 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off29 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off26 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off26 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off23 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off23 k 0#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off20 k 128#32) ?_ hC hO rfl (by generalize k = k'; revert k'; decide) (by generalize k = k'; revert k'; decide) (lt_of_lt_of_eq k.isLt trips_eq) (by decide) shapeCasts_S32x128_S1x32x128 (fun _ _ _ => rfl)
  refine Cov.cellH (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg8.view f8 (k0_off20 k 0#32) ?_ hC hO rfl (by generalize k = k'; revert k'; decide) (by generalize k = k'; revert k'; decide) (lt_of_lt_of_eq k.isLt trips_eq) (by decide) shapeCasts_S32x128_S1x32x128 (fun _ _ _ => rfl)
  exact covH_even (H0 := H0) c arg1 arg3 arg4 arg5 arg8 arg11 arg12 arg13 arg14 v3 v4 v5 v6 v7 v8 v9 v10 v11 v12 k f1 f3 f4 f5 f11 f12 f13 f14 hE hC f8

end Cert.KernelIdeal.Hand

end
-- ==== Proof.Ideal.CovHi.lean ====
module

public import proofs.«01_k».proof.Proof.Ideal.Acc
public import proofs.«01_k».proof.Proof.Ideal.Cons

@[expose] public section

set_option maxRecDepth 16384
set_option maxHeartbeats 16000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- After the first half of a trip. -/
theorem covHi_even (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg11.view f11 (fun j y => box k.val j (y 0).val (y 1).val) (hiRows (stepH (insOf c arg1 arg3 arg4 v3 v4 v5 v6 v7 v8 v9 v10 v11 v12 f1 f3 f4) X H C) H0) (trip.sl.H11_10 c arg12 arg13 v3 v4 v5 v6 v7 v8 v9 v10 v11 v12 k f12 f13) 10 := by
  iterate 10
    refine Cov.cellHi (I := insOf c arg1 arg3 arg4 v3 v4 v5 v6 v7 v8 v9 v10 v11 v12 f1 f3 f4) arg13.view f13 arg12.view f12 k.val arg11.view f11 ?_ hC hE rfl (by generalize k = k'; revert k'; decide) (lt_of_lt_of_eq k.isLt trips_eq) (by decide) rfl (fun _ => rfl)
  exact Cov.nil _ _ _ _

/-- After a trip. -/
theorem covHi_all (k : Fin k0_t1_loop.trips) (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) {X : S1x40x4096.Idx → BitVec 8} {H : S160x4096.Idx → F .bf16} {C : S144x4096.Idx → BitVec 32}
    (hE : arg13.view.read (Elt F) f13 = accOf (insOf c arg1 arg3 arg4 v3 v4 v5 v6 v7 v8 v9 v10 v11 v12 f1 f3 f4) X H (2 * k.val))
    (hO : arg14.view.read (Elt F) (acc14 c arg1 arg3 arg4 arg5 arg11 arg14 k f1 f3 f4 f5 f11 f14) = accOf (insOf c arg1 arg3 arg4 v3 v4 v5 v6 v7 v8 v9 v10 v11 v12 f1 f3 f4) X H (2 * k.val + 1))
    (hC : ∀ j, ∀ y : S144x4096.Idx, box k.val j (y 0).val (y 1).val → arg12.view.read (Elt F) f12 y = C y) {H0 : S160x4096.Idx → F .bf16} (f8 : Buf (Elt F) (arg8.view.loc (c : Thread nD τ))) :
    Cov arg11.view f11 (fun j y => box k.val j (y 0).val (y 1).val) (hiRows (stepH (insOf c arg1 arg3 arg4 v3 v4 v5 v6 v7 v8 v9 v10 v11 v12 f1 f3 f4) X H C) H0) (trip.sl.H11_20 c arg1 arg3 arg4 arg5 arg11 arg12 arg13 arg14 v3 v4 v5 v6 v7 v8 v9 v10 v11 v12 k f1 f3 f4 f5 f11 f12 f13 f14) 20 := by
  iterate 10
    refine Cov.cellHi (I := insOf c arg1 arg3 arg4 v3 v4 v5 v6 v7 v8 v9 v10 v11 v12 f1 f3 f4) arg14.view (acc14 c arg1 arg3 arg4 arg5 arg11 arg14 k f1 f3 f4 f5 f11 f14) arg12.view f12 k.val arg11.view f11 ?_ hC hO rfl (by generalize k = k'; revert k'; decide) (lt_of_lt_of_eq k.isLt trips_eq) (by decide) rfl (fun _ => rfl)
  exact covHi_even (H0 := H0) c arg1 arg3 arg4 arg5 arg8 arg11 arg12 arg13 arg14 v3 v4 v5 v6 v7 v8 v9 v10 v11 v12 k f1 f3 f4 f5 f11 f12 f13 f14 hE hC f8

end Cert.KernelIdeal.Hand

end
-- ==== Proof.Ideal.TripValue.lean ====
module

public import proofs.«01_k».proof.Proof.Ideal.Acc
public import proofs.«01_k».proof.Proof.Ideal.CovC
public import proofs.«01_k».proof.Proof.Ideal.CovH
public import proofs.«01_k».proof.Proof.Ideal.CovHi

@[expose] public section

set_option maxRecDepth 16384
set_option maxHeartbeats 16000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first columns new, the others old. -/
def mixAt {m : ℕ} {α : Type} (k : ℕ) (N O : (⟨2, ![m, 4096]⟩ : Shape).Idx → α) : (⟨2, ![m, 4096]⟩ : Shape).Idx → α := fun y => if (y 1).val < 512 * k then N y else O y

theorem mixAt_old {m : ℕ} {α : Type} (k : ℕ) (N O : (⟨2, ![m, 4096]⟩ : Shape).Idx → α) (y : (⟨2, ![m, 4096]⟩ : Shape).Idx) (h : 512 * k ≤ (y 1).val) : mixAt k N O y = O y :=
  if_neg (by omega)

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

/-- The buffers that a trip changes. -/
structure Bufs (F : FTy → Type) (c : Dev nD) (arg8 : Memref sig .tc .vmem S1x144x4096 .i8) (arg11 : Memref sig .tc .vmem S160x4096 .bf16) (arg12 : Memref sig .tc .vmem S144x4096 .i32)
    (arg13 : Memref sig .tc .vmem S1152x256 .f32) (arg14 : Memref sig .tc .vmem S1152x256 .f32) where
  /-- the result's hidden state -/
  f8 : Buf (Elt F) (arg8.view.loc (c : Thread nD τ))
  /-- the hidden state -/
  f11 : Buf (Elt F) (arg11.view.loc (c : Thread nD τ))
  /-- the cell state -/
  f12 : Buf (Elt F) (arg12.view.loc (c : Thread nD τ))
  /-- the first accumulators -/
  f13 : Buf (Elt F) (arg13.view.loc (c : Thread nD τ))
  /-- the second accumulators -/
  f14 : Buf (Elt F) (arg14.view.loc (c : Thread nD τ))

/-- The buffers after a trip. -/
def nextB (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (b : Bufs F c arg8 arg11 arg12 arg13 arg14) : Bufs F c arg8 arg11 arg12 arg13 arg14 :=
  ⟨arg8.view.writes (Elt F) b.f8 (trip.sl.H8_20 c arg1 arg3 arg4 arg5 arg11 arg12 arg13 arg14 v3 v4 v5 v6 v7 v8 v9 v10 v11 v12 k f1 f3 f4 f5 b.f11 b.f12 b.f13 b.f14),
   arg11.view.writes (Elt F) b.f11 (trip.sl.H11_20 c arg1 arg3 arg4 arg5 arg11 arg12 arg13 arg14 v3 v4 v5 v6 v7 v8 v9 v10 v11 v12 k f1 f3 f4 f5 b.f11 b.f12 b.f13 b.f14),
   arg12.view.writes (Elt F) b.f12 (trip.sl.H12_20 c arg1 arg3 arg4 arg5 arg11 arg12 arg13 arg14 v3 v4 v5 v7 v8 v9 k f1 f3 f4 f5 b.f11 b.f12 b.f13 b.f14),
   acc13 c arg1 arg3 arg4 arg5 arg11 arg12 arg13 v3 v4 v5 v6 v7 v8 v9 v10 v11 v12 k f1 f3 f4 f5 b.f11 b.f12 b.f13,
   acc14 c arg1 arg3 arg4 arg5 arg11 arg14 k f1 f3 f4 f5 b.f11 b.f14⟩

/-- The buffers after `n` trips. -/
def stB (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) : ℕ → Bufs F c arg8 arg11 arg12 arg13 arg14
  | 0 => b
  | n + 1 => if h : n < k0_t1_loop.trips then nextB c arg1 arg3 arg4 arg5 arg8 arg11 arg12 arg13 arg14 v3 v4 v5 v6 v7 v8 v9 v10 v11 v12 f1 f3 f4 f5 ⟨n, h⟩ (stB f1 f3 f4 f5 b n) else stB f1 f3 f4 f5 b n

/-- What the buffers hold after `n` trips. -/
structure Good (I : Ins F) (X : S1x40x4096.Idx → BitVec 8) (H : S160x4096.Idx → F .bf16) (C : S144x4096.Idx → BitVec 32) (n : ℕ) (b : Bufs F c arg8 arg11 arg12 arg13 arg14) : Prop where
  h8 : ∀ y, (y 2).val < 512 * n → arg8.view.read (Elt F) b.f8 y = lead (stepH I X H C) y
  h11 : arg11.view.read (Elt F) b.f11 = mixAt n (hiRows (stepH I X H C) H) H
  h12 : arg12.view.read (Elt F) b.f12 = mixAt n (stepC I X H C) C
  h13 : arg13.view.read (Elt F) b.f13 = accOf I X H (min (2 * n) 15)

theorem Good.next (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (b : Bufs F c arg8 arg11 arg12 arg13 arg14) {H : S160x4096.Idx → F .bf16} {C : S144x4096.Idx → BitVec 32}
    (g : Good c arg8 arg11 arg12 arg13 arg14 (insOf c arg1 arg3 arg4 v3 v4 v5 v6 v7 v8 v9 v10 v11 v12 f1 f3 f4) (arg5.view.read (Elt F) f5) H C k.val b) :
    Good c arg8 arg11 arg12 arg13 arg14 (insOf c arg1 arg3 arg4 v3 v4 v5 v6 v7 v8 v9 v10 v11 v12 f1 f3 f4) (arg5.view.read (Elt F) f5) H C (k.val + 1) (nextB c arg1 arg3 arg4 arg5 arg8 arg11 arg12 arg13 arg14 v3 v4 v5 v6 v7 v8 v9 v10 v11 v12 f1 f3 f4 f5 k b) := by
  obtain ⟨f8, f11, f12, f13, f14⟩ := b
  obtain ⟨h8, h11, h12, h13⟩ := g
  have hk : k.val < 8 := lt_of_lt_of_eq k.isLt trips_eq
  have hE : arg13.view.read (Elt F) f13 = accOf (insOf c arg1 arg3 arg4 v3 v4 v5 v6 v7 v8 v9 v10 v11 v12 f1 f3 f4) (arg5.view.read (Elt F) f5) H (2 * k.val) := by
    refine Eq.trans h13 ?_
    rw [Nat.min_eq_left (by omega)]
  have hO := acc14_read c arg1 arg3 arg4 arg5 arg11 arg14 v3 v4 v5 v6 v7 v8 v9 v10 v11 v12 k f1 f3 f4 f5 f11 f14 H fun y hy _ => by
    refine (congrFun h11 y).trans (mixAt_old k.val _ _ y (by omega))
  have hC : ∀ j, ∀ y : S144x4096.Idx, box k.val j (y 0).val (y 1).val → arg12.view.read (Elt F) f12 y = C y := fun j y hb => by
    refine (congrFun h12 y).trans (mixAt_old k.val _ _ y ?_)
    have := hb.2.1
    unfold blkOf at this
    omega
  have cC := covC_all (H0 := H) c arg1 arg3 arg4 arg5 arg8 arg11 arg12 arg13 arg14 v3 v4 v5 v6 v7 v8 v9 v10 v11 v12 k f1 f3 f4 f5 f11 f12 f13 f14 hE hO hC f8
  have cH := covH_all (H0 := H) c arg1 arg3 arg4 arg5 arg8 arg11 arg12 arg13 arg14 v3 v4 v5 v6 v7 v8 v9 v10 v11 v12 k f1 f3 f4 f5 f11 f12 f13 f14 hE hO hC f8
  have cHi := covHi_all (H0 := H) c arg1 arg3 arg4 arg5 arg8 arg11 arg12 arg13 arg14 v3 v4 v5 v6 v7 v8 v9 v10 v11 v12 k f1 f3 f4 f5 f11 f12 f13 f14 hE hO hC f8
  have cE := covHi_even (H0 := H) c arg1 arg3 arg4 arg5 arg8 arg11 arg12 arg13 arg14 v3 v4 v5 v6 v7 v8 v9 v10 v11 v12 k f1 f3 f4 f5 f11 f12 f13 f14 hE hC f8
  refine ⟨?_, ?_, ?_, ?_⟩
  · intro y hy
    have hr : (y 1).val < 144 := (y 1).isLt
    by_cases hb : 512 * k.val ≤ (y 2).val
    · exact (cH y).1 ((box_all k.val _ _).mpr ⟨hr, hb, by omega⟩)
    · refine ((cH y).2 fun h => hb ((box_all k.val _ _).mp h).2.1).trans (h8 y (by omega))
  · funext y
    have e11 := congrFun h11 y
    by_cases hb : (y 0).val < 144 ∧ 512 * k.val ≤ (y 1).val ∧ (y 1).val < 512 * k.val + 512
    · refine ((cHi y).1 ((box_all k.val _ _).mpr hb)).trans (if_pos (by omega)).symm
    · refine ((cHi y).2 fun h => hb ((box_all k.val _ _).mp h)).trans (e11.trans ?_)
      unfold mixAt
      by_cases h1 : (y 1).val < 512 * k.val
      · rw [if_pos h1, if_pos (by omega)]
      · rw [if_neg h1]
        by_cases h2 : (y 1).val < 512 * (k.val + 1)
        · rw [if_pos h2]
          unfold hiRows
          rw [dif_neg (by omega)]
        · rw [if_neg h2]
  · funext y
    have hr : (y 0).val < 144 := (y 0).isLt
    have e12 := congrFun h12 y
    by_cases hb : 512 * k.val ≤ (y 1).val ∧ (y 1).val < 512 * k.val + 512
    · refine ((cC y).1 ((box_all k.val _ _).mpr ⟨hr, hb⟩)).trans (if_pos (by omega)).symm
    · refine ((cC y).2 fun h => hb ((box_all k.val _ _).mp h).2).trans (e12.trans ?_)
      unfold mixAt
      by_cases h1 : (y 1).val < 512 * k.val
      · rw [if_pos h1, if_pos (by omega)]
      · rw [if_neg h1, if_neg (by omega)]
  · refine acc13_read c arg1 arg3 arg4 arg5 arg11 arg12 arg13 v3 v4 v5 v6 v7 v8 v9 v10 v11 v12 k f1 f3 f4 f5 f11 f12 f13 H (min (2 * (k.val + 1)) 15) rfl fun y hy _ => ?_
    refine ((cE y).2 fun h => ?_).trans ((congrFun h11 y).trans (mixAt_old k.val _ _ y (by omega)))
    have := (box_even k.val _ _ h).2
    omega

/-- What the buffers hold after the trips. -/
theorem Good.all (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) {H : S160x4096.Idx → F .bf16} {C : S144x4096.Idx → BitVec 32}
    (g : Good c arg8 arg11 arg12 arg13 arg14 (insOf c arg1 arg3 arg4 v3 v4 v5 v6 v7 v8 v9 v10 v11 v12 f1 f3 f4) (arg5.view.read (Elt F) f5) H C 0 b) : ∀ n, n ≤ k0_t1_loop.trips →
    Good c arg8 arg11 arg12 arg13 arg14 (insOf c arg1 arg3 arg4 v3 v4 v5 v6 v7 v8 v9 v10 v11 v12 f1 f3 f4) (arg5.view.read (Elt F) f5) H C n (stB c arg1 arg3 arg4 arg5 arg8 arg11 arg12 arg13 arg14 v3 v4 v5 v6 v7 v8 v9 v10 v11 v12 f1 f3 f4 f5 b n)
  | 0, _ => g
  | n + 1, h => by
    rw [stB, dif_pos (Nat.lt_of_succ_le h)]
    exact Good.next c arg1 arg3 arg4 arg5 arg8 arg11 arg12 arg13 arg14 v3 v4 v5 v6 v7 v8 v9 v10 v11 v12 f1 f3 f4 f5 ⟨n, Nat.lt_of_succ_le h⟩ _ (Good.all f1 f3 f4 f5 b g n (Nat.le_of_succ_le h))

end Cert.KernelIdeal.Hand

end
-- ==== Proof.Ideal.Loop.lean ====
module

public import proofs.«01_k».proof.Proof.Ideal.Acc
public import proofs.«01_k».proof.Proof.Ideal.TripValue

@[expose] public section

set_option maxRecDepth 16384
set_option maxHeartbeats 16000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)
  (v3 v4 v5 v6 v7 v8 v9 v10 v11 v12 : Elt F .f32)

theorem stB_succ (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (b : Bufs F c arg8 arg11 arg12 arg13 arg14) (k : Fin k0_t1_loop.trips) :
    stB c arg1 arg3 arg4 arg5 arg8 arg11 arg12 arg13 arg14 v3 v4 v5 v6 v7 v8 v9 v10 v11 v12 f1 f3 f4 f5 b (k.val + 1) = nextB c arg1 arg3 arg4 arg5 arg8 arg11 arg12 arg13 arg14 v3 v4 v5 v6 v7 v8 v9 v10 v11 v12 f1 f3 f4 f5 k (stB c arg1 arg3 arg4 arg5 arg8 arg11 arg12 arg13 arg14 v3 v4 v5 v6 v7 v8 v9 v10 v11 v12 f1 f3 f4 f5 b k.val) := by
  rw [stB, dif_pos k.isLt]

/-- Before trip `n` the buffers are those of `n` trips. -/
@[sl_loop] def loopInv_k0_t1 (f1 : Buf (Elt F) (arg1.view.loc (c : Thread nD τ))) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 0#32 where
  inv n _ := (Nat.casesOn (motive := fun _ => (sProp 𝕄)) n (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) (fun m => (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (m + 1))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (m + 1))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (m + 1))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (m + 1))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (m + 1))).f14)) : sProp 𝕄)))
  step k acc := by
    have e : ∀ n : ℕ, (Nat.casesOn (motive := fun _ => (sProp 𝕄)) n (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) (fun m => (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (m + 1))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (m + 1))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (m + 1))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (m + 1))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (m + 1))).f14)) : sProp 𝕄))) = (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} ((stB c arg1 arg3 arg4 arg5 arg8 arg11 arg12 arg13 arg14 v3 v4 v5 v6 v7 v8 v9 v10 v11 v12 f1 f3 f4 f5 ⟨f8, f11, f12, f13, f14⟩ (n))).f8) ∗ (arg11.view.loc (c : Thread nD τ) ↦[arg11.view.set]{fullShare} ((stB c arg1 arg3 arg4 arg5 arg8 arg11 arg12 arg13 arg14 v3 v4 v5 v6 v7 v8 v9 v10 v11 v12 f1 f3 f4 f5 ⟨f8, f11, f12, f13, f14⟩ (n))).f11) ∗ (arg12.view.loc (c : Thread nD τ) ↦[arg12.view.set]{fullShare} ((stB c arg1 arg3 arg4 arg5 arg8 arg11 arg12 arg13 arg14 v3 v4 v5 v6 v7 v8 v9 v10 v11 v12 f1 f3 f4 f5 ⟨f8, f11, f12, f13, f14⟩ (n))).f12) ∗ (arg13.view.loc (c : Thread nD τ) ↦[arg13.view.set]{fullShare} ((stB c arg1 arg3 arg4 arg5 arg8 arg11 arg12 arg13 arg14 v3 v4 v5 v6 v7 v8 v9 v10 v11 v12 f1 f3 f4 f5 ⟨f8, f11, f12, f13, f14⟩ (n))).f13) ∗ (arg14.view.loc (c : Thread nD τ) ↦[arg14.view.set]{fullShare} ((stB c arg1 arg3 arg4 arg5 arg8 arg11 arg12 arg13 arg14 v3 v4 v5 v6 v7 v8 v9 v10 v11 v12 f1 f3 f4 f5 ⟨f8, f11, f12, f13, f14⟩ (n))).f14)) : sProp 𝕄) := by
      intro n; cases n <;> rfl
    simp only [e, stB_succ]
    exact (trip c i arg1 harg1 arg2 harg2 arg3 harg3 arg4 harg4 arg5 harg5 arg6 harg6 arg7 harg7 arg8 harg8 arg9 harg9 arg10 harg10 arg11 harg11 arg12 harg12 arg13 harg13 arg14 harg14 v3 v4 v5 v6 v7 v8 v9 v10 v11 v12 k f1 f3 f4 f5 (stB c arg1 arg3 arg4 arg5 arg8 arg11 arg12 arg13 arg14 v3 v4 v5 v6 v7 v8 v9 v10 v11 v12 f1 f3 f4 f5 ⟨f8, f11, f12, f13, f14⟩ k.val).f8 (stB c arg1 arg3 arg4 arg5 arg8 arg11 arg12 arg13 arg14 v3 v4 v5 v6 v7 v8 v9 v10 v11 v12 f1 f3 f4 f5 ⟨f8, f11, f12, f13, f14⟩ k.val).f11 (stB c arg1 arg3 arg4 arg5 arg8 arg11 arg12 arg13 arg14 v3 v4 v5 v6 v7 v8 v9 v10 v11 v12 f1 f3 f4 f5 ⟨f8, f11, f12, f13, f14⟩ k.val).f12 (stB c arg1 arg3 arg4 arg5 arg8 arg11 arg12 arg13 arg14 v3 v4 v5 v6 v7 v8 v9 v10 v11 v12 f1 f3 f4 f5 ⟨f8, f11, f12, f13, f14⟩ k.val).f13 (stB c arg1 arg3 arg4 arg5 arg8 arg11 arg12 arg13 arg14 v3 v4 v5 v6 v7 v8 v9 v10 v11 v12 f1 f3 f4 f5 ⟨f8, f11, f12, f13, f14⟩ k.val).f14).2.2.2.2.2

end Cert.KernelIdeal.Hand

end
-- ==== Proof.Ideal.Body.lean ====
module

public import proofs.«01_k».proof.Proof.Ideal.Acc
public import proofs.«01_k».proof.Proof.Ideal.Loop

@[expose] public section

set_option maxRecDepth 16384
set_option maxHeartbeats 16000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- One grid step: the buffers before it and after it. -/
def bodyRun (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
   Σ' (f8' : Buf (Elt F) (arg8.view.loc (c : Thread nD τ))) (f9' : Buf (Elt F) (arg9.view.loc (c : Thread nD τ))) (f10' : Buf (Elt F) (arg10.view.loc (c : Thread nD τ))) (f11' : Buf (Elt F) (arg11.view.loc (c : Thread nD τ))) (f12' : Buf (Elt F) (arg12.view.loc (c : Thread nD τ))) (f13' : Buf (Elt F) (arg13.view.loc (c : Thread nD τ))), { f14' : Buf (Elt F) (arg14.view.loc (c : Thread nD τ)) //
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_int_lstm (F := F) i arg1 harg1 arg2 harg2 arg3 harg3 arg4 harg4 arg5 harg5 arg6 harg6 arg7 harg7 arg8 harg8 arg9 harg9 arg10 harg10 arg11 harg11 arg12 harg12 arg13 harg13 arg14 harg14)
      (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14'))) } := by
  refine ⟨?_, ?_, ?_, ?_, ?_, ?_, ?_, ?run⟩
  case run =>
    rw [cc0_int_lstm_eq_skeleton]
    unfold cc0_int_lstm_skel
    iintro ⟨H1, H2, H3, H4, H5, H6, H7, H8, H9, H10, H11, H12, H13, H14⟩
    sl_exec_parts
    sl_exec
    sl_step
    sl_close

end Cert.KernelIdeal.Hand

end
-- ==== Proof.Ideal.BodyValue.lean ====
module

public import proofs.«01_k».proof.Proof.Ideal.Acc
public import proofs.«01_k».proof.Proof.Ideal.Body

@[expose] public section

set_option maxRecDepth 16384
set_option maxHeartbeats 16000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The rows that multiply the offsets: ones. -/
def onesH : S160x4096.Idx → F .bf16 := fun _ => Scalar.ofBits .bf16 0x3F80#16

/-- A step's inputs, from the arrays that the step reads. -/
def insR (a : S1.Idx → BitVec 32) (b : S10.Idx → F .f32) (w : S1152x200.Idx → F .bf16) (o : S576x1.Idx → BitVec 32) : Ins F :=
  ⟨a (ix1 0), w, o, scalesOf (b (ix1 0)) (b (ix1 1)) (b (ix1 2)) (b (ix1 3)) (b (ix1 4)) (b (ix1 5)) (b (ix1 6)) (b (ix1 7)) (b (ix1 8)) (b (ix1 9))⟩

/-- The state before a step: at the first step the given one, later the one that is kept. -/
def preH (first : Prop) [Decidable first] (h0 : S144x4096.Idx → BitVec 8) (H : S160x4096.Idx → F .bf16) : S160x4096.Idx → F .bf16 :=
  if first then hiRows h0 onesH else H

def preC (first : Prop) [Decidable first] (c0 : S144x4096.Idx → BitVec 16) (C : S144x4096.Idx → BitVec 32) : S144x4096.Idx → BitVec 32 :=
  if first then (fun y => (c0 y).signExtend 32) else C

/-- One word of a short vector. -/
theorem word_at {sp : Space} {n : ℕ} {e : EltTy} (v : View sig .tc sp ⟨1, ![n]⟩ e) (f : v.ty.Contents (Elt F)) (k : ℕ) (hk : k < n)
    (inb : ∀ a, (![k] : Fin 1 → ℕ) a + S1.size a ≤ (⟨1, ![n]⟩ : Shape).size a) (x : S1.Idx) :
    v.readAt (Elt F) (Rect.unit (s := ⟨1, ![n]⟩) ![k] S1.size inb).toLoadRect f x = v.read (Elt F) f (ix1 ⟨k, hk⟩) := by
  rw [View.readAt_unit v f inb rfl inb]
  refine congrArg (v.read (Elt F) f) (funext fun a => Fin.ext ?_)
  match a with
  | ⟨0, _⟩ =>
    have : (x 0).val < 1 := (x 0).isLt
    show k + 1 * (x 0).val = k
    omega

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- A step's inputs as the kernel reads them. -/
theorem insB_eq (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) :
    insOf c arg1 arg3 arg4 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4 = insR (arg1.view.read (Elt F) f1) (arg2.view.read (Elt F) f2) (arg3.view.read (Elt F) f3) (arg4.view.read (Elt F) f4) := by
  have e1 : trip.sl.r_225 c arg1 f1 = arg1.view.read (Elt F) f1 (ix1 0) := word_at arg1.view f1 0 (by decide) _ _
  have e2 : bodyRun.sl.r c arg2 f2 = arg2.view.read (Elt F) f2 (ix1 0) := word_at arg2.view f2 0 (by decide) _ _
  have g1 : bodyRun.sl.r_1 c arg2 f2 = arg2.view.read (Elt F) f2 (ix1 1) := word_at arg2.view f2 1 (by decide) _ _
  have g2 : bodyRun.sl.r_2 c arg2 f2 = arg2.view.read (Elt F) f2 (ix1 2) := word_at arg2.view f2 2 (by decide) _ _
  have g3 : bodyRun.sl.r_3 c arg2 f2 = arg2.view.read (Elt F) f2 (ix1 3) := word_at arg2.view f2 3 (by decide) _ _
  have g4 : bodyRun.sl.r_4 c arg2 f2 = arg2.view.read (Elt F) f2 (ix1 4) := word_at arg2.view f2 4 (by decide) _ _
  have g5 : bodyRun.sl.r_5 c arg2 f2 = arg2.view.read (Elt F) f2 (ix1 5) := word_at arg2.view f2 5 (by decide) _ _
  have g6 : bodyRun.sl.r_6 c arg2 f2 = arg2.view.read (Elt F) f2 (ix1 6) := word_at arg2.view f2 6 (by decide) _ _
  have g7 : bodyRun.sl.r_7 c arg2 f2 = arg2.view.read (Elt F) f2 (ix1 7) := word_at arg2.view f2 7 (by decide) _ _
  have g8 : bodyRun.sl.r_8 c arg2 f2 = arg2.view.read (Elt F) f2 (ix1 8) := word_at arg2.view f2 8 (by decide) _ _
  have g9 : bodyRun.sl.r_9 c arg2 f2 = arg2.view.read (Elt F) f2 (ix1 9) := word_at arg2.view f2 9 (by decide) _ _
  unfold insOf insR
  rw [e1, e2, g1, g2, g3, g4, g5, g6, g7, g8, g9]

/-- Before the trips. -/
theorem body_good (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    Good c arg8 arg11 arg12 arg13 arg14 (insOf c arg1 arg3 arg4 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4) (arg5.view.read (Elt F) f5)
      (preH (bodyRun.sl.v2 i = 1#1) (arg6.view.read (Elt F) f6) (arg11.view.read (Elt F) f11)) (preC (bodyRun.sl.v2 i = 1#1) (arg7.view.read (Elt F) f7) (arg12.view.read (Elt F) f12)) 0
      ⟨f8,
       if hc : bodyRun.sl.v2 i = 1#1 then
              arg11.view.writes (Elt F) f11
                [⟨Rect.unit ![144, 0] S16x4096.size Gen.inb_S160x4096_S16x4096_144_0, Gen.k0_pay447⟩,
                  ⟨Rect.unit ![0, 0] S144x4096.size Gen.inb_S160x4096_S144x4096_0_0,
                    Gen.k0_pay446 (View.readAt (Elt F) arg6.view (Rect.unit ![0, 0] S144x4096.size Gen.inb_S144x4096_S144x4096_0_0).toLoadRect f6)⟩]
            else f11,
       if hc : bodyRun.sl.v2 i = 1#1 then
              arg12.view.writes (Elt F) f12
                [⟨Rect.unit ![0, 0] S144x4096.size Gen.inb_S144x4096_S144x4096_0_0,
                    Gen.k0_pay448 (View.readAt (Elt F) arg7.view (Rect.unit ![0, 0] S144x4096.size Gen.inb_S144x4096_S144x4096_0_0).toLoadRect f7)⟩]
            else f12,
       if hc : bodyRun.sl.v30 c arg1 f1 = 1#1 then
              arg13.view.writes (Elt F) f13
                (⟨Rect.unit ![0, 0] S576x256.size Gen.inb_S1152x256_S576x256_0_0,
                    Gen.k0_pay450 (bodyRun.sl.v35 c i arg3 arg5 arg6 arg11 arg13 f3 f5 f6 f11)
                      (View.readAt (Elt F) arg4.view (Rect.unit ![0, 0] S576x1.size Gen.inb_S576x1_S576x1_0_0).toLoadRect f4)⟩ ::
                  bodyRun.sl.H13_1 c i arg3 arg5 arg6 arg11 f3 f5 f6 f11)
            else arg13.view.writes (Elt F) f13 (bodyRun.sl.H13_1 c i arg3 arg5 arg6 arg11 f3 f5 f6 f11),
       f14⟩ := by
  have hH : ∀ y : S160x4096.Idx, arg11.view.read (Elt F) (if hc : bodyRun.sl.v2 i = 1#1 then
              arg11.view.writes (Elt F) f11
                [⟨Rect.unit ![144, 0] S16x4096.size Gen.inb_S160x4096_S16x4096_144_0, Gen.k0_pay447⟩,
                  ⟨Rect.unit ![0, 0] S144x4096.size Gen.inb_S160x4096_S144x4096_0_0,
                    Gen.k0_pay446 (View.readAt (Elt F) arg6.view (Rect.unit ![0, 0] S144x4096.size Gen.inb_S144x4096_S144x4096_0_0).toLoadRect f6)⟩]
            else f11) y = preH (bodyRun.sl.v2 i = 1#1) (arg6.view.read (Elt F) f6) (arg11.view.read (Elt F) f11) y := by
    intro y
    by_cases hc : bodyRun.sl.v2 i = 1#1
    · rw [dif_pos hc]
      unfold preH
      rw [if_pos hc]
      have h1 : (y 1).val < 4096 := (y 1).isLt
      have h0 : (y 0).val < 160 := (y 0).isLt
      by_cases hy : (y 0).val < 144
      · refine (View.read_writes_cons_unit_of_not_mem (Val := Elt F) arg11.view f11 _ _ _ y rfl 0 (Or.inl hy)).trans ?_
        refine (View.read_writes_cons_unit_of_mem (Val := Elt F) arg11.view f11 Gen.inb_S160x4096_S144x4096_0_0 _ [] y (ix2 ⟨(y 0).val, hy⟩ (y 1)) rfl ?_).trans ?_
        · intro a
          match a with
          | ⟨0, _⟩ => show (y 0).val = 0 + (y 0).val; omega
          | ⟨1, _⟩ => show (y 1).val = 0 + (y 1).val; omega
        · unfold hiRows
          rw [dif_pos hy]
          have e : Gen.k0_pay446 (F := F) (View.readAt (Elt F) arg6.view (Rect.unit ![0, 0] S144x4096.size Gen.inb_S144x4096_S144x4096_0_0).toLoadRect f6) = fun x => FloatOps.sitofp .bf16 (arg6.view.read (Elt F) f6 x) := by
            rw [View.readAt_full arg6.view f6 _]
            unfold k0_pay446
            simp only [shapeCast_self]
            rfl
          exact congrFun e _
      · refine (View.read_writes_cons_unit_of_mem (Val := Elt F) arg11.view f11 Gen.inb_S160x4096_S16x4096_144_0 _ _ y (ix2 ⟨(y 0).val - 144, by omega⟩ (y 1)) rfl ?_).trans ?_
        · intro a
          match a with
          | ⟨0, _⟩ => show (y 0).val = 144 + ((y 0).val - 144); omega
          | ⟨1, _⟩ => show (y 1).val = 0 + (y 1).val; omega
        · unfold hiRows onesH
          rw [dif_neg hy]
          unfold k0_pay447
          simp only [shapeCast_self]
          rfl
    · rw [dif_neg hc]
      unfold preH
      rw [if_neg hc]
  refine ⟨fun y hy => absurd hy (Nat.not_lt_zero _), ?_, ?_, ?_⟩
  · funext y
    exact (hH y).trans (mixAt_old 0 _ _ y (Nat.zero_le _)).symm
  · funext y
    refine Eq.trans ?_ (mixAt_old 0 _ _ y (Nat.zero_le _)).symm
    show arg12.view.read (Elt F) (dite _ _ _) y = _
    unfold preC
    by_cases hc : bodyRun.sl.v2 i = 1#1
    · rw [dif_pos hc, if_pos hc]
      refine (congrFun (View.read_writes_full (Val := Elt F) arg12.view f12 Gen.inb_S144x4096_S144x4096_0_0 _ []) y).trans ?_
      rw [View.readAt_full arg7.view f7 _]
      unfold k0_pay448
      simp only [shapeCast_self]
      rfl
    · rw [dif_neg hc, if_neg hc]
  · have e1 := raw_eq arg3.view f3 arg5.view f5 arg11.view _ (n := 0) (by decide) (fun y _ _ => hH y) Gen.inb_S1x40x4096_S1x40x256_0_0_0 Gen.inb_S160x4096_S160x256_0_0 inb_S1152x200_S1152x200_0_0 rfl rfl
    have e2 : View.readAt (Elt F) arg4.view (Rect.unit ![0, 0] S576x1.size inb_S576x1_S576x1_0_0).toLoadRect f4 = arg4.view.read (Elt F) f4 := View.readAt_full arg4.view f4 _
    have e3 := fix_read arg13.view f13 (trip.sl.r_225 c arg1 f1) (accRaw (arg5.view.read (Elt F) f5) (arg3.view.read (Elt F) f3) (preH (bodyRun.sl.v2 i = 1#1) (arg6.view.read (Elt F) f6) (arg11.view.read (Elt F) f11)) 0) (arg4.view.read (Elt F) f4) inb_S1152x256_S576x256_0_0 inb_S1152x256_S1152x256_0_0
    rw [← e1, ← e2] at e3
    refine e3.trans ?_
    rw [e1, e2]
    rfl

/-- What a grid step leaves. -/
theorem body_value (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    let I := insR (arg1.view.read (Elt F) f1) (arg2.view.read (Elt F) f2) (arg3.view.read (Elt F) f3) (arg4.view.read (Elt F) f4)
    let X := arg5.view.read (Elt F) f5
    let H := preH (bodyRun.sl.v2 i = 1#1) (arg6.view.read (Elt F) f6) (arg11.view.read (Elt F) f11)
    let C := preC (bodyRun.sl.v2 i = 1#1) (arg7.view.read (Elt F) f7) (arg12.view.read (Elt F) f12)
    let r := bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14
    arg8.view.read (Elt F) r.1 = lead (stepH I X H C)
    ∧ arg9.view.read (Elt F) r.2.1 = (if k0_cond5 i = 1#1 then (fun y => (stepC I X H C y).setWidth 16) else arg9.view.read (Elt F) f9)
    ∧ arg10.view.read (Elt F) r.2.2.1 = (if k0_cond5 i = 1#1 then stepH I X H C else arg10.view.read (Elt F) f10)
    ∧ arg11.view.read (Elt F) r.2.2.2.1 = hiRows (stepH I X H C) H
    ∧ arg12.view.read (Elt F) r.2.2.2.2.1 = stepC I X H C := by
  intro I X H C r
  have g := Good.all c arg1 arg3 arg4 arg5 arg8 arg11 arg12 arg13 arg14 (bodyRun.sl.r c arg2 f2) (bodyRun.sl.r_1 c arg2 f2) (bodyRun.sl.r_2 c arg2 f2) (bodyRun.sl.r_3 c arg2 f2) (bodyRun.sl.r_4 c arg2 f2) (bodyRun.sl.r_5 c arg2 f2) (bodyRun.sl.r_6 c arg2 f2) (bodyRun.sl.r_7 c arg2 f2) (bodyRun.sl.r_8 c arg2 f2) (bodyRun.sl.r_9 c arg2 f2) f1 f3 f4 f5 _ (body_good c i arg1 arg2 arg3 arg4 arg5 arg6 arg7 arg8 arg11 arg12 arg13 arg14 f1 f2 f3 f4 f5 f6 f7 f8 f11 f12 f13 f14) 8 (le_of_eq trips_eq.symm)
  rw [insB_eq] at g
  obtain ⟨h8, h11, h12, -⟩ := g
  have k8 := funext fun y => h8 y (show (y 2).val < 4096 from (y 2).isLt)
  have k11 := h11.trans (funext fun y => if_pos (show (y 1).val < 4096 from (y 1).isLt))
  have k12 := h12.trans (funext fun y => if_pos (show (y 1).val < 4096 from (y 1).isLt))
  refine ⟨k8, ?_, ?_, k11, k12⟩
  · show arg9.view.read (Elt F) (dite _ _ _) = _
    by_cases hc : k0_cond5 i = 1#1
    · rw [dif_pos hc, if_pos hc]
      refine (View.read_writes_full (Val := Elt F) arg9.view f9 Gen.inb_S144x4096_S144x4096_0_0 _ []).trans ?_
      have e := (View.readAt_full arg12.view _ Gen.inb_S144x4096_S144x4096_0_0).trans k12
      exact congrArg k0_pay6 e
    · rw [dif_neg hc, if_neg hc]
  · show arg10.view.read (Elt F) (dite _ _ _) = _
    by_cases hc : k0_cond5 i = 1#1
    · rw [dif_pos hc, if_pos hc]
      refine (View.read_writes_full (Val := Elt F) arg10.view f10 Gen.inb_S144x4096_S144x4096_0_0 _ []).trans ?_
      have e := (View.readAt_full arg8.view _ Gen.inb_S1x144x4096_S1x144x4096_0_0_0).trans k8
      refine (congrArg k0_pay7 e).trans ?_
      funext y
      obtain ⟨p, q, rfl⟩ : ∃ p q, y = ix2 p q := ⟨y 0, y 1, (ix2_eta y).symm⟩
      exact (ValueIdx.shapeCast_1ab_ab_apply (lead (stepH I X H C)) shapeCasts_S1x144x4096_S144x4096 p q).trans rfl
    · rw [dif_neg hc, if_neg hc]

end Cert.KernelIdeal.Hand

end
-- ==== Proof.Ideal.Owns.lean ====
module

public import proofs.«01_k».proof.Proof.Ideal.Acc
public import proofs.«01_k».proof.Proof.Ideal.BodyValue

@[expose] public section

set_option maxRecDepth 16384
set_option maxHeartbeats 16000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords) (arg1 : Memref sig .tc .smem S1 .i32) (harg1 : arg1.IsWhole) (arg2 : Memref sig .tc .smem S10 .f32) (harg2 : arg2.IsWhole) (arg3 : Memref sig .tc .vmem S1152x200 .bf16) (harg3 : arg3.IsWhole) (arg4 : Memref sig .tc .vmem S576x1 .i32) (harg4 : arg4.IsWhole) (arg5 : Memref sig .tc .vmem S1x40x4096 .i8) (harg5 : arg5.IsWhole) (arg6 : Memref sig .tc .vmem S144x4096 .i8) (harg6 : arg6.IsWhole) (arg7 : Memref sig .tc .vmem S144x4096 .i16) (harg7 : arg7.IsWhole) (arg8 : Memref sig .tc .vmem S1x144x4096 .i8) (harg8 : arg8.IsWhole) (arg9 : Memref sig .tc .vmem S144x4096 .i16) (harg9 : arg9.IsWhole) (arg10 : Memref sig .tc .vmem S144x4096 .i8) (harg10 : arg10.IsWhole) (arg11 : Memref sig .tc .vmem S160x4096 .bf16) (harg11 : arg11.IsWhole) (arg12 : Memref sig .tc .vmem S144x4096 .i32) (harg12 : arg12.IsWhole) (arg13 : Memref sig .tc .vmem S1152x256 .f32) (harg13 : arg13.IsWhole) (arg14 : Memref sig .tc .vmem S1152x256 .f32) (harg14 : arg14.IsWhole)

/-- A grid step, on what its windows and its scratch hold. -/
theorem body_owns (X1 : S1.Idx → BitVec 32) (X2 : S10.Idx → F .f32) (X3 : S1152x200.Idx → F .bf16) (X4 : S576x1.Idx → BitVec 32) (X5 : S1x40x4096.Idx → BitVec 8) (X6 : S144x4096.Idx → BitVec 8) (X7 : S144x4096.Idx → BitVec 16) (X8 : S1x144x4096.Idx → BitVec 8) (X9 : S144x4096.Idx → BitVec 16) (X10 : S144x4096.Idx → BitVec 8) (X11 : S160x4096.Idx → F .bf16) (X12 : S144x4096.Idx → BitVec 32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ X : S1152x256.Idx → F .f32, owns (c : Thread nD τ) arg13 fullShare X) ∗ (∃ X : S1152x256.Idx → F .f32, owns (c : Thread nD τ) arg14 fullShare X)) : sProp 𝕄)
      ⊢ wp frame (wpE (defs₀ (F := F)) Variants.none (c : Thread nD τ) none) Set.univ (cc0_int_lstm (F := F) i arg1 harg1 arg2 harg2 arg3 harg3 arg4 harg4 arg5 harg5 arg6 harg6 arg7 harg7 arg8 harg8 arg9 harg9 arg10 harg10 arg11 harg11 arg12 harg12 arg13 harg13 arg14 harg14)
      (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (lead (stepH (insR X1 X2 X3 X4) X5 (preH (bodyRun.sl.v2 i = 1#1) X6 X11) (preC (bodyRun.sl.v2 i = 1#1) X7 X12))) ∗ owns (c : Thread nD τ) arg9 fullShare (if k0_cond5 i = 1#1 then (fun y => ((stepC (insR X1 X2 X3 X4) X5 (preH (bodyRun.sl.v2 i = 1#1) X6 X11) (preC (bodyRun.sl.v2 i = 1#1) X7 X12)) y).setWidth 16) else X9) ∗ owns (c : Thread nD τ) arg10 fullShare (if k0_cond5 i = 1#1 then (stepH (insR X1 X2 X3 X4) X5 (preH (bodyRun.sl.v2 i = 1#1) X6 X11) (preC (bodyRun.sl.v2 i = 1#1) X7 X12)) else X10) ∗ owns (c : Thread nD τ) arg11 fullShare (hiRows (stepH (insR X1 X2 X3 X4) X5 (preH (bodyRun.sl.v2 i = 1#1) X6 X11) (preC (bodyRun.sl.v2 i = 1#1) X7 X12)) (preH (bodyRun.sl.v2 i = 1#1) X6 X11)) ∗ owns (c : Thread nD τ) arg12 fullShare (stepC (insR X1 X2 X3 X4) X5 (preH (bodyRun.sl.v2 i = 1#1) X6 X11) (preC (bodyRun.sl.v2 i = 1#1) X7 X12)) ∗ (∃ X : S1152x256.Idx → F .f32, owns (c : Thread nD τ) arg13 fullShare X) ∗ (∃ X : S1152x256.Idx → F .f32, owns (c : Thread nD τ) arg14 fullShare X))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%X13, %f13, %h13, H13⟩, ⟨%X14, %f14, %h14, H14⟩⟩
  subst h1 h2 h3 h4 h5 h6 h7 h8 h9 h10 h11 h12
  have hv := body_value c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14
  have hr := (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).2.2.2.2.2.2.2
  generalize bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 = r at hv hr
  obtain ⟨g8, g9, g10, g11, g12, g13, g14, hg⟩ := r
  obtain ⟨h8, h9, h10, h11, h12⟩ := hv
  iapply (Idealize.SL.Sem.wp_wand_r _ _ _)
  isplitl [H1 H2 H3 H4 H5 H6 H7 H8 H9 H10 H11 H12 H13 H14]
  · iapply hr
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨H1, H2, H3, H4, H5, H6, H7, H8, H9, H10, H11, H12, H13, H14⟩
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _, _; isplitr; swap; · iexact H13
    ipureintro; rfl
  iexists _, _; isplitr; swap; · iexact H14
  ipureintro; rfl

end Cert.KernelIdeal.Hand

end
-- ==== Proof.Ideal.Run.lean ====
module

public import proofs.«01_k».proof.Proof.Ideal.Acc
public import proofs.«01_k».proof.Proof.Gen.KernelIdeal.Frame
public import proofs.«01_k».proof.Proof.Ideal.Owns
public import Idealize.ShloMosaic.Lib.Pipeline.FrameBody
public import Idealize.ShloMosaic.Lib.Pipeline.FrameSuffix
public import Idealize.ShloMosaic.Lib.Pipeline.Quiescent

@[expose] public section

set_option maxRecDepth 100000
set_option maxHeartbeats 16000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat Cfg Window BodyObligation BodyObligationLoose cellOf)

local notation "𝕄" => MT nD τ sig Unit (Elt F) ℕ (UR sig nD τ) ℕ

variable (m : (ℓ : Loc nD τ sig) → Buf (Elt F) ℓ) (ρ : Dev nD → PrngReg)

abbrev scM0 : Memref sig .tc .vmem S160x4096 .bf16 := Memref.whole cc0_scratch0
abbrev scM1 : Memref sig .tc .vmem S144x4096 .i32 := Memref.whole cc0_scratch1
abbrev scM2 : Memref sig .tc .vmem S1152x256 .f32 := Memref.whole cc0_scratch2
abbrev scM3 : Memref sig .tc .vmem S1152x256 .f32 := Memref.whole cc0_scratch3

/-! ## The state from step to step -/

/-- Whether a step is the first one, as the kernel tests it. -/
abbrev firstAt (t : Fin cfg0.N) : Prop := bodyRun.sl.v2 (grid0.coords t) = 1#1

/-- What a step reads apart from its state. -/
def insAt (c : Dev nD) (t : Fin cfg0.N) : Ins F := insR (iblk m c 0 t) (iblk m c 1 t) (iblk m c 2 t) (iblk m c 3 t)

/-- The state before a step, from what the scratch holds. -/
def hIn (c : Dev nD) (t : Fin cfg0.N) (H : S160x4096.Idx → F .bf16) : S160x4096.Idx → F .bf16 := preH (firstAt t) (iblk m c 5 t) H
def cIn (c : Dev nD) (t : Fin cfg0.N) (C : S144x4096.Idx → BitVec 32) : S144x4096.Idx → BitVec 32 := preC (firstAt t) (iblk m c 6 t) C

/-- What the scratch holds before step `n`. -/
def scr (c : Dev nD) : ℕ → (S160x4096.Idx → F .bf16) × (S144x4096.Idx → BitVec 32)
  | 0 => (onesH, fun _ => 0#32)
  | n + 1 => if h : n < cfg0.N then
      (hiRows (stepH (insAt m c ⟨n, h⟩) (iblk m c 4 ⟨n, h⟩) (hIn m c ⟨n, h⟩ (scr c n).1) (cIn m c ⟨n, h⟩ (scr c n).2)) (hIn m c ⟨n, h⟩ (scr c n).1),
       stepC (insAt m c ⟨n, h⟩) (iblk m c 4 ⟨n, h⟩) (hIn m c ⟨n, h⟩ (scr c n).1) (cIn m c ⟨n, h⟩ (scr c n).2))
    else scr c n

/-- The hidden and the cell state that step `t` makes. -/
def outH (c : Dev nD) (t : Fin cfg0.N) : S144x4096.Idx → BitVec 8 :=
  stepH (insAt m c t) (iblk m c 4 t) (hIn m c t (scr m c t.val).1) (cIn m c t (scr m c t.val).2)
def outC (c : Dev nD) (t : Fin cfg0.N) : S144x4096.Idx → BitVec 32 :=
  stepC (insAt m c t) (iblk m c 4 t) (hIn m c t (scr m c t.val).1) (cIn m c t (scr m c t.val).2)

theorem scr_succ (c : Dev nD) (t : Fin cfg0.N) :
    scr m c (t.val + 1) = (hiRows (outH m c t) (hIn m c t (scr m c t.val).1), outC m c t) := by
  rw [scr, dif_pos t.isLt]
  rfl

/-! ## The data of the pipeline -/

/-- What the scratch holds between steps: before the first one anything. -/
def scrΦ (c : Dev nD) (n : ℕ) : sProp 𝕄 :=
  iprop((∃ X : S160x4096.Idx → F .bf16, ⌜n ≠ 0 → X = (scr m c n).1⌝ ∗ owns (c : Thread nD τ) scM0 fullShare X)
    ∗ (∃ X : S144x4096.Idx → BitVec 32, ⌜n ≠ 0 → X = (scr m c n).2⌝ ∗ owns (c : Thread nD τ) scM1 fullShare X)
    ∗ (∃ X : S1152x256.Idx → F .f32, owns (c : Thread nD τ) scM2 fullShare X)
    ∗ (∃ X : S1152x256.Idx → F .f32, owns (c : Thread nD τ) scM3 fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => lead (outH m c t)
    | ⟨8, _⟩ => fun y => (outC m c t y).setWidth 16
    | ⟨9, _⟩ => outH m c t
  Φ t := scrΦ m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = lead (outH m c t) := rfl
theorem after0_8 (c : Dev nD) (t : Fin cfg0.N) : (dats m 0 c).after 8 t = fun y => (outC m c t y).setWidth 16 := rfl
theorem after0_9 (c : Dev nD) (t : Fin cfg0.N) : (dats m 0 c).after 9 t = outH m c t := rfl

/-- The last step is the one at which the kernel writes the final states. -/
theorem cond5_iff : ∀ t : Fin grid0.N, k0_cond5 (grid0.coords t) = 1#1 ↔ t.val = 127 := by decide

/-- The first step is the one at which the kernel takes the given state. -/
theorem first_iff : ∀ t : Fin grid0.N, bodyRun.sl.v2 (grid0.coords t) = 1#1 ↔ t.val = 0 := by decide

/-- What a step is given and what it leaves, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t)
    ∗ (if t.val = 127 then owns (c : Thread nD τ) (st0_8 t) fullShare ((dats m 0 c).after 8 t) else iprop(∃ d, owns (c : Thread nD τ) (st0_8 t) fullShare ((dats m 0 c).before 8 t d))) ∗ (if t.val = 127 then owns (c : Thread nD τ) (st0_9 t) fullShare ((dats m 0 c).after 9 t) else iprop(∃ d, owns (c : Thread nD τ) (st0_9 t) fullShare ((dats m 0 c).before 9 t d))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = scrΦ m c (t.val + 1) from rfl, show (dats m 0 c).Φ t.castSucc = scrΦ m c t.val from rfl]
  unfold Dat.owesAt Pipeline.owesWithin scrΦ
  rw [show (dats m 0 c).owed t.castSucc = 0 from rfl, show (dats m 0 c).owed t.succ = 0 from rfl]
  simp only [before0_0_of m (dats m 0 c) (A_eq m c 0) (after0_0 m c) t]
  simp only [before0_1_of m (dats m 0 c) (A_eq m c 1) (after0_1 m c) t]
  simp only [before0_2_of m (dats m 0 c) (A_eq m c 2) (after0_2 m c) t]
  simp only [before0_3_of m (dats m 0 c) (A_eq m c 3) (after0_3 m c) t]
  simp only [before0_4_of m (dats m 0 c) (A_eq m c 4) (after0_4 m c) t]
  simp only [before0_5_of m (dats m 0 c) (A_eq m c 5) (after0_5 m c) t]
  simp only [before0_6_of m (dats m 0 c) (A_eq m c 6) (after0_6 m c) t]

  rw [after0_0, after0_1, after0_2, after0_3, after0_4, after0_5, after0_6, after0_7, after0_8, after0_9]
  iintro ⟨⟨⟨%X11, %h11, S0⟩, ⟨%X12, %h12, S1⟩, S2, S3, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hv := body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t)
    ((dats m 0 c).before 7 t d7) ((dats m 0 c).before 8 t d8) ((dats m 0 c).before 9 t d9) X11 X12
  have eH : preH (firstAt t) (iblk m c 5 t) X11 = hIn m c t (scr m c t.val).1 := by
    unfold hIn preH
    by_cases hf : firstAt t
    · rw [if_pos hf, if_pos hf]
    · rw [if_neg hf, if_neg hf]
      exact h11 fun h => hf ((first_iff t).mpr h)
  have eC : preC (firstAt t) (iblk m c 6 t) X12 = cIn m c t (scr m c t.val).2 := by
    unfold cIn preC
    by_cases hf : firstAt t
    · rw [if_pos hf, if_pos hf]
    · rw [if_neg hf, if_neg hf]
      exact h12 fun h => hf ((first_iff t).mpr h)
  rw [eH, eC] at hv
  iapply (Idealize.SL.Sem.wp_wand_r _ _ _)
  isplitl [H0 H1 H2 H3 H4 H5 H6 H7 H8 H9 S0 S1 S2 S3]
  · iapply hv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %a ⟨H0, H1, H2, H3, H4, H5, H6, H7, H8, H9, S0, S1, S2, S3⟩
  isplitl [S0 S1 S2 S3 Hg]
  · isplitl [S0]
    · iexists _; isplitr; swap; · iexact S0
      ipureintro; intro _; rw [scr_succ]; rfl
    isplitl [S1]
    · iexists _; isplitr; swap; · iexact S1
      ipureintro; intro _; rw [scr_succ]; rfl
    isplitl [S2]; · iexact S2
    isplitl [S3]; · iexact S3
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : t.val = 127
  · rw [if_pos hl, if_pos hl, if_pos ((cond5_iff t).mpr hl), if_pos ((cond5_iff t).mpr hl)]
    isplitl [H8]; · iexact H8
    iexact H9
  · rw [if_neg hl, if_neg hl, if_neg fun h => hl ((cond5_iff t).mp h), if_neg fun h => hl ((cond5_iff t).mp h)]
    isplitl [H8]; · iexists d8; iexact H8
    iexists d9; iexact H9

theorem defs₀_row (t : Fin cfg0.N) :
    defs₀ (F := F) .tc cfg0.body (cfg0.bodyArgs t (cfg0.slots t)) = bodyAt0 t := by
  unfold defs₀; rw [Defs.onTc_tc]

theorem leaves_8 (c : Dev nD) (t : Fin cfg0.N) :
    (if t.val = 127 then owns (c : Thread nD τ) (st0_8 t) fullShare ((dats m 0 c).after 8 t) else iprop(∃ d, owns (c : Thread nD τ) (st0_8 t) fullShare ((dats m 0 c).before 8 t d))) ⊢ ((dats m 0 c).leaves 8 t : sProp 𝕄) := by
  have hlt : t.val < 128 := lt_of_lt_of_eq t.isLt N_0
  by_cases h : t.val = 127
  · rw [if_pos h]
    have hi : cfg0.idle 8 (cfg0.grid.coords t) = false := by
      show (!(k0_cond5 (grid0.coords t) == 1#1)) = false
      rw [(cond5_iff t).mpr h]; rfl
    unfold Dat.leaves
    rw [hi]
  · rw [if_neg h]
    have hi : cfg0.idle 8 (cfg0.grid.coords t) = true := by
      show (!(k0_cond5 (grid0.coords t) == 1#1)) = true
      have := fun e => h ((cond5_iff t).mp e)
      simpa using this
    have hf : (cfg0.win 8).flush t = false := by
      have := flush0_8 t
      cases hb : (cfg0.win 8).flush t
      · rfl
      · have := this.mp hb; omega
    rw [Dat.leaves_idle _ 8 t hi hf]

theorem leaves_9 (c : Dev nD) (t : Fin cfg0.N) :
    (if t.val = 127 then owns (c : Thread nD τ) (st0_9 t) fullShare ((dats m 0 c).after 9 t) else iprop(∃ d, owns (c : Thread nD τ) (st0_9 t) fullShare ((dats m 0 c).before 9 t d))) ⊢ ((dats m 0 c).leaves 9 t : sProp 𝕄) := by
  have hlt : t.val < 128 := lt_of_lt_of_eq t.isLt N_0
  by_cases h : t.val = 127
  · rw [if_pos h]
    have hi : cfg0.idle 9 (cfg0.grid.coords t) = false := by
      show (!(k0_cond5 (grid0.coords t) == 1#1)) = false
      rw [(cond5_iff t).mpr h]; rfl
    unfold Dat.leaves
    rw [hi]
  · rw [if_neg h]
    have hi : cfg0.idle 9 (cfg0.grid.coords t) = true := by
      show (!(k0_cond5 (grid0.coords t) == 1#1)) = true
      have := fun e => h ((cond5_iff t).mp e)
      simpa using this
    have hf : (cfg0.win 8).flush t = false := by
      have := flush0_9 t
      cases hb : (cfg0.win 8).flush t
      · rfl
      · have := this.mp hb; omega
    rw [Dat.leaves_idle _ 9 t hi hf]

theorem body_obligation (c : Dev nD) : BodyObligationLoose (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, HO, H0, H1, H2, H3, H4, H5, H6, H7, H8, H9⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_8 m c t); iexact H8
  · iapply (leaves_9 m c t); iexact H9

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) sfx_sub sfx_fresh sfx_keeps (hmain := hmain m Variants.none) (hA := A_eq m)
    (hin := fun c => by
      show _ ⊢ scrΦ m c 0
      unfold Pipeline.ΦA scrΦ
      rw [scopedRest0_eq]
      iintro ⟨⟨⟨%g0, S0⟩, ⟨%g1, S1⟩, ⟨%g2, S2⟩, ⟨%g3, S3⟩⟩, Hg⟩
      simp only [scM0, scM1, scM2, scM3, owns_whole]
      isplitl [S0]; · iexists g0; isplitr; swap; · iexact S0
                      ipureintro; exact fun h => absurd rfl h
      isplitl [S1]; · iexists g1; isplitr; swap; · iexact S1
                      ipureintro; exact fun h => absurd rfl h
      isplitl [S2]; · iexists g2; iexact S2
      isplitl [S3]; · iexists g3; iexact S3
      iexact Hg)
    (hout := fun c => by
      show scrΦ m c _ ⊢ _
      unfold Pipeline.ΦA scrΦ
      rw [scopedRest0_eq]
      simp only [scM0, scM1, scM2, scM3, owns_whole]
      iintro ⟨⟨%X0, -, S0⟩, ⟨%X1, -, S1⟩, ⟨%X2, S2⟩, ⟨%X3, S3⟩, Hg⟩
      isplitr [Hg]
      · isplitl [S0]; · iexists X0; iexact S0
        isplitl [S1]; · iexists X1; iexact S1
        isplitl [S2]; · iexists X2; iexact S2
        iexists X3; iexact S3
      iexact Hg)

/-- The frame: the program ends, nothing faults, its arguments end unchanged, every counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_with_sems (frame_of m ρ (dats m) (A_eq m)) (run_main m ρ)

end Cert.KernelIdeal.Hand

end
-- ==== Proof.Ref.Run.lean ====
module

public import proofs.«01_k».proof.Proof.Gen.ReferenceIdeal.Frame
public import proofs.«01_k».proof.Proof.Gen.ReferenceIdeal.Loops
public import proofs.«01_k».proof.Proof.Gen.ReferenceIdeal.Value
-- ==== Proof.Val.Math.lean ====
module

public import Idealize.ShloMosaic.PureOps
public import Idealize.ShloMosaic.PureOps.Ideal.Laws
public import Idealize.ShloMosaic.Lib.IdealHost
public import Mathlib.Analysis.Complex.Exponential

@[expose] public section

noncomputable section

namespace Cert.Arith

open Idealize.ShloMosaic

/-! ### The constants -/

theorem b_C0800000 : Ideal.ofBits .f32 0xC0800000#32 = ((-4 : ℝ) : EReal) := by
  simp [Ideal.ofBits, Ideal.ieee, -EReal.coe_mul, -EReal.coe_neg]; norm_num
theorem b_407FFE00 : Ideal.ofBits .f32 0x407FFE00#32 = ((32767 / 8192 : ℝ) : EReal) := by
  simp [Ideal.ofBits, Ideal.ieee, -EReal.coe_mul, -EReal.coe_neg]; norm_num
theorem b_44C00000 : Ideal.ofBits .f32 0x44C00000#32 = ((1536 : ℝ) : EReal) := by
  simp [Ideal.ofBits, Ideal.ieee, -EReal.coe_mul, -EReal.coe_neg]; norm_num
theorem b_C1000000 : Ideal.ofBits .f32 0xC1000000#32 = ((-8 : ℝ) : EReal) := by
  simp [Ideal.ofBits, Ideal.ieee, -EReal.coe_mul, -EReal.coe_neg]; norm_num
theorem b_40FFFE00 : Ideal.ofBits .f32 0x40FFFE00#32 = ((32767 / 4096 : ℝ) : EReal) := by
  simp [Ideal.ofBits, Ideal.ieee, -EReal.coe_mul, -EReal.coe_neg]; norm_num
theorem b_45400000 : Ideal.ofBits .f32 0x45400000#32 = ((3072 : ℝ) : EReal) := by
  simp [Ideal.ofBits, Ideal.ieee, -EReal.coe_mul, -EReal.coe_neg]; norm_num
theorem b_40B50400 : Ideal.ofBits .f32 0x40B50400#32 = ((23170 / 4096 : ℝ) : EReal) := by
  simp [Ideal.ofBits, Ideal.ieee, -EReal.coe_mul, -EReal.coe_neg]; norm_num
theorem b_44404000 : Ideal.ofBits .f32 0x44404000#32 = ((769 : ℝ) : EReal) := by
  simp [Ideal.ofBits, Ideal.ieee, -EReal.coe_mul, -EReal.coe_neg]; norm_num
theorem b_44400000 : Ideal.ofBits .f32 0x44400000#32 = ((768 : ℝ) : EReal) := by
  simp [Ideal.ofBits, Ideal.ieee, -EReal.coe_mul, -EReal.coe_neg]; norm_num
theorem b_46800000 : Ideal.ofBits .f32 0x46800000#32 = ((16384 : ℝ) : EReal) := by
  simp [Ideal.ofBits, Ideal.ieee, -EReal.coe_mul, -EReal.coe_neg]; norm_num
theorem b_43C00000 : Ideal.ofBits .f32 0x43C00000#32 = ((384 : ℝ) : EReal) := by
  simp [Ideal.ofBits, Ideal.ieee, -EReal.coe_mul, -EReal.coe_neg]; norm_num
theorem b_47000000 : Ideal.ofBits .f32 0x47000000#32 = ((32768 : ℝ) : EReal) := by
  simp [Ideal.ofBits, Ideal.ieee, -EReal.coe_mul, -EReal.coe_neg]; norm_num
theorem b_C7000000 : Ideal.ofBits .f32 0xC7000000#32 = ((-32768 : ℝ) : EReal) := by
  simp [Ideal.ofBits, Ideal.ieee, -EReal.coe_mul, -EReal.coe_neg]; norm_num
theorem b_46FFFE00 : Ideal.ofBits .f32 0x46FFFE00#32 = ((32767 : ℝ) : EReal) := by
  simp [Ideal.ofBits, Ideal.ieee, -EReal.coe_mul, -EReal.coe_neg]; norm_num
theorem b_3A000000 : Ideal.ofBits .f32 0x3A000000#32 = ((1 / 2048 : ℝ) : EReal) := by
  simp [Ideal.ofBits, Ideal.ieee, -EReal.coe_mul, -EReal.coe_neg]; norm_num
theorem b_39800000 : Ideal.ofBits .f32 0x39800000#32 = ((1 / 4096 : ℝ) : EReal) := by
  simp [Ideal.ofBits, Ideal.ieee, -EReal.coe_mul, -EReal.coe_neg]; norm_num
theorem b_43BF8000 : Ideal.ofBits .f32 0x43BF8000#32 = ((383 : ℝ) : EReal) := by
  simp [Ideal.ofBits, Ideal.ieee, -EReal.coe_mul, -EReal.coe_neg]; norm_num
theorem b_43C07FFF : Ideal.ofBits .f32 0x43C07FFF#32 = ((12615679 / 32768 : ℝ) : EReal) := by
  simp [Ideal.ofBits, Ideal.ieee, -EReal.coe_mul, -EReal.coe_neg]; norm_num
theorem b_4B3FFF80 : Ideal.ofBits .f32 0x4B3FFF80#32 = ((12582784 : ℝ) : EReal) := by
  simp [Ideal.ofBits, Ideal.ieee, -EReal.coe_mul, -EReal.coe_neg]
theorem b_4B40007F : Ideal.ofBits .f32 0x4B40007F#32 = ((12583039 : ℝ) : EReal) := by
  simp [Ideal.ofBits, Ideal.ieee, -EReal.coe_mul, -EReal.coe_neg]
theorem b_4B400000 : Ideal.ofBits .f32 0x4B400000#32 = ((12582912 : ℝ) : EReal) := by
  simp [Ideal.ofBits, Ideal.ieee, -EReal.coe_mul, -EReal.coe_neg]
theorem b_C3000000 : Ideal.ofBits .f32 0xC3000000#32 = ((-128 : ℝ) : EReal) := by
  simp [Ideal.ofBits, Ideal.ieee, -EReal.coe_mul, -EReal.coe_neg]; norm_num
theorem b_42FE0000 : Ideal.ofBits .f32 0x42FE0000#32 = ((127 : ℝ) : EReal) := by
  simp [Ideal.ofBits, Ideal.ieee, -EReal.coe_mul, -EReal.coe_neg]; norm_num

/-! ### Clips -/

/-- A real, clipped. -/
def clip (lo hi r : ℝ) : ℝ := min hi (max lo r)

theorem coe_min (a b : ℝ) : min (a : EReal) (b : EReal) = ((min a b : ℝ) : EReal) :=
  (EReal.coe_strictMono.monotone.map_min).symm
theorem coe_max (a b : ℝ) : max (a : EReal) (b : EReal) = ((max a b : ℝ) : EReal) :=
  (EReal.coe_strictMono.monotone.map_max).symm

theorem clip_coe (lo hi r : ℝ) : min (hi : EReal) (max (lo : EReal) (r : EReal)) = (clip lo hi r : ℝ) := by
  rw [coe_max, coe_min]; rfl

theorem clip_mem {lo hi : ℝ} (h : lo ≤ hi) (r : ℝ) : lo ≤ clip lo hi r ∧ clip lo hi r ≤ hi :=
  ⟨le_min h (le_max_left _ _), min_le_left _ _⟩

theorem clip_of {lo hi r : ℝ} (h1 : lo ≤ r) (h2 : r ≤ hi) : clip lo hi r = r := by
  unfold clip; rw [max_eq_right h1, min_eq_right h2]

theorem clip_mul {c : ℝ} (hc : 0 ≤ c) (lo hi r : ℝ) : clip (lo * c) (hi * c) (r * c) = clip lo hi r * c := by
  unfold clip; rw [min_mul_of_nonneg _ _ hc, max_mul_of_nonneg _ _ hc]

theorem clip_add (lo hi r z : ℝ) : clip (lo + z) (hi + z) (r + z) = clip lo hi r + z := by
  unfold clip; rw [max_add_add_right, min_add_add_right]

/-- A clip done twice, as the kernel does it. -/
theorem clamp_eq {lo hi : ℝ} (h : lo ≤ hi) (x : EReal) :
    min (max (min (max x (lo : EReal)) (hi : EReal)) (lo : EReal)) (hi : EReal) = min (hi : EReal) (max (lo : EReal) x) := by
  have h' : (lo : EReal) ≤ (hi : EReal) := EReal.coe_le_coe_iff.mpr h
  have e : min (max x (lo : EReal)) (hi : EReal) = min (hi : EReal) (max (lo : EReal) x) := by rw [max_comm, min_comm]
  rw [e, max_eq_left (le_min h' (le_max_left _ _)), min_eq_left (min_le_left _ _)]

/-- A clip of any extended real is a real; one of a multiple is that multiple. -/
theorem clip_real {lo hi : ℝ} (h : lo ≤ hi) (x : EReal) : ∃ r : ℝ, lo ≤ r ∧ r ≤ hi ∧ min (hi : EReal) (max (lo : EReal) x) = (r : ℝ) ∧
    ∀ c : ℝ, 0 < c → min ((hi * c : ℝ) : EReal) (max ((lo * c : ℝ) : EReal) (x * (c : EReal))) = ((r * c : ℝ) : EReal) := by
  induction x with
  | bot =>
    refine ⟨lo, le_rfl, h, ?_, fun c hc => ?_⟩
    · rw [max_eq_left bot_le, min_eq_right (EReal.coe_le_coe_iff.mpr h)]
    · rw [EReal.bot_mul_coe_of_pos hc, max_eq_left bot_le, min_eq_right (EReal.coe_le_coe_iff.mpr (mul_le_mul_of_nonneg_right h hc.le))]
  | top =>
    refine ⟨hi, h, le_rfl, ?_, fun c hc => ?_⟩
    · rw [max_eq_right le_top, min_eq_left le_top]
    · rw [EReal.top_mul_coe_of_pos hc, max_eq_right le_top, min_eq_left le_top]
  | coe r =>
    refine ⟨clip lo hi r, (clip_mem h r).1, (clip_mem h r).2, clip_coe _ _ _, fun c hc => ?_⟩
    rw [← EReal.coe_mul, clip_coe, clip_mul hc.le]

/-! ### Rounding -/

theorem rhe_bounds {a b : ℤ} {r : ℝ} (h1 : (a : ℝ) ≤ r) (h2 : r ≤ (b : ℝ)) : a ≤ Ideal.roundHalfEven r ∧ Ideal.roundHalfEven r ≤ b := by
  have ha : a ≤ ⌊r⌋ := Int.le_floor.mpr h1
  have hb : ⌊r⌋ ≤ b := by exact_mod_cast (Int.floor_le r).trans h2
  have hs : ∀ _ : (1 : ℝ) / 2 ≤ r - ⌊r⌋, ⌊r⌋ + 1 ≤ b := by
    intro h
    have : ((⌊r⌋ : ℤ) : ℝ) < (b : ℝ) := by linarith
    have := (Int.cast_lt (R := ℝ)).mp this
    omega
  unfold Ideal.roundHalfEven
  dsimp only
  split_ifs with h3 h4 h5
  · exact ⟨ha, hb⟩
  · exact ⟨by omega, hs h4.le⟩
  · exact ⟨ha, hb⟩
  · exact ⟨by omega, hs (not_lt.mp h3)⟩

theorem rhe_le_of_lt {b : ℤ} {r : ℝ} (h : r < (b : ℝ) + 1 / 2) : Ideal.roundHalfEven r ≤ b := by
  have hf := Int.floor_le r
  have hb : ⌊r⌋ ≤ b := by
    have : ((⌊r⌋ : ℤ) : ℝ) < ((b + 1 : ℤ) : ℝ) := by push_cast; linarith
    have := (Int.cast_lt (R := ℝ)).mp this
    omega
  have hs : ∀ _ : (1 : ℝ) / 2 ≤ r - ⌊r⌋, ⌊r⌋ + 1 ≤ b := by
    intro h'
    have : ((⌊r⌋ : ℤ) : ℝ) < (b : ℝ) := by linarith
    have := (Int.cast_lt (R := ℝ)).mp this
    omega
  unfold Ideal.roundHalfEven
  dsimp only
  split_ifs with h3 h4 h5
  · exact hb
  · exact hs h4.le
  · exact hb
  · exact hs (not_lt.mp h3)

theorem le_rhe_of_lt {b : ℤ} {r : ℝ} (h : (b : ℝ) - 1 / 2 < r) : b ≤ Ideal.roundHalfEven r := by
  have hf := Int.lt_floor_add_one r
  have hb : b - 1 ≤ ⌊r⌋ := by
    have : ((b - 1 : ℤ) : ℝ) - 1 < ((⌊r⌋ : ℤ) : ℝ) := by push_cast; linarith
    have : ((b - 1 - 1 : ℤ) : ℝ) < ((⌊r⌋ : ℤ) : ℝ) := by push_cast at this ⊢; linarith
    have := (Int.cast_lt (R := ℝ)).mp this
    omega
  have hs : ∀ _ : r - ⌊r⌋ ≤ (1 : ℝ) / 2, b ≤ ⌊r⌋ := by
    intro h'
    have : ((b - 1 : ℤ) : ℝ) < ((⌊r⌋ : ℤ) : ℝ) := by push_cast; linarith
    have := (Int.cast_lt (R := ℝ)).mp this
    omega
  unfold Ideal.roundHalfEven
  dsimp only
  split_ifs with h3 h4 h5
  · exact hs h3.le
  · omega
  · exact hs (not_lt.mp h4)
  · omega

theorem rhe_int (n : ℤ) : Ideal.roundHalfEven (n : ℝ) = n := by
  obtain ⟨h1, h2⟩ := rhe_bounds (a := n) (b := n) (r := (n : ℝ)) le_rfl le_rfl
  omega

theorem round_coe (r : ℝ) : Ideal.liftRound Ideal.roundHalfEven (r : EReal) = ((Ideal.roundHalfEven r : ℤ) : ℝ) := rfl

/-- Rounding a clip at integers is clipping the rounding. -/
theorem rhe_clip {a b : ℤ} (h : a ≤ b) (r : ℝ) : ((Ideal.roundHalfEven (clip a b r) : ℤ) : ℝ) = clip a b ((Ideal.roundHalfEven r : ℤ) : ℝ) := by
  have hab : (a : ℝ) ≤ b := by exact_mod_cast h
  rcases le_total r a with h1 | h1
  · have e : clip a b r = a := by unfold clip; rw [max_eq_left h1, min_eq_right hab]
    have h2 : Ideal.roundHalfEven r ≤ a := rhe_le_of_lt (by linarith)
    have h2' : ((Ideal.roundHalfEven r : ℤ) : ℝ) ≤ a := by exact_mod_cast h2
    rw [e, rhe_int]; unfold clip; rw [max_eq_left h2', min_eq_right hab]
  · rcases le_total (b : ℝ) r with h3 | h3
    · have e : clip a b r = b := by unfold clip; rw [max_eq_right h1, min_eq_left h3]
      have h2 : b ≤ Ideal.roundHalfEven r := le_rhe_of_lt (by linarith)
      have h2' : (b : ℝ) ≤ ((Ideal.roundHalfEven r : ℤ) : ℝ) := by exact_mod_cast h2
      rw [e, rhe_int]; unfold clip; rw [max_eq_right (hab.trans h2'), min_eq_left h2']
    · obtain ⟨h4, h5⟩ := rhe_bounds h1 h3
      rw [clip_of h1 h3, clip_of (by exact_mod_cast h4) (by exact_mod_cast h5)]

theorem fptosi_int (n : ℤ) (h1 : -2147483648 ≤ n) (h2 : n ≤ 2147483647) : Ideal.fptosi 32 ((n : ℝ) : EReal) = BitVec.ofInt 32 n := by
  unfold Ideal.fptosi
  rw [Ideal.toIntClamped_coe]
  refine congrArg _ ?_
  simp only [Int.floor_intCast, Int.ceil_intCast, ite_self]
  norm_num
  omega

/-! ### The activations -/

theorem tanh_half (x : ℝ) : (1 + Real.tanh x) / 2 = 1 / (1 + Real.exp (-(2 * x))) := by
  have e : Real.exp (-(2 * x)) = Real.exp (-x) / Real.exp x := by rw [← Real.exp_sub]; ring_nf
  have h1 := Real.exp_pos x
  have h2 := Real.exp_pos (-x)
  rw [Real.tanh_eq_sinh_div_cosh, Real.sinh_eq, Real.cosh_eq, e]
  field_simp
  ring

theorem exp_one_near : |Real.exp 1 - 2.718281| ≤ 0.00001 := by
  have h := Real.exp_bound (x := 1) (by norm_num) (n := 10) (by norm_num)
  simp only [Finset.sum_range_succ, Finset.sum_range_zero, Nat.factorial, one_pow] at h
  norm_num at h
  rw [abs_le] at h ⊢
  constructor <;> linarith [h.1, h.2]
theorem exp_one_hi : Real.exp 1 < 2.7183 := by
  have h := (abs_le.mp exp_one_near).2
  linarith
theorem exp_one_lo : 2.718 < Real.exp 1 := by
  have h := (abs_le.mp exp_one_near).1
  linarith

theorem exp_eight : Real.exp 8 < 32767 := by
  have h : Real.exp 8 = Real.exp 1 ^ 8 := by rw [← Real.exp_nat_mul]; norm_num
  rw [h]
  calc Real.exp 1 ^ 8 < 2.7183 ^ 8 := pow_lt_pow_left₀ exp_one_hi (Real.exp_pos 1).le (by norm_num)
    _ < 32767 := by norm_num

/-- The logistic function at 2^15, on the range that a gate has. -/
theorem sig_mem {v : ℝ} (h : v ≤ 32767) : 0 ≤ 1 / (1 + Real.exp (-(v / 4096))) * 32768 ∧ 1 / (1 + Real.exp (-(v / 4096))) * 32768 ≤ 32767 := by
  have h1 := Real.exp_pos (-(v / 4096))
  refine ⟨by positivity, ?_⟩
  have h2 : 1 / 32767 ≤ Real.exp (-(v / 4096)) := by
    have : Real.exp (-8) ≤ Real.exp (-(v / 4096)) := Real.exp_le_exp.mpr (by linarith)
    refine le_trans ?_ this
    rw [Real.exp_neg, one_div]
    exact inv_anti₀ (Real.exp_pos 8) exp_eight.le
  rw [div_mul_eq_mul_div, div_le_iff₀ (by positivity)]
  linarith

theorem tanh_form (x : ℝ) : Real.tanh x = 1 - 2 / (Real.exp (2 * x) + 1) := by
  have e : Real.exp (2 * x) = Real.exp x * Real.exp x := by rw [← Real.exp_add]; ring_nf
  have h1 := Real.exp_pos x
  rw [Real.tanh_eq_sinh_div_cosh, Real.sinh_eq, Real.cosh_eq, e, Real.exp_neg]
  field_simp
  ring

theorem tanh_lo {x : ℝ} (h : 23170 / 4096 ≤ x) : 32766.5 < Real.tanh x * 32768 := by
  have h1 : (44000 : ℝ) < Real.exp (2 * x) := by
    have : Real.exp 11 ≤ Real.exp (2 * x) := Real.exp_le_exp.mpr (by linarith)
    refine lt_of_lt_of_le ?_ this
    have h : Real.exp 11 = Real.exp 1 ^ 11 := by rw [← Real.exp_nat_mul]; norm_num
    rw [h]
    calc (44000 : ℝ) < 2.718 ^ 11 := by norm_num
      _ < Real.exp 1 ^ 11 := pow_lt_pow_left₀ exp_one_lo (by norm_num) (by norm_num)
  rw [tanh_form]
  have : 2 / (Real.exp (2 * x) + 1) < 2 / 44000 := by
    apply div_lt_div_of_pos_left <;> linarith
  linarith

theorem tanh_hi {x : ℝ} (h : x ≤ 23170 / 4096) : Real.tanh x * 32768 < 32767.5 := by
  have h1 : Real.exp (2 * x) < 131000 := by
    have : Real.exp (2 * x) ≤ Real.exp (23 / 2) := Real.exp_le_exp.mpr (by linarith)
    refine lt_of_le_of_lt this ?_
    have h : Real.exp (23 / 2) ^ 2 = Real.exp 1 ^ 23 := by rw [← Real.exp_nat_mul, ← Real.exp_nat_mul]; norm_num
    refine lt_of_pow_lt_pow_left₀ 2 (by norm_num) ?_
    rw [h]
    calc Real.exp 1 ^ 23 < 2.7183 ^ 23 := pow_lt_pow_left₀ exp_one_hi (Real.exp_pos 1).le (by norm_num)
      _ < 131000 ^ 2 := by norm_num
  rw [tanh_form]
  have hp := Real.exp_pos (2 * x)
  have : 2 / 131001 < 2 / (Real.exp (2 * x) + 1) := by
    apply div_lt_div_of_pos_left <;> linarith
  linarith

theorem tanh_gt (x : ℝ) : -32768 ≤ Real.tanh x * 32768 := by
  have := Real.neg_one_lt_tanh x; linarith

/-- The kernel bounds the argument of the tanh where the reference bounds its rounding. -/
theorem tanh_round {v : ℝ} : Ideal.roundHalfEven (Real.tanh (min 23170 v / 4096) * 32768) = min 32767 (Ideal.roundHalfEven (Real.tanh (v / 4096) * 32768)) := by
  rcases le_total v 23170 with h | h
  · rw [min_eq_right h, min_eq_right]
    exact rhe_le_of_lt (lt_of_lt_of_eq (tanh_hi (by linarith)) (by norm_num))
  · rw [min_eq_left h]
    have h1 : Ideal.roundHalfEven (Real.tanh (23170 / 4096) * 32768) ≤ 32767 := rhe_le_of_lt (lt_of_lt_of_eq (tanh_hi le_rfl) (by norm_num))
    have h2 : 32767 ≤ Ideal.roundHalfEven (Real.tanh (23170 / 4096) * 32768) := le_rhe_of_lt (lt_of_eq_of_lt (by norm_num) (tanh_lo le_rfl))
    have h3 : 32767 ≤ Ideal.roundHalfEven (Real.tanh (v / 4096) * 32768) := le_rhe_of_lt (lt_of_eq_of_lt (by norm_num) (tanh_lo (by linarith)))
    rw [min_eq_left h3]; omega

end Cert.Arith

end
-- ==== Proof.Val.Words.lean ====
module

public import proofs.«01_k».proof.Proof.Val.Math
public import Idealize.ShloMosaic.PureOps

@[expose] public section

noncomputable section

namespace Cert.Arith

open Idealize.ShloMosaic

/-! ### The reference's cell, one place of it -/

/-- An accumulator, scaled and clipped. -/
def rqR (s : EReal) (a : BitVec 32) : EReal :=
  min (Ideal.ofBits .f32 0x46FFFE00#32) (max (Ideal.ofBits .f32 0xC7000000#32) (((a.toInt : ℝ) : EReal) * s))
/-- A gate before its activation. -/
def preR (sx sh : EReal) (ax ah : BitVec 32) : EReal :=
  min (Ideal.ofBits .f32 0x46FFFE00#32) (max (Ideal.ofBits .f32 0xC7000000#32) (rqR sx ax + rqR sh ah))
/-- The logistic function of a gate, in 2^-15. -/
def sgR (v : EReal) : EReal :=
  min (Ideal.ofBits .f32 0x46FFFE00#32) (max (Ideal.ofBits .f32 0x00000000#32)
    (Ideal.div (Ideal.ofBits .f32 0x3F800000#32) (Ideal.ofBits .f32 0x3F800000#32
      + Ideal.exp (Ideal.ofBits .f32 0x00000000#32 - v * Ideal.ofBits .f32 0x39800000#32)) * Ideal.ofBits .f32 0x47000000#32))
/-- The same, rounded. -/
def siR (v : EReal) : BitVec 32 :=
  Ideal.fptosi 32 (min (Ideal.ofBits .f32 0x46FFFE00#32) (max (Ideal.ofBits .f32 0x00000000#32) (Ideal.liftRound Ideal.roundHalfEven (sgR v))))
/-- The tanh of a gate, in 2^-15, rounded. -/
def taR (v : EReal) : BitVec 32 :=
  Ideal.fptosi 32 (min (Ideal.ofBits .f32 0x46FFFE00#32) (max (Ideal.ofBits .f32 0xC7000000#32)
    (Ideal.liftRound Ideal.roundHalfEven (Ideal.tanh (v * Ideal.ofBits .f32 0x39800000#32) * Ideal.ofBits .f32 0x47000000#32))))
/-- A rounding division by a power of two. -/
def rdR (e mask thr v : BitVec 32) : BitVec 32 :=
  IntOp.addi (IntOp.shrsi .vector v e) ((IntOp.cmpi .sgt (IntOp.andi v mask) (IntOp.addi thr ((IntOp.cmpi .slt v 0#32).setWidth 32))).setWidth 32)
/-- The new cell state, from the three gates and the old one. -/
def ceR (i f g : BitVec 32) (c : BitVec 16) : BitVec 16 :=
  (IntOp.minsi 32767#32 (IntOp.maxsi 4294934528#32 (IntOp.addi (rdR 15#32 32767#32 16383#32 (IntOp.muli f (c.signExtend 32)))
    (rdR 19#32 524287#32 262143#32 (IntOp.muli i g))))).setWidth 16
/-- The new hidden state, from the output gate and the new cell state. -/
def hiR (o os : EReal) (zp : BitVec 32) (cn : BitVec 16) : BitVec 8 :=
  (Ideal.fptosi 32 (min (Ideal.ofBits .f32 0x42FE0000#32) (max (Ideal.ofBits .f32 0xC3000000#32)
    (Ideal.liftRound Ideal.roundHalfEven (o * min (Ideal.ofBits .f32 0x46FFFE00#32) (max (Ideal.ofBits .f32 0xC7000000#32)
      (Ideal.tanh ((((cn.signExtend 32).toInt : ℝ) : EReal) * Ideal.ofBits .f32 0x3A000000#32) * Ideal.ofBits .f32 0x47000000#32)) * os)
      + ((zp.toInt : ℝ) : EReal))))).setWidth 8

/-- The new cell state of one cell of the reference. -/
def cellR (sx sh : Fin 4 → EReal) (ax ah : Fin 4 → BitVec 32) (c : BitVec 16) : BitVec 16 :=
  ceR (siR (preR (sx 0) (sh 0) (ax 0) (ah 0))) (siR (preR (sx 1) (sh 1) (ax 1) (ah 1))) (taR (preR (sx 2) (sh 2) (ax 2) (ah 2))) c
/-- The new hidden state of one cell of the reference. -/
def hidR (sx sh : Fin 4 → EReal) (os : EReal) (zp : BitVec 32) (ax ah : Fin 4 → BitVec 32) (c : BitVec 16) : BitVec 8 :=
  hiR (sgR (preR (sx 3) (sh 3) (ax 3) (ah 3))) os zp (cellR sx sh ax ah c)

/-- An accumulator: the offset and the products, added as words. -/
def accS {K : ℕ} (x w : Fin K → BitVec 8) (o : BitVec 32) : BitVec 32 := o + BitVec.ofInt 32 (∑ k, (x k).toInt * (w k).toInt)

/-! ### Words as integers -/

theorem toInt_ofInt32 {n : ℤ} (h1 : -2147483648 ≤ n) (h2 : n ≤ 2147483647) : (BitVec.ofInt 32 n).toInt = n := by
  rw [BitVec.toInt_ofInt]
  exact Int.bmod_eq_of_le (by norm_num; omega) (by norm_num; omega)

theorem sh_ofInt {n : ℤ} (h1 : -2147483648 ≤ n) (h2 : n ≤ 2147483647) (k : BitVec 32) (hk : k.toNat < 32) :
    IntOp.shrsi .vector (BitVec.ofInt 32 n) k = BitVec.ofInt 32 (n / 2 ^ k.toNat) := by
  unfold IntOp.shrsi
  rw [if_pos hk]
  refine BitVec.eq_of_toInt_eq ?_
  have hp : (0 : ℤ) < 2 ^ k.toNat := by positivity
  have h3 : n / 2 ^ k.toNat ≤ 2147483647 := by
    rcases le_total 0 n with h | h
    · exact (Int.ediv_le_self _ h).trans h2
    · exact (Int.ediv_nonpos_of_nonpos_of_neg h hp).trans (by norm_num)
  have h4 : -2147483648 ≤ n / 2 ^ k.toNat := by
    rw [Int.le_ediv_iff_mul_le hp]
    have : (1 : ℤ) ≤ 2 ^ k.toNat := hp
    nlinarith
  rw [toInt_ofInt32 h4 h3, BitVec.sshiftRight', BitVec.toInt_sshiftRight, toInt_ofInt32 h1 h2, Int.shiftRight_eq_div_pow]
  norm_cast

theorem and_ofInt (n : ℤ) (k : ℕ) (hk : k ≤ 31) : BitVec.ofInt 32 n &&& BitVec.ofNat 32 (2 ^ k - 1) = BitVec.ofInt 32 (n % 2 ^ k) := by
  refine BitVec.eq_of_toNat_eq ?_
  have h2 : (2 : ℕ) ^ k ≤ 2 ^ 31 := Nat.pow_le_pow_right (by norm_num) hk
  rw [BitVec.toNat_and, BitVec.toNat_ofNat, Nat.mod_eq_of_lt (a := 2 ^ k - 1) (by omega), Nat.and_two_pow_sub_one_eq_mod, BitVec.toNat_ofInt, BitVec.toNat_ofInt]
  have hp : (0 : ℤ) < 2 ^ k := by positivity
  have hd : ((2 : ℤ) ^ k) ∣ ((2 ^ 32 : ℕ) : ℤ) := by
    rw [Nat.cast_pow, Nat.cast_ofNat]; exact pow_dvd_pow _ (show k ≤ 32 by omega)
  have hl : n % 2 ^ k < 2 ^ 31 := lt_of_lt_of_le (Int.emod_lt_of_pos n hp) (by exact_mod_cast h2)
  have h0 : 0 ≤ n % 2 ^ k := Int.emod_nonneg n hp.ne'
  have e1 : (n % 2 ^ k) % ((2 ^ 32 : ℕ) : ℤ) = n % 2 ^ k := Int.emod_eq_of_lt h0 (by push_cast; omega)
  rw [e1]
  have h5 : 0 ≤ n % ((2 ^ 32 : ℕ) : ℤ) := Int.emod_nonneg n (by norm_num)
  have e2 : ((((n % ((2 ^ 32 : ℕ) : ℤ)).toNat % 2 ^ k : ℕ) : ℤ)) = (((n % 2 ^ k).toNat : ℕ) : ℤ) := by
    rw [Int.natCast_mod, Int.toNat_of_nonneg h5, Int.toNat_of_nonneg h0]
    have e3 : ((2 ^ k : ℕ) : ℤ) = (2 : ℤ) ^ k := by push_cast; rfl
    rw [e3, Int.emod_emod_of_dvd n hd]
  exact_mod_cast e2

theorem slt_ofInt {a b : ℤ} (a1 : -2147483648 ≤ a) (a2 : a ≤ 2147483647) (b1 : -2147483648 ≤ b) (b2 : b ≤ 2147483647) :
    (BitVec.ofInt 32 a).slt (BitVec.ofInt 32 b) = decide (a < b) := by
  rw [BitVec.slt_eq_decide, toInt_ofInt32 a1 a2, toInt_ofInt32 b1 b2]

theorem bool_ofInt (p : Prop) [Decidable p] : (BitVec.ofBool (decide p)).setWidth 32 = BitVec.ofInt 32 (if p then 1 else 0) := by
  by_cases h : p <;> simp [h] <;> decide

/-- The reference's rounding division of a word in range. -/
theorem rdR_eq {n : ℤ} (h1 : -1073741824 ≤ n) (h2 : n ≤ 1073741824) (k : ℕ) (e mask thr : BitVec 32) (he : e.toNat = k) (hk : k ≤ 19)
    (hm : mask = BitVec.ofNat 32 (2 ^ k - 1)) {T : ℤ} (ht : thr = BitVec.ofInt 32 T) (hT : 0 ≤ T ∧ T ≤ 1073741824) :
    rdR e mask thr (BitVec.ofInt 32 n) = BitVec.ofInt 32 (n / 2 ^ k + if T + (if n < 0 then 1 else 0) < n % 2 ^ k then 1 else 0) := by
  have hp : (0 : ℤ) < 2 ^ k := by positivity
  have hp2 : (2 : ℤ) ^ k ≤ 2 ^ 19 := pow_le_pow_right₀ (by norm_num) hk
  have h0 : 0 ≤ n % 2 ^ k := Int.emod_nonneg n hp.ne'
  have hl := Int.emod_lt_of_pos n hp
  unfold rdR IntOp.addi IntOp.andi IntOp.cmpi
  dsimp only
  rw [sh_ofInt (by omega) (by omega) e (by omega), he, hm, and_ofInt n k (by omega), ht, show (0#32) = BitVec.ofInt 32 0 from rfl,
    slt_ofInt (by omega) (by omega) (by omega) (by omega), bool_ofInt, ← BitVec.ofInt_add,
    slt_ofInt (by split <;> omega) (by split <;> omega) (by omega) (by omega), bool_ofInt, ← BitVec.ofInt_add]

end Cert.Arith

end
-- ==== Proof.Val.RefPay.lean ====
module

public import proofs.«01_k».proof.Proof.Val.Words
public import proofs.«01_k».proof.Proof.Gen.ReferenceIdeal.Skeleton
public import Idealize.ShloMosaic.PureOps.Ideal.Laws
public import Idealize.ShloMosaic.Lib.IntMxu
public import Idealize.ShloMosaic.Lib.ValueLayout
public import Idealize.ShloMosaic.Lib.Pointwise.Contract

@[expose] public section

set_option maxRecDepth 16384
set_option maxHeartbeats 4000000

noncomputable section

namespace Cert.RefVal

open Cert.ReferenceIdeal Cert.ReferenceIdeal.Gen Cert.Arith
open Idealize.ShloMosaic Idealize.ShloMosaic.TcCoe
open Idealize.SL Idealize.SL.Sem

/-- The input's accumulator at a place. -/
theorem accx_eq (X : IVec S4096x40 8) (w : IVec S1x40x144 8) (o : IVec S1x1x144 32) (r : Fin 4096) (j : Fin 144) :
    addi (broadcastTo S4096x144 (shapeCast S1x144 o shapeCasts_S1x1x144_S1x144) broadcasts_S1x144_S4096x144)
      (matmulI8 IntMxuNumerics.v7x dot_S4096x40_S40x144_S4096x144_1_0_0_1_n_n X (shapeCast S40x144 w shapeCasts_S1x40x144_S40x144) (constantI S4096x144 32 0#32)) (ix2 r j)
      = accS (fun k => X (ix2 r k)) (fun k => w (ix3 0 k j)) (o (ix3 0 0 j)) := by
  have e1 : broadcastTo S4096x144 (shapeCast S1x144 o shapeCasts_S1x1x144_S1x144) broadcasts_S1x144_S4096x144 (ix2 r j) = o (ix3 0 0 j) := by
    refine Eq.trans ?_ (ValueIdx.shapeCast_1ab_ab_apply o shapeCasts_S1x1x144_S1x144 0 j)
    rfl
  have e2 : matmulI8 IntMxuNumerics.v7x dot_S4096x40_S40x144_S4096x144_1_0_0_1_n_n X (shapeCast S40x144 w shapeCasts_S1x40x144_S40x144) (constantI S4096x144 32 0#32) (ix2 r j)
      = BitVec.ofInt 32 (∑ k : Fin 40, (X (ix2 r k)).toInt * (w (ix3 0 k j)).toInt) := by
    rw [matmulI8_exact_of_numel _ _ _ _ _ _ rfl (by decide)]
    congr 1
    refine (DotDims.sum_contr₁ _ rfl rfl _).trans (Finset.sum_congr rfl fun k _ => ?_)
    refine congrArg₂ (fun a b : BitVec 8 => a.toInt * b.toInt) (congrArg X ?_) (Eq.trans (congrArg _ ?_) (ValueIdx.shapeCast_1ab_ab_apply w shapeCasts_S1x40x144_S40x144 k j))
    · funext p; fin_cases p <;> rfl
    · funext p; fin_cases p <;> rfl
  exact congrArg₂ (· + ·) e1 e2

/-- The hidden state's accumulator at a place. -/
theorem acch_eq (X : IVec S4096x144 8) (w : IVec S1x144x144 8) (o : IVec S1x1x144 32) (r : Fin 4096) (j : Fin 144) :
    addi (broadcastTo S4096x144 (shapeCast S1x144 o shapeCasts_S1x1x144_S1x144) broadcasts_S1x144_S4096x144)
      (matmulI8 IntMxuNumerics.v7x dot_S4096x144_S144x144_S4096x144_1_0_0_1_n_n X (shapeCast S144x144 w shapeCasts_S1x144x144_S144x144) (constantI S4096x144 32 0#32)) (ix2 r j)
      = accS (fun k => X (ix2 r k)) (fun k => w (ix3 0 k j)) (o (ix3 0 0 j)) := by
  have e1 : broadcastTo S4096x144 (shapeCast S1x144 o shapeCasts_S1x1x144_S1x144) broadcasts_S1x144_S4096x144 (ix2 r j) = o (ix3 0 0 j) := by
    refine Eq.trans ?_ (ValueIdx.shapeCast_1ab_ab_apply o shapeCasts_S1x1x144_S1x144 0 j)
    rfl
  have e2 : matmulI8 IntMxuNumerics.v7x dot_S4096x144_S144x144_S4096x144_1_0_0_1_n_n X (shapeCast S144x144 w shapeCasts_S1x144x144_S144x144) (constantI S4096x144 32 0#32) (ix2 r j)
      = BitVec.ofInt 32 (∑ k : Fin 144, (X (ix2 r k)).toInt * (w (ix3 0 k j)).toInt) := by
    rw [matmulI8_exact_of_numel _ _ _ _ _ _ rfl (by decide)]
    congr 1
    refine (DotDims.sum_contr₁ _ rfl rfl _).trans (Finset.sum_congr rfl fun k _ => ?_)
    refine congrArg₂ (fun a b : BitVec 8 => a.toInt * b.toInt) (congrArg X ?_) (Eq.trans (congrArg _ ?_) (ValueIdx.shapeCast_1ab_ab_apply w shapeCasts_S1x144x144_S144x144 k j))
    · funext p; fin_cases p <;> rfl
    · funext p; fin_cases p <;> rfl
  exact congrArg₂ (· + ·) e1 e2

/-- A gate of the reference before its activation, over its vectors. -/
theorem gate0_eq (H : IVec S4096x144 8) (v9 : IVec S1x4096x40 8) (ox : IVec S1x1x144 32) (wx : IVec S1x40x144 8) (oh : IVec S1x1x144 32) (wh : IVec S1x144x144 8) (sx sh : EReal)
    (r : Fin 4096) (j : Fin 144) :
    k0_pay7 (F := Ideal) (k0_pay5 (F := Ideal) H v9 ox wx oh wh sx sh) (Scalar.ofBits .f32 0x46FFFE00#32) (k0_pay6 (F := Ideal)) (ix2 r j)
      = preR sx sh (accS (fun k => v9 (ix3 0 r k)) (fun k => wx (ix3 0 k j)) (ox (ix3 0 0 j))) (accS (fun k => H (ix2 r k)) (fun k => wh (ix3 0 k j)) (oh (ix3 0 0 j))) := by
  rw [← acch_eq H wh oh r j]
  have e : (fun k => v9 (ix3 0 r k)) = fun k => k0_pay4 (F := Ideal) v9 (ix2 r k) := by
    funext k; exact (ValueIdx.shapeCast_1ab_ab_apply v9 shapeCasts_S1x4096x40_S4096x40 r k).symm
  rw [e, ← accx_eq (k0_pay4 (F := Ideal) v9) wx ox r j]
  rfl

theorem gate1_eq (H : IVec S4096x144 8) (v9 : IVec S1x4096x40 8) (ox : IVec S1x1x144 32) (wx : IVec S1x40x144 8) (oh : IVec S1x1x144 32) (wh : IVec S1x144x144 8) (sx sh : EReal)
    (r : Fin 4096) (j : Fin 144) :
    k0_pay8 (F := Ideal) H (k0_pay4 (F := Ideal) v9) ox wx oh wh sx sh (ix2 r j)
      = preR sx sh (accS (fun k => v9 (ix3 0 r k)) (fun k => wx (ix3 0 k j)) (ox (ix3 0 0 j))) (accS (fun k => H (ix2 r k)) (fun k => wh (ix3 0 k j)) (oh (ix3 0 0 j))) := by
  rw [← gate0_eq]
  rfl

theorem gate2_eq (H : IVec S4096x144 8) (v9 : IVec S1x4096x40 8) (ox : IVec S1x1x144 32) (wx : IVec S1x40x144 8) (oh : IVec S1x1x144 32) (wh : IVec S1x144x144 8) (sx sh : EReal) :
    k0_pay9 (F := Ideal) H (k0_pay4 (F := Ideal) v9) ox wx oh wh sx sh = k0_pay8 (F := Ideal) H (k0_pay4 (F := Ideal) v9) ox wx oh wh sx sh := rfl

theorem gate3_eq (H : IVec S4096x144 8) (v9 : IVec S1x4096x40 8) (ox : IVec S1x1x144 32) (wx : IVec S1x40x144 8) (oh : IVec S1x1x144 32) (wh : IVec S1x144x144 8) (sx sh : EReal) :
    k0_pay10 (F := Ideal) H (k0_pay4 (F := Ideal) v9) ox wx oh wh sx sh = k0_pay8 (F := Ideal) H (k0_pay4 (F := Ideal) v9) ox wx oh wh sx sh := rfl

/-- What a step's activations make of its gates and of the old cell state. -/
def newcV (g0 g1 g2 : FVec Ideal S4096x144 .f32) (C : IVec S4096x144 16) : IVec S4096x144 16 :=
  k0_pay1 (k0_pay17 (F := Ideal) (k0_pay12 (F := Ideal) (k0_pay11 (F := Ideal) g0)) (k0_pay14 (F := Ideal) g2) (k0_pay15 (F := Ideal)))
    (k0_pay18 (F := Ideal) C (k0_pay13 (F := Ideal) g1))
    (k0_pay19 (F := Ideal) (k0_pay12 (F := Ideal) (k0_pay11 (F := Ideal) g0)) (k0_pay14 (F := Ideal) g2) (k0_pay15 (F := Ideal)))
    (k0_pay20 (F := Ideal) (k0_pay12 (F := Ideal) (k0_pay11 (F := Ideal) g0)) (k0_pay14 (F := Ideal) g2) (k0_pay15 (F := Ideal)))

/-- The new hidden state likewise. -/
def newhV (zp : BitVec 32) (os : EReal) (g0 g1 g2 g3 : FVec Ideal S4096x144 .f32) (C : IVec S4096x144 16) : IVec S4096x144 8 :=
  k0_pay2 (F := Ideal) zp os (k0_pay16 (F := Ideal) g3) (k0_pay17 (F := Ideal) (k0_pay12 (F := Ideal) (k0_pay11 (F := Ideal) g0)) (k0_pay14 (F := Ideal) g2) (k0_pay15 (F := Ideal)))
    (k0_pay18 (F := Ideal) C (k0_pay13 (F := Ideal) g1))
    (k0_pay19 (F := Ideal) (k0_pay12 (F := Ideal) (k0_pay11 (F := Ideal) g0)) (k0_pay14 (F := Ideal) g2) (k0_pay15 (F := Ideal)))
    (k0_pay20 (F := Ideal) (k0_pay12 (F := Ideal) (k0_pay11 (F := Ideal) g0)) (k0_pay14 (F := Ideal) g2) (k0_pay15 (F := Ideal)))

theorem newcV_eq (g0 g1 g2 : FVec Ideal S4096x144 .f32) (C : IVec S4096x144 16) (y : S4096x144.Idx) :
    newcV g0 g1 g2 C y = ceR (siR (g0 y)) (siR (g1 y)) (taR (g2 y)) (C y) := rfl

theorem newhV_eq (zp : BitVec 32) (os : EReal) (g0 g1 g2 g3 : FVec Ideal S4096x144 .f32) (C : IVec S4096x144 16) (y : S4096x144.Idx) :
    newhV zp os g0 g1 g2 g3 C y = hiR (sgR (g3 y)) os zp (ceR (siR (g0 y)) (siR (g1 y)) (taR (g2 y)) (C y)) := rfl

end Cert.RefVal

end
-- ==== Proof.Val.Spec.lean ====
module

public import proofs.«01_k».proof.Proof.Val.Words

@[expose] public section

noncomputable section

namespace Cert.Arith

open Idealize.ShloMosaic

/-- What the recurrence reads: scales, zero point, the input's accumulators, the hidden state's weights and offsets, the first states. -/
structure Rec where
  /-- the scales of the input's products -/
  sx : Fin 4 → EReal
  /-- the scales of the hidden state's products -/
  sh : Fin 4 → EReal
  /-- the scale of the output -/
  os : EReal
  /-- the zero point of the hidden state -/
  zp : BitVec 32
  /-- the input's accumulators: step, row, unit, gate -/
  ax : ℕ → Fin 4096 → Fin 144 → Fin 4 → BitVec 32
  /-- the hidden state's weights: gate, from, to -/
  wh : Fin 4 → Fin 144 → Fin 144 → BitVec 8
  /-- the hidden state's offsets: gate, unit -/
  oh : Fin 4 → Fin 144 → BitVec 32
  /-- the first hidden state -/
  h0 : Fin 4096 → Fin 144 → BitVec 8
  /-- the first cell state -/
  c0 : Fin 4096 → Fin 144 → BitVec 16

/-- The hidden state's accumulators from a hidden state. -/
def Rec.ah (L : Rec) (H : Fin 4096 → Fin 144 → BitVec 8) (r : Fin 4096) (j : Fin 144) (g : Fin 4) : BitVec 32 :=
  accS (H r) (fun k => L.wh g k j) (L.oh g j)

/-- The states before a step. -/
def Rec.st (L : Rec) : ℕ → (Fin 4096 → Fin 144 → BitVec 8) × (Fin 4096 → Fin 144 → BitVec 16)
  | 0 => (L.h0, L.c0)
  | t + 1 => (fun r j => hidR L.sx L.sh L.os L.zp (L.ax t r j) (L.ah (L.st t).1 r j) ((L.st t).2 r j),
      fun r j => cellR L.sx L.sh (L.ax t r j) (L.ah (L.st t).1 r j) ((L.st t).2 r j))

end Cert.Arith

end
-- ==== Proof.Val.RefTrip.lean ====
module

public import proofs.«01_k».proof.Proof.Val.RefPay
public import proofs.«01_k».proof.Proof.Val.Spec
public import proofs.«01_k».proof.Proof.Gen.ReferenceIdeal.Loops
public import Idealize.ShloMosaic.Lib.Pipeline.FrameBody
public import Idealize.ShloMosaic.Lib.VecWindow

@[expose] public section

set_option maxRecDepth 16384
set_option maxHeartbeats 1000000

noncomputable section

namespace Cert.RefVal

open Cert.ReferenceIdeal Cert.ReferenceIdeal.Gen Cert.Arith
open Idealize.ShloMosaic Idealize.ShloMosaic.TcCoe Idealize.ShloMosaic.Tactic
open Idealize.SL Idealize.SL.Sem

theorem pos1 : 0 < S1.numel := by rw [numel1_S1]; exact Nat.one_pos

theorem trips128 : k0_t1_loop.trips = 128 := by decide

/-- One leading plane of a block of three axes. -/
theorem plane_at {sp : Space} {A B C : ℕ} {e : EltTy} (v : View sig .tc sp ⟨3, ![A, B, C]⟩ e) (f : v.ty.Contents (Elt Ideal)) (off : Fin 3 → ℕ) (g : ℕ) (hg : g < A) (ho : off = ![g, 0, 0])
    (inb : ∀ a, off a + (![1, B, C] : Fin 3 → ℕ) a ≤ (⟨3, ![A, B, C]⟩ : Shape).size a) (r : Fin B) (j : Fin C) :
    v.readAt (Elt Ideal) (Rect.unit (s := ⟨3, ![A, B, C]⟩) off ![1, B, C] inb).toLoadRect f (ix3 (0 : Fin 1) r j) = v.read (Elt Ideal) f (ix3 ⟨g, hg⟩ r j) := by
  subst ho
  rw [View.readAt_unit v f inb rfl inb]
  refine congrArg (v.read (Elt Ideal) f) (funext fun a => Fin.ext ?_)
  match a with
  | ⟨0, _⟩ => show g + 1 * 0 = g; omega
  | ⟨1, _⟩ => show 0 + 1 * r.val = r.val; omega
  | ⟨2, _⟩ => show 0 + 1 * j.val = j.val; omega

/-- One word of a short vector. -/
theorem word_at {sp : Space} {n : ℕ} {e : EltTy} (v : View sig .tc sp ⟨1, ![n]⟩ e) (f : v.ty.Contents (Elt Ideal)) (k : ℕ) (hk : k < n)
    (inb : ∀ a, (![k] : Fin 1 → ℕ) a + S1.size a ≤ (⟨1, ![n]⟩ : Shape).size a) (x : S1.Idx) :
    v.readAt (Elt Ideal) (Rect.unit (s := ⟨1, ![n]⟩) ![k] S1.size inb).toLoadRect f x = v.read (Elt Ideal) f (ix1 ⟨k, hk⟩) := by
  rw [View.readAt_unit v f inb rfl inb]
  refine congrArg (v.read (Elt Ideal) f) (funext fun a => Fin.ext ?_)
  match a with
  | ⟨0, _⟩ =>
    have : (x 0).val < 1 := (x 0).isLt
    show k + 1 * (x 0).val = k
    omega

/-- The place that a trip reads and writes. -/
theorem off1_eq (k : Fin k0_t1_loop.trips) : k0_off1 k = ![k.val, 0, 0] := by
  have h : ∀ k : Fin k0_t1_loop.trips, (Scalar.indexCast (Scf.iv 0#32 1#32 k)).toNat = k.val := by decide
  exact congrArg (fun n => ![n, 0, 0]) (h k)

theorem preR_congr {a a' b b' : EReal} {n : ℕ} {x x' : Fin n → BitVec 8} {w w' : Fin n → BitVec 8} {o o' : BitVec 32} {m : ℕ} {y : Fin m → BitVec 8} {u u' : Fin m → BitVec 8} {q q' : BitVec 32}
    (h1 : a = a') (h2 : b = b') (h3 : ∀ k, x k = x' k) (h4 : ∀ k, w k = w' k) (h5 : o = o') (h6 : ∀ k, u k = u' k) (h7 : q = q') :
    preR a b (accS x w o) (accS y u q) = preR a' b' (accS x' w' o') (accS y u' q') := by
  obtain rfl := funext h3; obtain rfl := funext h4; obtain rfl := funext h6
  rw [h1, h2, h5, h7]

variable (𝒱 : Variants) (c : Dev nD) (bd : Option 𝒱.V) (arg0 : Memref sig .tc .vmem S128x4096x40 .i8) (harg0 : arg0.IsWhole) (arg1 : Memref sig .tc .vmem S4096x144 .i8) (harg1 : arg1.IsWhole) (arg2 : Memref sig .tc .vmem S4096x144 .i16) (harg2 : arg2.IsWhole) (arg3 : Memref sig .tc .vmem S4x40x144 .i8) (harg3 : arg3.IsWhole) (arg4 : Memref sig .tc .vmem S4x144x144 .i8) (harg4 : arg4.IsWhole) (arg5 : Memref sig .tc .vmem S4x1x144 .i32) (harg5 : arg5.IsWhole) (arg6 : Memref sig .tc .vmem S4x1x144 .i32) (harg6 : arg6.IsWhole) (arg7 : Memref sig .tc .smem S4 .f32) (harg7 : arg7.IsWhole) (arg8 : Memref sig .tc .smem S4 .f32) (harg8 : arg8.IsWhole) (arg9 : Memref sig .tc .smem S1 .i32) (harg9 : arg9.IsWhole) (arg10 : Memref sig .tc .smem S1 .f32) (harg10 : arg10.IsWhole) (arg11 : Memref sig .tc .vmem S128x4096x144 .i8) (harg11 : arg11.IsWhole) (arg12 : Memref sig .tc .vmem S4096x144 .i16) (harg12 : arg12.IsWhole) (arg13 : Memref sig .tc .vmem S4096x144 .i8) (harg13 : arg13.IsWhole) (v0 : Elt Ideal .i32) (v1 : Elt Ideal .f32) (X_arg0 : BufTy.Contents (Elt Ideal) arg0.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)

/-- The block of the input that a trip reads. -/
def blkX (k : Fin k0_t1_loop.trips) : IVec S1x4096x40 8 := (arg0.view.readAt (Elt Ideal) (Rect.unit (s := S128x4096x40) (k0_off1 k) S1x4096x40.size (k0_off1_inb k)).toLoadRect X_arg0)

/-- Gate 0 of a trip. -/
def gateV0 (k : Fin k0_t1_loop.trips) (H : Vec Ideal S4096x144 .i8) : FVec Ideal S4096x144 .f32 :=
  k0_pay7 (F := Ideal) (k0_pay5 (F := Ideal) H (blkX arg0 X_arg0 k) (arg5.view.readAt (Elt Ideal) (Rect.unit (s := S4x1x144) ![0, 0, 0] S1x1x144.size inb_S4x1x144_S1x1x144_0_0_0).toLoadRect X_arg5) (arg3.view.readAt (Elt Ideal) (Rect.unit (s := S4x40x144) ![0, 0, 0] S1x40x144.size inb_S4x40x144_S1x40x144_0_0_0).toLoadRect X_arg3) (arg6.view.readAt (Elt Ideal) (Rect.unit (s := S4x1x144) ![0, 0, 0] S1x1x144.size inb_S4x1x144_S1x1x144_0_0_0).toLoadRect X_arg6) (arg4.view.readAt (Elt Ideal) (Rect.unit (s := S4x144x144) ![0, 0, 0] S1x144x144.size inb_S4x144x144_S1x144x144_0_0_0).toLoadRect X_arg4) (arg7.view.readAt (Elt Ideal) (Rect.unit (s := S4) ![0] S1.size inb_S4_S1_0).toLoadRect X_arg7 (Shape.Idx.first pos1)) (arg8.view.readAt (Elt Ideal) (Rect.unit (s := S4) ![0] S1.size inb_S4_S1_0).toLoadRect X_arg8 (Shape.Idx.first pos1))) (Scalar.ofBits .f32 0x46FFFE00#32) (k0_pay6 (F := Ideal))

/-- Gate 1 of a trip. -/
def gateV1 (k : Fin k0_t1_loop.trips) (H : Vec Ideal S4096x144 .i8) : FVec Ideal S4096x144 .f32 :=
  k0_pay8 (F := Ideal) H (k0_pay4 (F := Ideal) (blkX arg0 X_arg0 k)) (arg5.view.readAt (Elt Ideal) (Rect.unit (s := S4x1x144) ![1, 0, 0] S1x1x144.size inb_S4x1x144_S1x1x144_1_0_0).toLoadRect X_arg5) (arg3.view.readAt (Elt Ideal) (Rect.unit (s := S4x40x144) ![1, 0, 0] S1x40x144.size inb_S4x40x144_S1x40x144_1_0_0).toLoadRect X_arg3) (arg6.view.readAt (Elt Ideal) (Rect.unit (s := S4x1x144) ![1, 0, 0] S1x1x144.size inb_S4x1x144_S1x1x144_1_0_0).toLoadRect X_arg6) (arg4.view.readAt (Elt Ideal) (Rect.unit (s := S4x144x144) ![1, 0, 0] S1x144x144.size inb_S4x144x144_S1x144x144_1_0_0).toLoadRect X_arg4) (arg7.view.readAt (Elt Ideal) (Rect.unit (s := S4) ![1] S1.size inb_S4_S1_1).toLoadRect X_arg7 (Shape.Idx.first pos1)) (arg8.view.readAt (Elt Ideal) (Rect.unit (s := S4) ![1] S1.size inb_S4_S1_1).toLoadRect X_arg8 (Shape.Idx.first pos1))

/-- Gate 2 of a trip. -/
def gateV2 (k : Fin k0_t1_loop.trips) (H : Vec Ideal S4096x144 .i8) : FVec Ideal S4096x144 .f32 :=
  k0_pay9 (F := Ideal) H (k0_pay4 (F := Ideal) (blkX arg0 X_arg0 k)) (arg5.view.readAt (Elt Ideal) (Rect.unit (s := S4x1x144) ![2, 0, 0] S1x1x144.size inb_S4x1x144_S1x1x144_2_0_0).toLoadRect X_arg5) (arg3.view.readAt (Elt Ideal) (Rect.unit (s := S4x40x144) ![2, 0, 0] S1x40x144.size inb_S4x40x144_S1x40x144_2_0_0).toLoadRect X_arg3) (arg6.view.readAt (Elt Ideal) (Rect.unit (s := S4x1x144) ![2, 0, 0] S1x1x144.size inb_S4x1x144_S1x1x144_2_0_0).toLoadRect X_arg6) (arg4.view.readAt (Elt Ideal) (Rect.unit (s := S4x144x144) ![2, 0, 0] S1x144x144.size inb_S4x144x144_S1x144x144_2_0_0).toLoadRect X_arg4) (arg7.view.readAt (Elt Ideal) (Rect.unit (s := S4) ![2] S1.size inb_S4_S1_2).toLoadRect X_arg7 (Shape.Idx.first pos1)) (arg8.view.readAt (Elt Ideal) (Rect.unit (s := S4) ![2] S1.size inb_S4_S1_2).toLoadRect X_arg8 (Shape.Idx.first pos1))

/-- Gate 3 of a trip. -/
def gateV3 (k : Fin k0_t1_loop.trips) (H : Vec Ideal S4096x144 .i8) : FVec Ideal S4096x144 .f32 :=
  k0_pay10 (F := Ideal) H (k0_pay4 (F := Ideal) (blkX arg0 X_arg0 k)) (arg5.view.readAt (Elt Ideal) (Rect.unit (s := S4x1x144) ![3, 0, 0] S1x1x144.size inb_S4x1x144_S1x1x144_3_0_0).toLoadRect X_arg5) (arg3.view.readAt (Elt Ideal) (Rect.unit (s := S4x40x144) ![3, 0, 0] S1x40x144.size inb_S4x40x144_S1x40x144_3_0_0).toLoadRect X_arg3) (arg6.view.readAt (Elt Ideal) (Rect.unit (s := S4x1x144) ![3, 0, 0] S1x1x144.size inb_S4x1x144_S1x1x144_3_0_0).toLoadRect X_arg6) (arg4.view.readAt (Elt Ideal) (Rect.unit (s := S4x144x144) ![3, 0, 0] S1x144x144.size inb_S4x144x144_S1x144x144_3_0_0).toLoadRect X_arg4) (arg7.view.readAt (Elt Ideal) (Rect.unit (s := S4) ![3] S1.size inb_S4_S1_3).toLoadRect X_arg7 (Shape.Idx.first pos1)) (arg8.view.readAt (Elt Ideal) (Rect.unit (s := S4) ![3] S1.size inb_S4_S1_3).toLoadRect X_arg8 (Shape.Idx.first pos1))

/-- What one trip makes of the state. -/
theorem trip_eq (k : Fin k0_t1_loop.trips) (acc : Vec Ideal S4096x144 .i8 × Vec Ideal S4096x144 .i16) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 k acc = (newhV v0 v1 (gateV0 arg0 arg3 arg4 arg5 arg6 arg7 arg8 X_arg0 X_arg3 X_arg4 X_arg5 X_arg6 X_arg7 X_arg8 k acc.1) (gateV1 arg0 arg3 arg4 arg5 arg6 arg7 arg8 X_arg0 X_arg3 X_arg4 X_arg5 X_arg6 X_arg7 X_arg8 k acc.1) (gateV2 arg0 arg3 arg4 arg5 arg6 arg7 arg8 X_arg0 X_arg3 X_arg4 X_arg5 X_arg6 X_arg7 X_arg8 k acc.1) (gateV3 arg0 arg3 arg4 arg5 arg6 arg7 arg8 X_arg0 X_arg3 X_arg4 X_arg5 X_arg6 X_arg7 X_arg8 k acc.1) acc.2, newcV (gateV0 arg0 arg3 arg4 arg5 arg6 arg7 arg8 X_arg0 X_arg3 X_arg4 X_arg5 X_arg6 X_arg7 X_arg8 k acc.1) (gateV1 arg0 arg3 arg4 arg5 arg6 arg7 arg8 X_arg0 X_arg3 X_arg4 X_arg5 X_arg6 X_arg7 X_arg8 k acc.1) (gateV2 arg0 arg3 arg4 arg5 arg6 arg7 arg8 X_arg0 X_arg3 X_arg4 X_arg5 X_arg6 X_arg7 X_arg8 k acc.1) acc.2) := by
  unfold tripR_k0_t1 trip_k0_t1
  rfl

theorem tripL_eq (k : Fin k0_t1_loop.trips) (acc : Vec Ideal S4096x144 .i8 × Vec Ideal S4096x144 .i16) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 k acc = [⟨Rect.unit (s := S128x4096x144) (k0_off2 k) S1x4096x144.size (k0_off2_inb k), shapeCast S1x4096x144 (newhV v0 v1 (gateV0 arg0 arg3 arg4 arg5 arg6 arg7 arg8 X_arg0 X_arg3 X_arg4 X_arg5 X_arg6 X_arg7 X_arg8 k acc.1) (gateV1 arg0 arg3 arg4 arg5 arg6 arg7 arg8 X_arg0 X_arg3 X_arg4 X_arg5 X_arg6 X_arg7 X_arg8 k acc.1) (gateV2 arg0 arg3 arg4 arg5 arg6 arg7 arg8 X_arg0 X_arg3 X_arg4 X_arg5 X_arg6 X_arg7 X_arg8 k acc.1) (gateV3 arg0 arg3 arg4 arg5 arg6 arg7 arg8 X_arg0 X_arg3 X_arg4 X_arg5 X_arg6 X_arg7 X_arg8 k acc.1) acc.2) shapeCasts_S4096x144_S1x4096x144⟩] := by
  unfold tripL_k0_t1 trip_k0_t1
  rfl

theorem gateV0_eq (k : Fin k0_t1_loop.trips) (H : Vec Ideal S4096x144 .i8) (r : Fin 4096) (j : Fin 144) :
    gateV0 arg0 arg3 arg4 arg5 arg6 arg7 arg8 X_arg0 X_arg3 X_arg4 X_arg5 X_arg6 X_arg7 X_arg8 k H (ix2 r j)
      = preR (arg7.view.read (Elt Ideal) X_arg7 (ix1 0)) (arg8.view.read (Elt Ideal) X_arg8 (ix1 0))
        (accS (fun q => arg0.view.read (Elt Ideal) X_arg0 (ix3 (k.cast trips128) r q)) (fun q => arg3.view.read (Elt Ideal) X_arg3 (ix3 0 q j)) (arg5.view.read (Elt Ideal) X_arg5 (ix3 0 0 j)))
        (accS (fun q => H (ix2 r q)) (fun q => arg4.view.read (Elt Ideal) X_arg4 (ix3 0 q j)) (arg6.view.read (Elt Ideal) X_arg6 (ix3 0 0 j))) := by
  refine Eq.trans (gate0_eq _ _ _ _ _ _ _ _ r j) ?_
  refine preR_congr ?_ ?_ ?_ ?_ ?_ ?_ ?_
  · exact word_at arg7.view X_arg7 0 (by decide) _ _
  · exact word_at arg8.view X_arg8 0 (by decide) _ _
  · exact fun q => plane_at arg0.view X_arg0 _ k.val (k.cast trips128).isLt (off1_eq k) _ r q
  · exact fun q => plane_at arg3.view X_arg3 _ 0 (by decide) rfl _ q j
  · exact plane_at arg5.view X_arg5 _ 0 (by decide) rfl _ 0 j
  · exact fun q => plane_at arg4.view X_arg4 _ 0 (by decide) rfl _ q j
  · exact plane_at arg6.view X_arg6 _ 0 (by decide) rfl _ 0 j

theorem gateV1_eq (k : Fin k0_t1_loop.trips) (H : Vec Ideal S4096x144 .i8) (r : Fin 4096) (j : Fin 144) :
    gateV1 arg0 arg3 arg4 arg5 arg6 arg7 arg8 X_arg0 X_arg3 X_arg4 X_arg5 X_arg6 X_arg7 X_arg8 k H (ix2 r j)
      = preR (arg7.view.read (Elt Ideal) X_arg7 (ix1 1)) (arg8.view.read (Elt Ideal) X_arg8 (ix1 1))
        (accS (fun q => arg0.view.read (Elt Ideal) X_arg0 (ix3 (k.cast trips128) r q)) (fun q => arg3.view.read (Elt Ideal) X_arg3 (ix3 1 q j)) (arg5.view.read (Elt Ideal) X_arg5 (ix3 1 0 j)))
        (accS (fun q => H (ix2 r q)) (fun q => arg4.view.read (Elt Ideal) X_arg4 (ix3 1 q j)) (arg6.view.read (Elt Ideal) X_arg6 (ix3 1 0 j))) := by
  refine Eq.trans (gate1_eq _ _ _ _ _ _ _ _ r j) ?_
  refine preR_congr ?_ ?_ ?_ ?_ ?_ ?_ ?_
  · exact word_at arg7.view X_arg7 1 (by decide) _ _
  · exact word_at arg8.view X_arg8 1 (by decide) _ _
  · exact fun q => plane_at arg0.view X_arg0 _ k.val (k.cast trips128).isLt (off1_eq k) _ r q
  · exact fun q => plane_at arg3.view X_arg3 _ 1 (by decide) rfl _ q j
  · exact plane_at arg5.view X_arg5 _ 1 (by decide) rfl _ 0 j
  · exact fun q => plane_at arg4.view X_arg4 _ 1 (by decide) rfl _ q j
  · exact plane_at arg6.view X_arg6 _ 1 (by decide) rfl _ 0 j

theorem gateV2_eq (k : Fin k0_t1_loop.trips) (H : Vec Ideal S4096x144 .i8) (r : Fin 4096) (j : Fin 144) :
    gateV2 arg0 arg3 arg4 arg5 arg6 arg7 arg8 X_arg0 X_arg3 X_arg4 X_arg5 X_arg6 X_arg7 X_arg8 k H (ix2 r j)
      = preR (arg7.view.read (Elt Ideal) X_arg7 (ix1 2)) (arg8.view.read (Elt Ideal) X_arg8 (ix1 2))
        (accS (fun q => arg0.view.read (Elt Ideal) X_arg0 (ix3 (k.cast trips128) r q)) (fun q => arg3.view.read (Elt Ideal) X_arg3 (ix3 2 q j)) (arg5.view.read (Elt Ideal) X_arg5 (ix3 2 0 j)))
        (accS (fun q => H (ix2 r q)) (fun q => arg4.view.read (Elt Ideal) X_arg4 (ix3 2 q j)) (arg6.view.read (Elt Ideal) X_arg6 (ix3 2 0 j))) := by
  refine Eq.trans ((congrFun (gate2_eq _ _ _ _ _ _ _ _) _).trans (gate1_eq _ _ _ _ _ _ _ _ r j)) ?_
  refine preR_congr ?_ ?_ ?_ ?_ ?_ ?_ ?_
  · exact word_at arg7.view X_arg7 2 (by decide) _ _
  · exact word_at arg8.view X_arg8 2 (by decide) _ _
  · exact fun q => plane_at arg0.view X_arg0 _ k.val (k.cast trips128).isLt (off1_eq k) _ r q
  · exact fun q => plane_at arg3.view X_arg3 _ 2 (by decide) rfl _ q j
  · exact plane_at arg5.view X_arg5 _ 2 (by decide) rfl _ 0 j
  · exact fun q => plane_at arg4.view X_arg4 _ 2 (by decide) rfl _ q j
  · exact plane_at arg6.view X_arg6 _ 2 (by decide) rfl _ 0 j

theorem gateV3_eq (k : Fin k0_t1_loop.trips) (H : Vec Ideal S4096x144 .i8) (r : Fin 4096) (j : Fin 144) :
    gateV3 arg0 arg3 arg4 arg5 arg6 arg7 arg8 X_arg0 X_arg3 X_arg4 X_arg5 X_arg6 X_arg7 X_arg8 k H (ix2 r j)
      = preR (arg7.view.read (Elt Ideal) X_arg7 (ix1 3)) (arg8.view.read (Elt Ideal) X_arg8 (ix1 3))
        (accS (fun q => arg0.view.read (Elt Ideal) X_arg0 (ix3 (k.cast trips128) r q)) (fun q => arg3.view.read (Elt Ideal) X_arg3 (ix3 3 q j)) (arg5.view.read (Elt Ideal) X_arg5 (ix3 3 0 j)))
        (accS (fun q => H (ix2 r q)) (fun q => arg4.view.read (Elt Ideal) X_arg4 (ix3 3 q j)) (arg6.view.read (Elt Ideal) X_arg6 (ix3 3 0 j))) := by
  refine Eq.trans ((congrFun (gate3_eq _ _ _ _ _ _ _ _) _).trans (gate1_eq _ _ _ _ _ _ _ _ r j)) ?_
  refine preR_congr ?_ ?_ ?_ ?_ ?_ ?_ ?_
  · exact word_at arg7.view X_arg7 3 (by decide) _ _
  · exact word_at arg8.view X_arg8 3 (by decide) _ _
  · exact fun q => plane_at arg0.view X_arg0 _ k.val (k.cast trips128).isLt (off1_eq k) _ r q
  · exact fun q => plane_at arg3.view X_arg3 _ 3 (by decide) rfl _ q j
  · exact plane_at arg5.view X_arg5 _ 3 (by decide) rfl _ 0 j
  · exact fun q => plane_at arg4.view X_arg4 _ 3 (by decide) rfl _ q j
  · exact plane_at arg6.view X_arg6 _ 3 (by decide) rfl _ 0 j

end Cert.RefVal

end
-- ==== Proof.Val.RefStep.lean ====
module

public import proofs.«01_k».proof.Proof.Val.RefTrip
public import proofs.«01_k».proof.Proof.Gen.ReferenceIdeal.Value
public import Idealize.ShloMosaic.Lib.Pipeline.ValueKit.Tiles

@[expose] public section

set_option maxRecDepth 16384
set_option maxHeartbeats 1000000

noncomputable section

namespace Cert.RefVal

open Cert.ReferenceIdeal Cert.ReferenceIdeal.Gen Cert.Arith
open Idealize.ShloMosaic Idealize.ShloMosaic.TcCoe Idealize.ShloMosaic.Tactic
open Idealize.SL Idealize.SL.Sem

/-- The recurrence of the reference over the blocks of its windows. -/
def recI (x0 : S128x4096x40.Idx → BitVec 8) (x1 : S4096x144.Idx → BitVec 8) (x2 : S4096x144.Idx → BitVec 16) (x3 : S4x40x144.Idx → BitVec 8) (x4 : S4x144x144.Idx → BitVec 8)
    (x5 x6 : S4x1x144.Idx → BitVec 32) (x7 x8 : S4.Idx → EReal) (zp : BitVec 32) (os : EReal) : Rec where
  sx g := x7 (ix1 g)
  sh g := x8 (ix1 g)
  os := os
  zp := zp
  ax t r j g := accS (fun q => if h : t < 128 then x0 (ix3 ⟨t, h⟩ r q) else 0#8) (fun q => x3 (ix3 g q j)) (x5 (ix3 g 0 j))
  wh g k j := x4 (ix3 g k j)
  oh g j := x6 (ix3 g 0 j)
  h0 r j := x1 (ix2 r j)
  c0 r j := x2 (ix2 r j)

section
variable (𝒱 : Variants) (c : Dev nD) (bd : Option 𝒱.V) (arg0 : Memref sig .tc .vmem S128x4096x40 .i8) (harg0 : arg0.IsWhole) (arg1 : Memref sig .tc .vmem S4096x144 .i8) (harg1 : arg1.IsWhole) (arg2 : Memref sig .tc .vmem S4096x144 .i16) (harg2 : arg2.IsWhole) (arg3 : Memref sig .tc .vmem S4x40x144 .i8) (harg3 : arg3.IsWhole) (arg4 : Memref sig .tc .vmem S4x144x144 .i8) (harg4 : arg4.IsWhole) (arg5 : Memref sig .tc .vmem S4x1x144 .i32) (harg5 : arg5.IsWhole) (arg6 : Memref sig .tc .vmem S4x1x144 .i32) (harg6 : arg6.IsWhole) (arg7 : Memref sig .tc .smem S4 .f32) (harg7 : arg7.IsWhole) (arg8 : Memref sig .tc .smem S4 .f32) (harg8 : arg8.IsWhole) (arg9 : Memref sig .tc .smem S1 .i32) (harg9 : arg9.IsWhole) (arg10 : Memref sig .tc .smem S1 .f32) (harg10 : arg10.IsWhole) (arg11 : Memref sig .tc .vmem S128x4096x144 .i8) (harg11 : arg11.IsWhole) (arg12 : Memref sig .tc .vmem S4096x144 .i16) (harg12 : arg12.IsWhole) (arg13 : Memref sig .tc .vmem S4096x144 .i8) (harg13 : arg13.IsWhole) (v0 : Elt Ideal .i32) (v1 : Elt Ideal .f32) (X_arg0 : BufTy.Contents (Elt Ideal) arg0.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
variable (x0 : S128x4096x40.Idx → BitVec 8) (x3 : S4x40x144.Idx → BitVec 8) (x4 : S4x144x144.Idx → BitVec 8)
    (x5 x6 : S4x1x144.Idx → BitVec 32) (x7 x8 : S4.Idx → EReal)
  (h0 : arg0.view.read (Elt Ideal) X_arg0 = x0) (h3 : arg3.view.read (Elt Ideal) X_arg3 = x3) (h4 : arg4.view.read (Elt Ideal) X_arg4 = x4)
  (h5 : arg5.view.read (Elt Ideal) X_arg5 = x5) (h6 : arg6.view.read (Elt Ideal) X_arg6 = x6) (h7 : arg7.view.read (Elt Ideal) X_arg7 = x7) (h8 : arg8.view.read (Elt Ideal) X_arg8 = x8)
  (init : Vec Ideal S4096x144 .i8 × Vec Ideal S4096x144 .i16)

include h0 h3 h4 h5 h6 h7 h8 in
/-- One trip is one step of the recurrence. -/
theorem trip_step (k : Fin k0_t1_loop.trips) (acc : Vec Ideal S4096x144 .i8 × Vec Ideal S4096x144 .i16)
    (ha : ∀ r j, acc.1 (ix2 r j) = ((recI x0 init.1 init.2 x3 x4 x5 x6 x7 x8 v0 v1).st k.val).1 r j ∧ acc.2 (ix2 r j) = ((recI x0 init.1 init.2 x3 x4 x5 x6 x7 x8 v0 v1).st k.val).2 r j)
    (r : Fin 4096) (j : Fin 144) :
    (tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 k acc).1 (ix2 r j) = ((recI x0 init.1 init.2 x3 x4 x5 x6 x7 x8 v0 v1).st (k.val + 1)).1 r j
    ∧ (tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 k acc).2 (ix2 r j) = ((recI x0 init.1 init.2 x3 x4 x5 x6 x7 x8 v0 v1).st (k.val + 1)).2 r j := by
  subst h0 h3 h4 h5 h6 h7 h8
  have hk : k.val < 128 := (k.cast trips128).isLt
  have eH : (fun q => acc.1 (ix2 r q)) = fun q => ((recI (arg0.view.read (Elt Ideal) X_arg0) init.1 init.2 (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 v1).st k.val).1 r q := funext fun q => (ha r q).1
  have eX : (fun q => (arg0.view.read (Elt Ideal) X_arg0) (ix3 (k.cast trips128) r q)) = fun q : Fin 40 => if h : k.val < 128 then (arg0.view.read (Elt Ideal) X_arg0) (ix3 ⟨k.val, h⟩ r q) else 0#8 := by
    funext q; rw [dif_pos hk]; rfl
  rw [trip_eq]
  dsimp only
  rw [newhV_eq, newcV_eq, gateV0_eq, gateV1_eq, gateV2_eq, gateV3_eq, eH, eX, (ha r j).2]
  exact ⟨rfl, rfl⟩

include h0 h3 h4 h5 h6 h7 h8 in
/-- The loop's state before a trip is the recurrence's. -/
theorem st_eq (n : ℕ) (hn : n ≤ 128) (r : Fin 4096) (j : Fin 144) :
    (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 init n).1.1 (ix2 r j) = ((recI x0 init.1 init.2 x3 x4 x5 x6 x7 x8 v0 v1).st n).1 r j
    ∧ (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 init n).1.2 (ix2 r j) = ((recI x0 init.1 init.2 x3 x4 x5 x6 x7 x8 v0 v1).st n).2 r j := by
  induction n generalizing r j with
  | zero => exact ⟨rfl, rfl⟩
  | succ n ih =>
    have e := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 init ⟨n, by rw [trips128]; omega⟩
    rw [e]
    exact trip_step 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 x0 x3 x4 x5 x6 x7 x8 h0 h3 h4 h5 h6 h7 h8 init ⟨n, by rw [trips128]; omega⟩ _ (fun r j => ih (by omega) r j) r j

include h0 h3 h4 h5 h6 h7 h8 in
/-- What the trips store. -/
theorem pieces_eq (n : ℕ) (hn : n ≤ 128) (t : Fin 128) (r : Fin 4096) (j : Fin 144) :
    View.AllAt (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 init n).2 (ix3 t r j) (((recI x0 init.1 init.2 x3 x4 x5 x6 x7 x8 v0 v1).st (t.val + 1)).1 r j) := by
  induction n with
  | zero => exact View.allAt_nil _ _
  | succ n ih =>
    have hk : n < k0_t1_loop.trips := by rw [trips128]; omega
    have e := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 init ⟨n, hk⟩
    have hs := trip_step 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 x0 x3 x4 x5 x6 x7 x8 h0 h3 h4 h5 h6 h7 h8 init ⟨n, hk⟩ _ (fun r j => st_eq 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v1 X_arg0 X_arg3 X_arg4 X_arg5 X_arg6 X_arg7 X_arg8 x0 x3 x4 x5 x6 x7 x8 h0 h3 h4 h5 h6 h7 h8 init n (by omega) r j) r j
    rw [trip_eq] at hs
    rw [e, tripL_eq]
    refine View.allAt_cons_unit _ _ _ _ _ ?_ (ih (by omega))
    intro x hx
    have o2 : k0_off2 (⟨n, hk⟩ : Fin k0_t1_loop.trips) = ![n, 0, 0] := off1_eq ⟨n, hk⟩
    have h00 : t.val = k0_off2 (⟨n, hk⟩ : Fin k0_t1_loop.trips) 0 + (x 0).val := hx 0
    have h01 : r.val = k0_off2 (⟨n, hk⟩ : Fin k0_t1_loop.trips) 1 + (x 1).val := hx 1
    have h02 : j.val = k0_off2 (⟨n, hk⟩ : Fin k0_t1_loop.trips) 2 + (x 2).val := hx 2
    rw [o2] at h00 h01 h02
    have hx0 : (x 0).val < 1 := (x 0).isLt
    have ht : n = t.val := by have : t.val = n + (x 0).val := h00; omega
    have hx : x = ix3 (0 : Fin 1) r j := by
      funext a
      refine Fin.ext ?_
      match a with
      | ⟨0, _⟩ => show (x 0).val = 0; omega
      | ⟨1, _⟩ => show (x 1).val = r.val; have : r.val = 0 + (x 1).val := h01; omega
      | ⟨2, _⟩ => show (x 2).val = j.val; have : j.val = 0 + (x 2).val := h02; omega
    rw [hx]
    refine (ValueIdx.shapeCast_ab_1ab_apply _ _ (0 : Fin 1) r j).trans ?_
    rw [← ht]
    exact hs.1
end

end Cert.RefVal

end
-- ==== Proof.Val.RefOut.lean ====
module

public import proofs.«01_k».proof.Proof.Val.RefStep
public import proofs.«01_k».proof.Proof.Gen.ReferenceIdeal.Value
public import Idealize.ShloMosaic.Lib.Pipeline.ValueKit.Tiles
public import Idealize.ShloMosaic.Lib.Pipeline.ValueKit.Basic
public import Idealize.ShloMosaic.Lib.VecWindow

@[expose] public section

set_option maxRecDepth 16384
set_option maxHeartbeats 1000000

noncomputable section

namespace Cert.RefVal

open Cert.ReferenceIdeal Cert.ReferenceIdeal.Gen Cert.Arith
open Idealize.ShloMosaic Idealize.ShloMosaic.TcCoe Idealize.ShloMosaic.Tactic
open Idealize.SL Idealize.SL.Sem

variable (c : Dev nD) (arg0 : Memref sig .tc .vmem S128x4096x40 .i8) (harg0 : arg0.IsWhole) (arg1 : Memref sig .tc .vmem S4096x144 .i8) (harg1 : arg1.IsWhole) (arg2 : Memref sig .tc .vmem S4096x144 .i16) (harg2 : arg2.IsWhole) (arg3 : Memref sig .tc .vmem S4x40x144 .i8) (harg3 : arg3.IsWhole) (arg4 : Memref sig .tc .vmem S4x144x144 .i8) (harg4 : arg4.IsWhole) (arg5 : Memref sig .tc .vmem S4x1x144 .i32) (harg5 : arg5.IsWhole) (arg6 : Memref sig .tc .vmem S4x1x144 .i32) (harg6 : arg6.IsWhole) (arg7 : Memref sig .tc .smem S4 .f32) (harg7 : arg7.IsWhole) (arg8 : Memref sig .tc .smem S4 .f32) (harg8 : arg8.IsWhole) (arg9 : Memref sig .tc .smem S1 .i32) (harg9 : arg9.IsWhole) (arg10 : Memref sig .tc .smem S1 .f32) (harg10 : arg10.IsWhole) (arg11 : Memref sig .tc .vmem S128x4096x144 .i8) (harg11 : arg11.IsWhole) (arg12 : Memref sig .tc .vmem S4096x144 .i16) (harg12 : arg12.IsWhole) (arg13 : Memref sig .tc .vmem S4096x144 .i8) (harg13 : arg13.IsWhole)
  (x0 : Vec Ideal S128x4096x40 .i8) (x1 : Vec Ideal S4096x144 .i8) (x2 : Vec Ideal S4096x144 .i16) (x3 : Vec Ideal S4x40x144 .i8) (x4 : Vec Ideal S4x144x144 .i8) (x5 : Vec Ideal S4x1x144 .i32) (x6 : Vec Ideal S4x1x144 .i32) (x7 : Vec Ideal S4 .f32) (x8 : Vec Ideal S4 .f32) (x9 : Vec Ideal S1 .i32) (x10 : Vec Ideal S1 .f32)

theorem run_eq : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) (x1, x2) 128).2
    ∧ (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1 = [⟨Rect.unit (s := S4096x144) ![0, 0] ![4096, 144] inb_S4096x144_S4096x144_0_0, (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) (x1, x2) 128).1.2⟩]
    ∧ (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.2.1 = [⟨Rect.unit (s := S4096x144) ![0, 0] ![4096, 144] inb_S4096x144_S4096x144_0_0, (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) (x1, x2) 128).1.1⟩] := by
  unfold kernelRun0_A
  dsimp only
  sl_unfold_words
  have e9 : View.readAt (Elt Ideal) arg9.view (Rect.unit (s := S1) ![0] S1.size inb_S1_S1_0).toLoadRect (harg9.unread x9) (Shape.Idx.first pos1) = x9 (ix1 0) :=
    (word_at arg9.view _ 0 (by decide) _ _).trans (congrFun (harg9.read_unread x9) _)
  have e10 : View.readAt (Elt Ideal) arg10.view (Rect.unit (s := S1) ![0] S1.size inb_S1_S1_0).toLoadRect (harg10.unread x10) (Shape.Idx.first pos1) = x10 (ix1 0) :=
    (word_at arg10.view _ 0 (by decide) _ _).trans (congrFun (harg10.read_unread x10) _)
  have e1 : View.readAt (Elt Ideal) arg1.view (Rect.unit (s := S4096x144) ![0, 0] ![4096, 144] inb_S4096x144_S4096x144_0_0).toLoadRect (harg1.unread x1) = x1 :=
    (View.readAt_full arg1.view (harg1.unread x1) inb_S4096x144_S4096x144_0_0).trans (harg1.read_unread x1)
  have e2 : View.readAt (Elt Ideal) arg2.view (Rect.unit (s := S4096x144) ![0, 0] ![4096, 144] inb_S4096x144_S4096x144_0_0).toLoadRect (harg2.unread x2) = x2 :=
    (View.readAt_full arg2.view (harg2.unread x2) inb_S4096x144_S4096x144_0_0).trans (harg2.read_unread x2)
  have eT : Scf.trips (0#32) (Scalar.addi 0#32 128#32) 1#32 = 128 := by decide
  rw [e9, e10, e1, e2, eT]
  exact ⟨rfl, rfl, rfl⟩

/-- The sequence of hidden states. -/
theorem out11_eq (t : Fin 128) (r : Fin 4096) (j : Fin 144) :
    out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 t r j) = ((recI x0 x1 x2 x3 x4 x5 x6 x7 x8 (x9 (ix1 0)) (x10 (ix1 0))).st (t.val + 1)).1 r j := by
  unfold out0_A_11
  rw [View.read_writes_eq_canon _ _ _ (cover0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  refine View.canon_eq_of_allAt _ _ _ (cover0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 _) ?_
  rw [(run_eq c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1]
  exact pieces_eq Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) x0 x3 x4 x5 x6 x7 x8 (harg0.read_unread x0) (harg3.read_unread x3) (harg4.read_unread x4) (harg5.read_unread x5) (harg6.read_unread x6) (harg7.read_unread x7) (harg8.read_unread x8) (x1, x2) 128 le_rfl t r j

/-- The last cell state. -/
theorem out12_eq (r : Fin 4096) (j : Fin 144) :
    out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r j) = ((recI x0 x1 x2 x3 x4 x5 x6 x7 x8 (x9 (ix1 0)) (x10 (ix1 0))).st 128).2 r j := by
  unfold out0_A_12
  rw [View.read_writes_eq_canon _ _ _ (cover0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10), (run_eq c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1]
  refine Eq.trans (congrFun (View.canon_cons_unit_lit inb_S4096x144_S4096x144_0_0 _ _ (by decide)) _) ?_
  exact (st_eq Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) x0 x3 x4 x5 x6 x7 x8 (harg0.read_unread x0) (harg3.read_unread x3) (harg4.read_unread x4) (harg5.read_unread x5) (harg6.read_unread x6) (harg7.read_unread x7) (harg8.read_unread x8) (x1, x2) 128 le_rfl r j).2

/-- The last hidden state. -/
theorem out13_eq (r : Fin 4096) (j : Fin 144) :
    out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r j) = ((recI x0 x1 x2 x3 x4 x5 x6 x7 x8 (x9 (ix1 0)) (x10 (ix1 0))).st 128).1 r j := by
  unfold out0_A_13
  rw [View.read_writes_eq_canon _ _ _ (cover0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10), (run_eq c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.2]
  refine Eq.trans (congrFun (View.canon_cons_unit_lit inb_S4096x144_S4096x144_0_0 _ _ (by decide)) _) ?_
  exact (st_eq Variants.none c none arg0 harg0 arg1 harg1 arg2 harg2 arg3 harg3 arg4 harg4 arg5 harg5 arg6 harg6 arg7 harg7 arg8 harg8 arg9 harg9 arg10 harg10 arg11 harg11 arg12 harg12 arg13 harg13 (x9 (ix1 0)) (x10 (ix1 0)) (harg0.unread x0) (harg3.unread x3) (harg4.unread x4) (harg5.unread x5) (harg6.unread x6) (harg7.unread x7) (harg8.unread x8) x0 x3 x4 x5 x6 x7 x8 (harg0.read_unread x0) (harg3.read_unread x3) (harg4.read_unread x4) (harg5.read_unread x5) (harg6.read_unread x6) (harg7.read_unread x7) (harg8.read_unread x8) (x1, x2) 128 le_rfl r j).1

end Cert.RefVal

end
-- ==== Proof.Val.RefHost.lean ====
module

public import proofs.«01_k».proof.Proof.Val.RefOut
public import proofs.«01_k».proof.Proof.Gen.ReferenceIdeal.Value
public import Idealize.ShloMosaic.Lib.Pipeline.ValueKit.Tiles
public import Idealize.ShloMosaic.Lib.Pipeline.ValueKit.Basic
public import Idealize.ShloMosaic.Lib.VecWindow
public import Idealize.ShloMosaic.Lib.Pointwise.Reduce
public import Idealize.ShloMosaic.Lib.StableHlo.ReadAt
public import Idealize.ShloMosaic.Lib.Pipeline.ValueKit.Geometry

@[expose] public section

set_option maxRecDepth 16384
set_option maxHeartbeats 200000

noncomputable section

namespace Cert.RefVal

open Cert.ReferenceIdeal Cert.ReferenceIdeal.Gen Cert.Arith
open Idealize.ShloMosaic Idealize.ShloMosaic.TcCoe Idealize.ShloMosaic.Tactic
open Idealize.SL Idealize.SL.Sem

attribute [local irreducible] Rec.st

/-- The recurrence over the arguments of the call. -/
def recA (a0 : S128x4096x40.Idx → BitVec 8) (a1 : S_.Idx → BitVec 32) (a2 : S4096x144.Idx → BitVec 8) (a3 : S4096x144.Idx → BitVec 16) (a4 : S_.Idx → BitVec 32)
    (a5 : S40x4x144.Idx → BitVec 8) (a6 : S144x4x144.Idx → BitVec 8) (a7 : S4x144.Idx → BitVec 32) (a8 a9 : S4.Idx → EReal) (a10 : S_.Idx → EReal) : Rec where
  sx g := a8 (ix1 g)
  sh g := a9 (ix1 g)
  os := a10 ix0
  zp := a4 ix0
  ax t r j g := accS (fun q => if h : t < 128 then a0 (ix3 ⟨t, h⟩ r q) else 0#8) (fun q => a5 (ix3 q g j))
    (IntOp.subi (a7 (ix2 g j)) (IntOp.muli (a1 ix0) (Finset.fold IntOp.addi 0#32 (fun k : Fin 40 => (a5 (ix3 k g j)).signExtend 32) Finset.univ)))
  wh g k j := a6 (ix3 k g j)
  oh g j := IntOp.muli (-(a4 ix0)) (Finset.fold IntOp.addi 0#32 (fun k : Fin 144 => (a6 (ix3 k g j)).signExtend 32) Finset.univ)
  h0 r j := a2 (ix2 r j)
  c0 r j := a3 (ix2 r j)

variable (m : (ℓ : Loc nD τ sig) → Buf (Elt Ideal) ℓ) (c : Dev nD) (t : Fin cfg0.N)

theorem blk0 : (iblk m c 0 t : S128x4096x40.Idx → BitVec 8) = V m c main_arg0 := by
  funext y
  blk_ext [iblk]
  all_goals first | exact Nat.zero_add _ | rfl

theorem blk1 : (iblk m c 1 t : S4096x144.Idx → BitVec 8) = V m c main_arg2 := by
  funext y
  blk_ext [iblk]
  all_goals first | exact Nat.zero_add _ | rfl

theorem blk2 : (iblk m c 2 t : S4096x144.Idx → BitVec 16) = V m c main_arg3 := by
  funext y
  blk_ext [iblk]
  all_goals first | exact Nat.zero_add _ | rfl

theorem blk3 : (iblk m c 3 t : S4x40x144.Idx → BitVec 8) = V m c main_v0 := by
  funext y
  blk_ext [iblk]
  all_goals first | exact Nat.zero_add _ | rfl

theorem blk4 : (iblk m c 4 t : S4x144x144.Idx → BitVec 8) = V m c main_v1 := by
  funext y
  blk_ext [iblk]
  all_goals first | exact Nat.zero_add _ | rfl

theorem blk5 : (iblk m c 5 t : S4x1x144.Idx → BitVec 32) = V m c main_v9 := by
  funext y
  blk_ext [iblk]
  all_goals first | exact Nat.zero_add _ | rfl

theorem blk6 : (iblk m c 6 t : S4x1x144.Idx → BitVec 32) = V m c main_v13 := by
  funext y
  blk_ext [iblk]
  all_goals first | exact Nat.zero_add _ | rfl

theorem blk7 : (iblk m c 7 t : S4.Idx → EReal) = V m c main_arg8 := by
  funext y
  blk_ext [iblk]
  all_goals first | exact Nat.zero_add _ | rfl

theorem blk8 : (iblk m c 8 t : S4.Idx → EReal) = V m c main_arg9 := by
  funext y
  blk_ext [iblk]
  all_goals first | exact Nat.zero_add _ | rfl

theorem blk9 : (iblk m c 9 t : S1.Idx → BitVec 32) = V m c main_v14 := by
  funext y
  blk_ext [iblk]
  all_goals first | exact Nat.zero_add _ | rfl

theorem blk10 : (iblk m c 10 t : S1.Idx → EReal) = V m c main_v15 := by
  funext y
  blk_ext [iblk]
  all_goals first | exact Nat.zero_add _ | rfl

theorem idx3u (y : S4x1x144.Idx) : ∃ (g : Fin 4) (u : Fin 1) (j : Fin 144), y = ix3 g u j := ⟨y 0, y 1, y 2, by funext a; match a with | ⟨0, _⟩ => rfl | ⟨1, _⟩ => rfl | ⟨2, _⟩ => rfl⟩

/-- The recurrence of the reference's one point. -/
theorem recI_eq : recI (iblk m c 0 t) (iblk m c 1 t) (iblk m c 2 t) (iblk m c 3 t) (iblk m c 4 t) (iblk m c 5 t) (iblk m c 6 t) (iblk m c 7 t) (iblk m c 8 t)
    ((iblk m c 9 t : S1.Idx → BitVec 32) (ix1 0)) ((iblk m c 10 t : S1.Idx → EReal) (ix1 0)) = recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) := by
  have e3 : ∀ y : S4x40x144.Idx, V m c main_v0 y = m (c, Proc.tc.devRef main_arg5) (ix3 (y 1) (y 0) (y 2)) := fun y => by
    unfold V; after_reads_at
  have e4 : ∀ y : S4x144x144.Idx, V m c main_v1 y = m (c, Proc.tc.devRef main_arg6) (ix3 (y 1) (y 0) (y 2)) := fun y => by
    unfold V; after_reads_at
  have e5 : ∀ y : S4x1x144.Idx, V m c main_v9 y = IntOp.subi (m (c, Proc.tc.devRef main_arg7) (ix2 (y 0) (y 2)))
      (IntOp.muli (m (c, Proc.tc.devRef main_arg1) ix0)
        (Finset.fold IntOp.addi 0#32 (fun k : Fin 40 => BitVec.signExtend 32 (m (c, Proc.tc.devRef main_arg5) (ix3 k (y 0) (y 2)))) Finset.univ)) := fun y => by
    obtain ⟨g, u, j, rfl⟩ := idx3u y
    unfold V; after_reads_at
  have e6 : ∀ y : S4x1x144.Idx, V m c main_v13 y = IntOp.muli (Neg.neg (α := BitVec 32) (m (c, Proc.tc.devRef main_arg4) ix0))
      (Finset.fold IntOp.addi 0#32 (fun k : Fin 144 => BitVec.signExtend 32 (m (c, Proc.tc.devRef main_arg6) (ix3 k (y 0) (y 2)))) Finset.univ) := fun y => by
    obtain ⟨g, u, j, rfl⟩ := idx3u y
    unfold V; after_reads_at
  have e9 : ∀ y : S1.Idx, V m c main_v14 y = m (c, Proc.tc.devRef main_arg4) ix0 := fun y => by
    unfold V; after_reads_at
  have e10 : ∀ y : S1.Idx, V m c main_v15 y = m (c, Proc.tc.devRef main_arg10) ix0 := fun y => by
    unfold V; after_reads_at
  rw [blk0, blk1, blk2, blk3, blk4, blk5, blk6, blk7, blk8, blk9, blk10, funext e3, funext e4, funext e5, funext e6, funext e9, funext e10,
    V_main_arg0, V_main_arg2, V_main_arg3, V_main_arg8, V_main_arg9]
  rfl

theorem idx2 (j : S4096x144.Idx) : j = ix2 (j 0) (j 1) := by funext a; match a with | ⟨0, _⟩ => rfl | ⟨1, _⟩ => rfl
theorem idx3 (j : S128x4096x144.Idx) : j = ix3 (j 0) (j 1) (j 2) := by funext a; match a with | ⟨0, _⟩ => rfl | ⟨1, _⟩ => rfl | ⟨2, _⟩ => rfl

theorem outs11 (y : S128x4096x144.Idx) : (outsAt0 m c t).1 y = ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st ((y 0).val + 1)).1 (y 1) (y 2) := by
  unfold outsAt0
  refine (congrArg _ (idx3 y)).trans ?_
  refine (out11_eq c _ _ _ _ _ _ _ _ _ _ _ _ _ _ _ _ _ _ _ _ _ _ _ _ _ _ _ _ _ _ _ _ _ _ _ _ _ _ _ (y 0) (y 1) (y 2)).trans ?_
  rw [recI_eq]

theorem outs12 (n : ℕ) (hn : n = 128) (y : S4096x144.Idx) : (outsAt0 m c t).2.1 y = ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st n).2 (y 0) (y 1) := by
  obtain ⟨r, j, rfl⟩ : ∃ (r : Fin 4096) (j : Fin 144), y = ix2 r j := ⟨y 0, y 1, idx2 y⟩
  unfold outsAt0
  dsimp only
  refine (out12_eq c _ _ _ _ _ _ _ _ _ _ _ _ _ _ _ _ _ _ _ _ _ _ _ _ _ _ _ _ _ _ _ _ _ _ _ _ _ _ _ r j).trans ?_
  subst hn
  exact congrArg (fun L : Rec => (L.st 128).2 r j) (recI_eq m c t)

theorem outs13 (n : ℕ) (hn : n = 128) (y : S4096x144.Idx) : (outsAt0 m c t).2.2 y = ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st n).1 (y 0) (y 1) := by
  obtain ⟨r, j, rfl⟩ : ∃ (r : Fin 4096) (j : Fin 144), y = ix2 r j := ⟨y 0, y 1, idx2 y⟩
  unfold outsAt0
  dsimp only
  refine (out13_eq c _ _ _ _ _ _ _ _ _ _ _ _ _ _ _ _ _ _ _ _ _ _ _ _ _ _ _ _ _ _ _ _ _ _ _ _ _ _ _ r j).trans ?_
  subst hn
  exact congrArg (fun L : Rec => (L.st 128).1 r j) (recI_eq m c t)

theorem arr11 : (dats m 0 c).arrAt 11 cfg0.N = fun y : S128x4096x144.Idx => ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st ((y 0).val + 1)).1 (y 1) (y 2) := by
  refine (dats m 0 c).arrAt_eq_of_after_last 11 t0_0 (by decide +kernel) _ fun j => ?_
  blk_simp
  rw [after0_11]
  exact outs11 m c t0_0 j

theorem arr12 (n : ℕ) (hn : n = 128) : (dats m 0 c).arrAt 12 cfg0.N = fun y : S4096x144.Idx => ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st n).2 (y 0) (y 1) := by
  refine (dats m 0 c).arrAt_eq_of_after_last 12 t0_0 (by decide +kernel) _ fun j => ?_
  blk_simp
  rw [after0_12]
  exact outs12 m c t0_0 n hn j

theorem arr13 (n : ℕ) (hn : n = 128) : (dats m 0 c).arrAt 13 cfg0.N = fun y : S4096x144.Idx => ((recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))).st n).1 (y 0) (y 1) := by
  refine (dats m 0 c).arrAt_eq_of_after_last 13 t0_0 (by decide +kernel) _ fun j => ?_
  blk_simp
  rw [after0_13]
  exact outs13 m c t0_0 n hn j

end Cert.RefVal

end
-- ==== Proof.Val.KerAcc.lean ====
module

public import proofs.«01_k».proof.Proof.Ideal.Step
public import proofs.«01_k».proof.Proof.Val.Words
public import Idealize.ShloMosaic.PureOps.Ideal.Laws
public import Idealize.ShloMosaic.Lib.IdealHost
public import Idealize.ShloMosaic.Lib.ValueLayout
public import Idealize.ShloMosaic.Lib.Pointwise.Contract

@[expose] public section

set_option maxRecDepth 16384
set_option maxHeartbeats 1000000

noncomputable section

namespace Cert.KerVal

open Cert.KernelIdeal Cert.KernelIdeal.Gen Cert.KernelIdeal.Hand Cert.Arith
open Idealize.ShloMosaic Idealize.ShloMosaic.TcCoe
open Idealize.SL Idealize.SL.Sem

/-- An integer as an ideal value. -/
abbrev zE (n : ℤ) : EReal := ((n : ℝ) : EReal)

theorem zE_add (a b : ℤ) : zE a + zE b = zE (a + b) := by
  unfold zE; push_cast; rfl

theorem zE_mul (a b : ℤ) : zE a * zE b = zE (a * b) := by
  unfold zE; push_cast; rfl

theorem zE_sum {n : ℕ} (f : Fin n → EReal) (g : Fin n → ℤ) (h : ∀ k, f k = zE (g k)) : ∑ k, f k = zE (∑ k, g k) := by
  induction n with
  | zero => simp [zE]
  | succ n ih => rw [Fin.sum_univ_succ, Fin.sum_univ_succ, h, ih _ _ fun k => h k.succ, zE_add]

/-- A place of the contraction's first part. -/
abbrev i144 (k : Fin 144) : Fin 200 := ⟨k.val, by omega⟩
/-- A place of the contraction's second part. -/
abbrev i16 (k : Fin 16) : Fin 200 := ⟨144 + k.val, by omega⟩
/-- A place of the second part's zeros. -/
abbrev i13 (k : Fin 13) : Fin 200 := ⟨147 + k.val, by omega⟩
/-- A place of the contraction's third part. -/
abbrev i40 (k : Fin 40) : Fin 200 := ⟨160 + k.val, by omega⟩
/-- The place of the lowest piece. -/
abbrev c144 : Fin 200 := ⟨144, by omega⟩
/-- The place of the middle piece. -/
abbrev c145 : Fin 200 := ⟨145, by omega⟩
/-- The place of the top piece. -/
abbrev c146 : Fin 200 := ⟨146, by omega⟩
/-- A row of the hidden state. -/
abbrev r144 (k : Fin 144) : Fin 160 := ⟨k.val, by omega⟩
/-- A row of the ones. -/
abbrev r16 (k : Fin 16) : Fin 160 := ⟨144 + k.val, by omega⟩
/-- A place of the zeros within their part. -/
abbrev z13 (k : Fin 13) : Fin 16 := ⟨3 + k.val, by omega⟩

/-- The contraction's three parts. -/
theorem sum200 (f : Fin 200 → EReal) : ∑ k, f k = (∑ k : Fin 144, f (i144 k) + ∑ k : Fin 16, f (i16 k)) + ∑ k : Fin 40, f (i40 k) :=
  (Fin.sum_univ_add (a := 160) (b := 40) f).trans (congrArg₂ (· + ·) (Fin.sum_univ_add (a := 144) (b := 16) fun k => f (Fin.castAdd 40 k)) rfl)

theorem sum16 (f : Fin 16 → EReal) (a b d : ℤ) (h0 : f 0 = zE a) (h1 : f 1 = zE b) (h2 : f 2 = zE d) (h : ∀ k : Fin 13, f (z13 k) = 0) : ∑ k, f k = zE (a + b + d) := by
  refine (Fin.sum_univ_add (a := 3) (b := 13) f).trans ?_
  rw [Fin.sum_univ_three]
  refine (congrArg₂ (· + ·) (congrArg₂ (· + ·) (congrArg₂ (· + ·) h0 h1) h2) (Finset.sum_eq_zero fun k _ => h k)).trans ?_
  rw [add_zero, zE_add, zE_add]

/-- The right factor of the products. -/
def rhs (X : S1x40x4096.Idx → BitVec 8) (H : S160x4096.Idx → EReal) (b : Fin 4096) (k : Fin 200) : EReal :=
  if h : k.val < 160 then H (ix2 ⟨k.val, h⟩ b) else zE (X (ix3 0 ⟨k.val - 160, by omega⟩ b)).toInt

/-- A place of the matrix unit's products. -/
theorem pay8_apply (x : Vec Ideal S1x40x256 .i8) (h : Vec Ideal S160x256 .bf16) (w : Vec Ideal S1152x200 .bf16) (i : Fin 1152) (q : Fin 256) :
    k0_pay8 (F := Ideal) x h w (ix2 i q) = ∑ k : Fin 200, w (ix2 i k) * (if hk : k.val < 160 then h (ix2 ⟨k.val, hk⟩ q) else zE (x (ix3 0 ⟨k.val - 160, by omega⟩ q)).toInt : EReal) := by
  unfold k0_pay8
  rw [shapeCast_self, shapeCast_self]
  refine (Ideal.matmul_apply₁ dot_S1152x200_S200x256_S1152x256_1_0_0_1_n_n rfl rfl _ _ _ _).trans ?_
  refine (congrArg₂ (fun a b : EReal => a + b) (show Ideal.ofBits .f32 0x00000000#32 = (0 : EReal) by simp [Ideal.ofBits, Ideal.ieee]) (Finset.sum_congr rfl fun k _ => ?_)).trans (zero_add _)
  refine congrArg₂ (fun a b : EReal => a * b) (congrArg w ?_) ?_
  · funext p; fin_cases p <;> rfl
  · refine (concatenate_pair_apply _ _ _ _ _).trans ?_
    refine dite_congr rfl (fun hk => ?_) (fun hk => ?_)
    · exact congrArg h (by funext p; fin_cases p <;> rfl)
    · refine congrArg (fun b : BitVec 8 => zE b.toInt) ?_
      refine Eq.trans (congrArg _ ?_) (ValueIdx.shapeCast_1ab_ab_apply x shapeCasts_S1x40x256_S40x256 (⟨k.val - 160, by omega⟩ : Fin 40) q)
      funext p; fin_cases p <;> rfl

/-- A place of the products. -/
theorem accRaw_apply (X : S1x40x4096.Idx → BitVec 8) (W : S1152x200.Idx → EReal) (H : S160x4096.Idx → EReal) (n : ℕ) (i : Fin 1152) (q : Fin 256) :
    accRaw (F := Ideal) X W H n (ix2 i q) = ∑ k : Fin 200, W (ix2 i k) * rhs X H (colIx n q) k :=
  pay8_apply _ _ _ i q

section Rows

variable (X : S1x40x4096.Idx → BitVec 8) (W : S1152x200.Idx → EReal) (H : S160x4096.Idx → EReal) (n : ℕ) (i : Fin 1152) (q : Fin 256) (a b d : ℤ)
  (hH1 : ∀ k : Fin 16, H (ix2 (r16 k) (colIx n q)) = 1)
  (p0 : W (ix2 i c144) = zE a) (p1 : W (ix2 i c145) = zE b) (p2 : W (ix2 i c146) = zE d)
  (p3 : ∀ k : Fin 13, W (ix2 i (i13 k)) = 0)

include hH1 p0 p1 p2 p3

/-- The ones' part of a row: its pieces' sum. -/
theorem ones_part : ∑ k : Fin 16, W (ix2 i (i16 k)) * rhs X H (colIx n q) (i16 k) = zE (a + b + d) := by
  have e : ∀ k : Fin 16, rhs X H (colIx n q) (i16 k) = 1 := fun k => (dif_pos (show 144 + k.val < 160 by omega)).trans (hH1 k)
  refine sum16 _ a b d ?_ ?_ ?_ ?_
  · exact (congrArg₂ (fun a b : EReal => a * b) p0 (e 0)).trans (mul_one _)
  · exact (congrArg₂ (fun a b : EReal => a * b) p1 (e 1)).trans (mul_one _)
  · exact (congrArg₂ (fun a b : EReal => a * b) p2 (e 2)).trans (mul_one _)
  · intro k
    refine (congrArg₂ (fun a b : EReal => a * b) ((congrArg W (congrArg (ix2 i) (Fin.ext (show 144 + (3 + k.val) = 147 + k.val by omega)))).trans (p3 k)) (e (z13 k))).trans (mul_one _)

/-- A row of the input's products. -/
theorem row_x (w : Fin 40 → BitVec 8) (w0 : ∀ k : Fin 144, W (ix2 i (i144 k)) = 0)
    (wx : ∀ k : Fin 40, W (ix2 i (i40 k)) = zE (w k).toInt) :
    accRaw (F := Ideal) X W H n (ix2 i q) = zE ((a + b + d) + ∑ k : Fin 40, (X (ix3 0 k (colIx n q))).toInt * (w k).toInt) := by
  rw [accRaw_apply, sum200, ones_part X W H n i q a b d hH1 p0 p1 p2 p3,
    Finset.sum_eq_zero fun k _ => (congrArg (fun a : EReal => a * _) (w0 k)).trans (zero_mul _), zero_add,
    zE_sum _ (fun k : Fin 40 => (X (ix3 0 k (colIx n q))).toInt * (w k).toInt), zE_add]
  intro k
  rw [← zE_mul, mul_comm (zE _)]
  refine congrArg₂ (fun a b : EReal => a * b) (wx k) ((dif_neg (show ¬ 160 + k.val < 160 by omega)).trans ?_)
  exact congrArg (fun k : Fin 40 => zE (X (ix3 0 k (colIx n q))).toInt) (Fin.ext (show 160 + k.val - 160 = k.val by omega))

/-- A row of the hidden state's products. -/
theorem row_h (w : Fin 144 → BitVec 8) (h : Fin 144 → BitVec 8) (w0 : ∀ k : Fin 40, W (ix2 i (i40 k)) = 0)
    (wh : ∀ k : Fin 144, W (ix2 i (i144 k)) = zE (w k).toInt) (hh : ∀ k : Fin 144, H (ix2 (r144 k) (colIx n q)) = zE (h k).toInt) :
    accRaw (F := Ideal) X W H n (ix2 i q) = zE ((a + b + d) + ∑ k : Fin 144, (h k).toInt * (w k).toInt) := by
  rw [accRaw_apply, sum200, ones_part X W H n i q a b d hH1 p0 p1 p2 p3,
    Finset.sum_eq_zero (s := (Finset.univ : Finset (Fin 40))) fun k _ => (congrArg (fun a : EReal => a * _) (w0 k)).trans (zero_mul _), add_zero,
    zE_sum _ (fun k : Fin 144 => (h k).toInt * (w k).toInt), zE_add, add_comm]
  intro k
  rw [← zE_mul, mul_comm (zE _)]
  exact congrArg₂ (fun a b : EReal => a * b) (wh k) ((dif_pos (show k.val < 160 by omega)).trans (hh k))

end Rows

/-- An offset is the sum of its three pieces. -/
theorem pieces (o : BitVec 32) : (IntOp.andi o 255#32).toInt + (IntOp.andi o 65280#32).toInt + (IntOp.subi (IntOp.subi o (IntOp.andi o 255#32)) (IntOp.andi o 65280#32)).toInt = o.toInt := by
  unfold IntOp.andi IntOp.subi
  have hd : (o &&& 255#32) &&& (o &&& 65280#32) = 0#32 := by
    rw [show (o &&& 255#32) &&& (o &&& 65280#32) = (o &&& o) &&& (255#32 &&& 65280#32) by ac_rfl, show (255#32 &&& 65280#32 : BitVec 32) = 0#32 by decide, BitVec.and_zero]
  have hs : (o &&& 255#32) + (o &&& 65280#32) = o &&& 65535#32 := by
    rw [BitVec.add_eq_or_of_and_eq_zero _ _ hd, ← BitVec.and_or_distrib_left, show (255#32 ||| 65280#32 : BitVec 32) = 65535#32 by decide]
  have hm : (o &&& 65535#32).toNat = o.toNat % 65536 := by
    rw [BitVec.toNat_and, show (65535#32).toNat = 2 ^ 16 - 1 from rfl, Nat.and_two_pow_sub_one_eq_mod]
  have h1 : (o &&& 255#32).toNat ≤ 255 := by
    rw [BitVec.toNat_and]; exact Nat.and_le_right
  have h2 : (o &&& 65280#32).toNat ≤ 65280 := by
    rw [BitVec.toNat_and]; exact Nat.and_le_right
  have h3 := congrArg BitVec.toNat hs
  rw [hm, BitVec.toNat_add, Nat.mod_eq_of_lt (by omega)] at h3
  have h4 := o.isLt
  generalize hl : (o &&& 255#32) = l at *
  generalize hmm : (o &&& 65280#32) = k at *
  rw [BitVec.toInt_eq_toNat_cond, BitVec.toInt_eq_toNat_cond, BitVec.toInt_eq_toNat_cond, BitVec.toInt_eq_toNat_cond, BitVec.toNat_sub, BitVec.toNat_sub]
  split <;> split <;> split <;> split <;> omega

theorem accS_toInt {K : ℕ} (x w : Fin K → BitVec 8) (o : BitVec 32) (h1 : -2147483648 ≤ o.toInt + ∑ k, (x k).toInt * (w k).toInt)
    (h2 : o.toInt + ∑ k, (x k).toInt * (w k).toInt ≤ 2147483647) : (accS x w o).toInt = o.toInt + ∑ k, (x k).toInt * (w k).toInt := by
  rw [← toInt_ofInt32 h1 h2, BitVec.ofInt_add, BitVec.ofInt_toInt]
  rfl

theorem prod_bound (x w : BitVec 8) : -16384 ≤ x.toInt * w.toInt ∧ x.toInt * w.toInt ≤ 16384 := by
  have a1 := x.toInt_lt; have a2 := x.le_toInt; have b1 := w.toInt_lt; have b2 := w.le_toInt
  norm_num at a1 a2 b1 b2
  constructor <;> nlinarith

theorem sum_bound {K : ℕ} (f : Fin K → ℤ) (B : ℤ) (h : ∀ k, -B ≤ f k ∧ f k ≤ B) : -(K * B) ≤ ∑ k, f k ∧ ∑ k, f k ≤ K * B := by
  constructor
  · have := Finset.card_nsmul_le_sum Finset.univ f (-B) fun k _ => (h k).1
    simp at this; linarith
  · have := Finset.sum_le_card_nsmul Finset.univ f B fun k _ => (h k).2
    simpa using this

theorem maxsi_toInt (a b : BitVec 32) : (IntOp.maxsi a b).toInt = max a.toInt b.toInt := by
  unfold IntOp.maxsi
  rw [BitVec.slt]
  by_cases h : b.toInt < a.toInt <;> simp [h] <;> omega

theorem minsi_toInt (a b : BitVec 32) : (IntOp.minsi a b).toInt = min a.toInt b.toInt := by
  unfold IntOp.minsi
  rw [BitVec.slt]
  by_cases h : a.toInt < b.toInt <;> simp [h] <;> omega

theorem le_fold_max {ι : Type} [DecidableEq ι] [Std.Commutative (α := BitVec 32) IntOp.maxsi] [Std.Associative (α := BitVec 32) IntOp.maxsi] (b : BitVec 32) (f : ι → BitVec 32) (s : Finset ι) (x : ι) (hx : x ∈ s) :
    (f x).toInt ≤ (Finset.fold IntOp.maxsi b f s).toInt := by
  induction s using Finset.induction_on with
  | empty => simp at hx
  | insert a s ha ih =>
    rw [Finset.fold_insert ha, maxsi_toInt]
    rcases Finset.mem_insert.mp hx with rfl | h
    · exact le_max_left _ _
    · exact (ih h).trans (le_max_right _ _)

theorem fold_min_le {ι : Type} [DecidableEq ι] [Std.Commutative (α := BitVec 32) IntOp.minsi] [Std.Associative (α := BitVec 32) IntOp.minsi] (b : BitVec 32) (f : ι → BitVec 32) (s : Finset ι) (x : ι) (hx : x ∈ s) :
    (Finset.fold IntOp.minsi b f s).toInt ≤ (f x).toInt := by
  induction s using Finset.induction_on with
  | empty => simp at hx
  | insert a s ha ih =>
    rw [Finset.fold_insert ha, minsi_toInt]
    rcases Finset.mem_insert.mp hx with rfl | h
    · exact min_le_left _ _
    · exact (min_le_right _ _).trans (ih h)

/-- Whether some offset is too large for the three pieces' products. -/
def bigOf (A B : BitVec 32) : BitVec 1 := IntOp.ori (IntOp.cmpi .sge A 8388608#32) (IntOp.cmpi .sle B 4286578688#32)

/-- Without the flag an offset is small. -/
theorem small_of {A B o : BitVec 32} (h : ¬ bigOf A B = 1#1) (hA : (IntOp.absi o).toInt ≤ A.toInt) (hB : B.toInt ≤ o.toInt) : -8388608 < o.toInt ∧ o.toInt < 8388608 := by
  have k : ∀ a b : Bool, ¬ BitVec.ofBool a ||| BitVec.ofBool b = 1#1 → a = false ∧ b = false := by decide
  obtain ⟨k1, k2⟩ := k _ _ h
  simp only [BitVec.sle, decide_eq_false_iff_not, not_le, show (8388608#32).toInt = 8388608 by decide, show (4286578688#32).toInt = -8388608 by decide] at k1 k2
  have hm : -8388608 < o.toInt := by omega
  refine ⟨hm, ?_⟩
  by_contra hc
  have hn : o.msb = false := by
    rw [BitVec.msb_eq_false_iff_two_mul_lt]
    rw [BitVec.toInt_eq_toNat_cond] at hc
    split at hc <;> omega
  rw [IntOp.absi, hn] at hA
  simp only [Bool.false_eq_true, if_false] at hA
  omega

theorem flagOn_iff (b : BitVec 1) : flagOn (b.setWidth 32) ↔ b = 1#1 := by
  revert b
  unfold flagOn
  decide

end Cert.KerVal

end
-- ==== Proof.Val.KerHost.lean ====
module

public import proofs.«01_k».proof.Proof.Ideal.Run
public import Idealize.ShloMosaic.Lib.StableHlo.ReadAt
public import Idealize.ShloMosaic.Lib.Pipeline.ValueKit.Geometry

@[expose] public section

set_option maxRecDepth 16384
set_option maxHeartbeats 400000

noncomputable section

namespace Cert.KerVal

open Cert.KernelIdeal Cert.KernelIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- The gate of a row of the products. -/
abbrev gOf (i : Fin 576) : Fin 4 := ⟨i.val / 144, by omega⟩
/-- The unit of a row of the products. -/
abbrev uOf (i : Fin 576) : Fin 144 := ⟨i.val % 144, by omega⟩

/-- The input's offset. -/
def offX (i : Fin 576) : BitVec 32 := IntOp.subi (m (c, Proc.tc.devRef main_arg7) (ix2 (gOf i) (uOf i)))
  (IntOp.muli (m (c, Proc.tc.devRef main_arg1) ix0) (Finset.fold IntOp.addi 0#32 (fun x : Fin 40 => BitVec.signExtend 32 (m (c, Proc.tc.devRef main_arg5) (ix3 x (gOf i) (uOf i)))) Finset.univ))

/-- The hidden state's offset. -/
def offH (i : Fin 576) : BitVec 32 := IntOp.muli (Neg.neg (α := BitVec 32) (m (c, Proc.tc.devRef main_arg4) ix0))
  (Finset.fold IntOp.addi 0#32 (fun x : Fin 144 => BitVec.signExtend 32 (m (c, Proc.tc.devRef main_arg6) (ix3 x (gOf i) (uOf i)))) Finset.univ)

/-- The flag for large offsets. -/
def bigX : BitVec 1 := IntOp.ori (IntOp.cmpi .sge (Finset.fold IntOp.maxsi 2147483648#32 (fun x : Fin 576 × Fin 1 => IntOp.absi (offX m c x.1)) Finset.univ) 8388608#32)
  (IntOp.cmpi .sle (Finset.fold IntOp.minsi 2147483647#32 (fun x : Fin 576 × Fin 1 => offX m c x.1) Finset.univ) 4286578688#32)

/-- The offset that the products add. -/
def selX (i : Fin 576) : BitVec 32 := Scalar.select (bigX m c) 0#32 (offX m c i)

theorem sext_coe (b : BitVec 8) : FloatOps.sitofp (F := Ideal) .f32 (BitVec.signExtend 32 b) = ((b.toInt : ℝ) : EReal) := by
  refine congrArg (fun n : ℤ => ((n : ℝ) : EReal)) ?_
  exact BitVec.toInt_signExtend_of_le (by decide)

theorem zero_coe : FloatOps.sitofp (F := Ideal) .f32 0#32 = (0 : EReal) := by
  show (((0#32 : BitVec 32).toInt : ℝ) : EReal) = 0
  simp

theorem flag_eq : V m c main_v67 (ix1 (0 : Fin 1)) = BitVec.setWidth 32 (bigX m c) := by
  unfold V V0; after_reads_at
  rfl

theorem off_eq (i : Fin 576) : V m c main_v9 (ix2 i (0 : Fin 1)) = offX m c i := by
  unfold V V0; after_reads_at
  rfl

theorem wx_h (i : Fin 576) (k : Fin 144) : V m c main_v53 (ix2 (⟨i.val, by omega⟩ : Fin 1152) (⟨k.val, by omega⟩ : Fin 200)) = (0 : EReal) := by
  unfold V V0; after_reads_at
  after_reads_at

theorem wx_0 (i : Fin 576) : V m c main_v53 (ix2 (⟨i.val, by omega⟩ : Fin 1152) (⟨144, by omega⟩ : Fin 200)) = (((IntOp.andi (selX m c i) 255#32).toInt : ℝ) : EReal) := by
  unfold V V0; after_reads_at
  after_reads_at
  after_reads_at
  rfl

theorem wx_1 (i : Fin 576) : V m c main_v53 (ix2 (⟨i.val, by omega⟩ : Fin 1152) (⟨145, by omega⟩ : Fin 200)) = (((IntOp.andi (selX m c i) 65280#32).toInt : ℝ) : EReal) := by
  unfold V V0; after_reads_at
  after_reads_at
  after_reads_at
  rfl

theorem wx_2 (i : Fin 576) : V m c main_v53 (ix2 (⟨i.val, by omega⟩ : Fin 1152) (⟨146, by omega⟩ : Fin 200)) = (((IntOp.subi (IntOp.subi (selX m c i) (IntOp.andi (selX m c i) 255#32)) (IntOp.andi (selX m c i) 65280#32)).toInt : ℝ) : EReal) := by
  unfold V V0; after_reads_at
  after_reads_at
  after_reads_at
  rfl

theorem wx_w (i : Fin 576) (k : Fin 40) : V m c main_v53 (ix2 (⟨i.val, by omega⟩ : Fin 1152) (⟨160 + k.val, by omega⟩ : Fin 200)) = (((m (c, Proc.tc.devRef main_arg5) (ix3 k (gOf i) (uOf i))).toInt : ℝ) : EReal) := by
  unfold V V0; after_reads_at
  refine (dif_neg (show ¬ (160 + k.val < 144) by omega)).trans ((dif_neg (show ¬ (160 + k.val - 144 < 16) by omega)).trans ?_)
  after_reads_at
  rw [show (⟨160 + k.val - 144 - 16, by omega⟩ : Fin 40) = k from Fin.ext (show 160 + k.val - 144 - 16 = k.val by omega)]
  exact sext_coe _

theorem wx_3 (i : Fin 576) (k : Fin 13) : V m c main_v53 (ix2 (⟨i.val, by omega⟩ : Fin 1152) (⟨147 + k.val, by omega⟩ : Fin 200)) = (0 : EReal) := by
  unfold V V0; after_reads_at
  refine (dif_neg (show ¬ (147 + k.val < 144) by omega)).trans ((dif_pos (show (147 + k.val - 144 < 16) by omega)).trans ?_)
  after_reads_at
  refine (dif_neg (show ¬ (147 + k.val - 144 < 3) by omega)).trans ?_
  exact zero_coe

theorem wh_w (i : Fin 576) (k : Fin 144) : V m c main_v53 (ix2 (⟨576 + i.val, by omega⟩ : Fin 1152) (⟨k.val, by omega⟩ : Fin 200)) = (((m (c, Proc.tc.devRef main_arg6) (ix3 k (gOf i) (uOf i))).toInt : ℝ) : EReal) := by
  unfold V V0; after_reads_at
  after_reads_at
  exact sext_coe _

theorem wh_0 (i : Fin 576) : V m c main_v53 (ix2 (⟨576 + i.val, by omega⟩ : Fin 1152) (⟨144, by omega⟩ : Fin 200)) = (((IntOp.andi (offH m c i) 255#32).toInt : ℝ) : EReal) := by
  unfold V V0; after_reads_at
  after_reads_at
  after_reads_at
  rfl

theorem wh_1 (i : Fin 576) : V m c main_v53 (ix2 (⟨576 + i.val, by omega⟩ : Fin 1152) (⟨145, by omega⟩ : Fin 200)) = (((IntOp.andi (offH m c i) 65280#32).toInt : ℝ) : EReal) := by
  unfold V V0; after_reads_at
  after_reads_at
  after_reads_at
  rfl

theorem wh_2 (i : Fin 576) : V m c main_v53 (ix2 (⟨576 + i.val, by omega⟩ : Fin 1152) (⟨146, by omega⟩ : Fin 200)) = (((IntOp.subi (IntOp.subi (offH m c i) (IntOp.andi (offH m c i) 255#32)) (IntOp.andi (offH m c i) 65280#32)).toInt : ℝ) : EReal) := by
  unfold V V0; after_reads_at
  after_reads_at
  after_reads_at
  rfl

theorem wh_3 (i : Fin 576) (k : Fin 13) : V m c main_v53 (ix2 (⟨576 + i.val, by omega⟩ : Fin 1152) (⟨147 + k.val, by omega⟩ : Fin 200)) = (0 : EReal) := by
  unfold V V0; after_reads_at
  refine (dif_neg (show ¬ (147 + k.val < 144) by omega)).trans ((dif_pos (show (147 + k.val - 144 < 16) by omega)).trans ?_)
  after_reads_at
  refine (dif_neg (show ¬ (147 + k.val - 144 < 3) by omega)).trans ?_
  exact zero_coe

theorem wh_x (i : Fin 576) (k : Fin 40) : V m c main_v53 (ix2 (⟨576 + i.val, by omega⟩ : Fin 1152) (⟨160 + k.val, by omega⟩ : Fin 200)) = (0 : EReal) := by
  unfold V V0; after_reads_at
  refine (dif_neg (show ¬ (160 + k.val < 144) by omega)).trans ((dif_neg (show ¬ (160 + k.val - 144 < 16) by omega)).trans ?_)
  after_reads_at

end Cert.KerVal

end
-- ==== Proof.Val.KerScal.lean ====
module

public import proofs.«01_k».proof.Proof.Ideal.Run
public import proofs.«01_k».proof.Proof.Val.Math
public import Idealize.ShloMosaic.Lib.StableHlo.ReadAt
public import Idealize.ShloMosaic.Lib.Pipeline.ValueKit.Geometry

@[expose] public section

set_option maxRecDepth 16384
set_option maxHeartbeats 400000

noncomputable section

namespace Cert.KerVal

open Cert.KernelIdeal Cert.KernelIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- A scale's constant. -/
abbrev kOf (g : Fin 4) : EReal := Ideal.ofBits .f32 (lit0 (S4.rowMajor (ix1 g))) * Ideal.ofBits .f32 964689920#32

theorem half_eq : Ideal.ofBits .f32 0x3F000000#32 = ((1 / 2 : ℝ) : EReal) := by
  simp [Ideal.ofBits, Ideal.ieee, -EReal.coe_mul, -EReal.coe_neg]; norm_num
theorem big_eq : Ideal.ofBits .f32 1308622848#32 = ((536870912 : ℝ) : EReal) := by
  simp [Ideal.ofBits, Ideal.ieee, -EReal.coe_mul, -EReal.coe_neg]; norm_num

theorem kOf_eq (g : Fin 4) : kOf g = (((if g = 2 then 1 / 4096 else 1 / 8192) : ℝ) : EReal) := by
  have e1 : Ideal.ofBits .f32 964689920#32 = ((1 / 4096 : ℝ) : EReal) := Cert.Arith.b_39800000
  have h : ∀ g : Fin 4, Ideal.ofBits .f32 (lit0 (S4.rowMajor (ix1 g))) = (((if g = 2 then 1 else 1 / 2) : ℝ) : EReal) := by
    intro g
    fin_cases g
    · exact half_eq.trans (congrArg (fun r : ℝ => (r : EReal)) (if_neg (show ¬ (0 : Fin 4) = 2 by decide)).symm)
    · exact half_eq.trans (congrArg (fun r : ℝ => (r : EReal)) (if_neg (show ¬ (1 : Fin 4) = 2 by decide)).symm)
    · exact Ideal.ofBits_one_f32.trans (EReal.coe_one.symm.trans (congrArg (fun r : ℝ => (r : EReal)) (if_pos (show (2 : Fin 4) = 2 from rfl)).symm))
    · exact half_eq.trans (congrArg (fun r : ℝ => (r : EReal)) (if_neg (show ¬ (3 : Fin 4) = 2 by decide)).symm)
  unfold kOf
  rw [h, e1, ← EReal.coe_mul]
  congr 1
  split <;> norm_num

theorem sc_0 : V m c main_v62 (ix1 (0 : Fin 10)) = (show EReal from m (c, Proc.tc.devRef main_arg8) (ix1 (0 : Fin 4))) * kOf 0 := by
  unfold V V0; after_reads_at
  after_reads_at
theorem sc_1 : V m c main_v62 (ix1 (1 : Fin 10)) = (show EReal from m (c, Proc.tc.devRef main_arg8) (ix1 (1 : Fin 4))) * kOf 1 := by
  unfold V V0; after_reads_at
  after_reads_at
theorem sc_2 : V m c main_v62 (ix1 (2 : Fin 10)) = (show EReal from m (c, Proc.tc.devRef main_arg8) (ix1 (2 : Fin 4))) * kOf 2 := by
  unfold V V0; after_reads_at
  after_reads_at
theorem sc_3 : V m c main_v62 (ix1 (3 : Fin 10)) = (show EReal from m (c, Proc.tc.devRef main_arg8) (ix1 (3 : Fin 4))) * kOf 3 := by
  unfold V V0; after_reads_at
  after_reads_at
theorem sc_4 : V m c main_v62 (ix1 (4 : Fin 10)) = (show EReal from m (c, Proc.tc.devRef main_arg9) (ix1 (0 : Fin 4))) * kOf 0 := by
  unfold V V0; after_reads_at
  after_reads_at
theorem sc_5 : V m c main_v62 (ix1 (5 : Fin 10)) = (show EReal from m (c, Proc.tc.devRef main_arg9) (ix1 (1 : Fin 4))) * kOf 1 := by
  unfold V V0; after_reads_at
  after_reads_at
theorem sc_6 : V m c main_v62 (ix1 (6 : Fin 10)) = (show EReal from m (c, Proc.tc.devRef main_arg9) (ix1 (2 : Fin 4))) * kOf 2 := by
  unfold V V0; after_reads_at
  after_reads_at
theorem sc_7 : V m c main_v62 (ix1 (7 : Fin 10)) = (show EReal from m (c, Proc.tc.devRef main_arg9) (ix1 (3 : Fin 4))) * kOf 3 := by
  unfold V V0; after_reads_at
  after_reads_at
theorem sc_8 : V m c main_v62 (ix1 (8 : Fin 10)) = (show EReal from m (c, Proc.tc.devRef main_arg10) ix0) * ((536870912 : ℝ) : EReal) := by
  unfold V V0; after_reads_at
  after_reads_at
  rw [big_eq]
theorem sc_9 : V m c main_v62 (ix1 (9 : Fin 10)) = (((m (c, Proc.tc.devRef main_arg4) ix0).toInt : ℝ) : EReal) := by
  unfold V V0; after_reads_at
  after_reads_at
  rfl

theorem x_eq (y : S128x40x4096.Idx) : V m c main_v63 y = m (c, Proc.tc.devRef main_arg0) (ix3 (y 0) (y 2) (y 1)) := by
  unfold V V0; after_reads_at
theorem h0_eq (y : S144x4096.Idx) : V m c main_v64 y = m (c, Proc.tc.devRef main_arg2) (ix2 (y 1) (y 0)) := by
  unfold V V0; after_reads_at
theorem c0_eq (y : S144x4096.Idx) : V m c main_v65 y = m (c, Proc.tc.devRef main_arg3) (ix2 (y 1) (y 0)) := by
  unfold V V0; after_reads_at

theorem kb0 (n : ℕ) : (iblk m c 0 t : S1.Idx → BitVec 32) = V m c main_v67 := by
  funext y
  blk_ext [iblk]
  all_goals first | exact Nat.zero_add _ | rfl
theorem kb1 : (iblk m c 1 t : S10.Idx → EReal) = V m c main_v62 := by
  funext y
  blk_ext [iblk]
  all_goals first | exact Nat.zero_add _ | rfl
theorem kb2 : (iblk m c 2 t : S1152x200.Idx → EReal) = V m c main_v53 := by
  funext y
  blk_ext [iblk]
  all_goals first | exact Nat.zero_add _ | rfl
theorem kb3 : (iblk m c 3 t : S576x1.Idx → BitVec 32) = V m c main_v9 := by
  funext y
  blk_ext [iblk]
  all_goals first | exact Nat.zero_add _ | rfl
theorem kb5 : (iblk m c 5 t : S144x4096.Idx → BitVec 8) = V m c main_v64 := by
  funext y
  blk_ext [iblk]
  all_goals first | exact Nat.zero_add _ | rfl
theorem kb6 : (iblk m c 6 t : S144x4096.Idx → BitVec 16) = V m c main_v65 := by
  funext y
  blk_ext [iblk]
  all_goals first | exact Nat.zero_add _ | rfl
theorem ix4_0 : ∀ t : Fin grid0.N, win0_4.index t 0 = t.val := by decide +kernel

theorem kb4 (y : S1x40x4096.Idx) : (iblk m c 4 t : S1x40x4096.Idx → BitVec 8) y = V m c main_v63 (ix3 (⟨t.val, t.isLt⟩ : Fin 128) (y 1) (y 2)) := by
  blk_ext [iblk]
  all_goals first | exact Nat.zero_add _ | exact ix4_0 t | rfl

end Cert.KerVal

end
-- ==== Proof.Val.CellEq.lean ====
module

public import proofs.«01_k».proof.Proof.Val.Words
public import proofs.«01_k».proof.Proof.Ideal.Cell
public import Idealize.ShloMosaic.Lib.IdealHost

@[expose] public section

set_option maxHeartbeats 1000000

noncomputable section

namespace Cert.Arith

open Idealize.ShloMosaic Cert.KernelIdeal.Hand

/-- The kernel's clip is a clip. -/
theorem clampS_eq {lo hi : BitVec 32} {l h : ℝ} (el : Ideal.ofBits .f32 lo = (l : EReal)) (eh : Ideal.ofBits .f32 hi = (h : EReal)) (hl : l ≤ h) (x : EReal) :
    clampS (F := Ideal) lo hi x = min (h : EReal) (max (l : EReal) x) := by
  show min (max (min (max x (Ideal.ofBits .f32 lo)) (Ideal.ofBits .f32 hi)) (Ideal.ofBits .f32 lo)) (Ideal.ofBits .f32 hi) = _
  rw [el, eh]
  exact clamp_eq hl x

theorem clampS_coe {lo hi : BitVec 32} {l h : ℝ} (el : Ideal.ofBits .f32 lo = (l : EReal)) (eh : Ideal.ofBits .f32 hi = (h : EReal)) (hl : l ≤ h) (x : ℝ) :
    clampS (F := Ideal) lo hi (x : EReal) = (clip l h x : ℝ) := by
  rw [clampS_eq el eh hl, clip_coe]

/-- A gate before its activation is the reference's, scaled, with a bound of its own. -/
theorem gate_eq {lo hi mg hi2 : BitVec 32} {k M b : ℝ} (hk : 0 < k) (hb : -32768 ≤ b) (el : Ideal.ofBits .f32 lo = ((-32768 * k : ℝ) : EReal))
    (eh : Ideal.ofBits .f32 hi = ((32767 * k : ℝ) : EReal)) (em : Ideal.ofBits .f32 mg = (M : EReal)) (e2 : Ideal.ofBits .f32 hi2 = ((b * k : ℝ) : EReal))
    (sx sh : EReal) (ax ah : BitVec 32) :
    ∃ s : ℝ, preR sx sh ax ah = ((clip (-32768) 32767 s : ℝ) : EReal) ∧
      gateP (F := Ideal) lo hi mg hi2 (sx * (k : EReal)) (sh * (k : EReal)) ((ax.toInt : ℝ) : EReal) ((ah.toInt : ℝ) : EReal) = ((clip (-32768) b s * k : ℝ) : EReal) := by
  obtain ⟨r1, l1, u1, e1, f1⟩ := clip_real (lo := -32768) (hi := 32767) (by norm_num) (((ax.toInt : ℝ) : EReal) * sx)
  obtain ⟨r2, l2, u2, e3, f2⟩ := clip_real (lo := -32768) (hi := 32767) (by norm_num) (((ah.toInt : ℝ) : EReal) * sh)
  refine ⟨r1 + r2, ?_, ?_⟩
  · unfold preR rqR
    rw [b_46FFFE00, b_C7000000, e1, e3, ← EReal.coe_add, clip_coe]
  · unfold gateP
    have hlh : -32768 * k ≤ 32767 * k := by nlinarith
    have hlb : -32768 * k ≤ b * k := by nlinarith
    rw [clampS_eq el eh hlh, clampS_eq el eh hlh]
    show clampS (F := Ideal) lo hi2 ((min _ (max _ (((ax.toInt : ℝ) : EReal) * (sx * (k : EReal)))) + Ideal.ofBits .f32 mg)
      + (min _ (max _ (((ah.toInt : ℝ) : EReal) * (sh * (k : EReal)))) - Ideal.ofBits .f32 mg)) = _
    rw [← mul_assoc, ← mul_assoc, f1 k hk, f2 k hk, em, ← EReal.coe_add, ← EReal.coe_sub, ← EReal.coe_add, clampS_coe el e2 hlb,
      ← clip_mul hk.le]
    congr 2; ring

theorem gateS_eq (sx sh : EReal) (ax ah : BitVec 32) :
    ∃ v : ℝ, -32768 ≤ v ∧ v ≤ 32767 ∧ preR sx sh ax ah = (v : EReal) ∧
      gateS (F := Ideal) (sx * ((1 / 8192 : ℝ) : EReal)) (sh * ((1 / 8192 : ℝ) : EReal)) ((ax.toInt : ℝ) : EReal) ((ah.toInt : ℝ) : EReal) = ((v / 8192 : ℝ) : EReal) := by
  obtain ⟨s, h1, h2⟩ := gate_eq (lo := 0xC0800000#32) (hi := 0x407FFE00#32) (mg := 0x44C00000#32) (hi2 := 0x407FFE00#32) (k := 1 / 8192) (M := 1536) (b := 32767)
    (by norm_num) (by norm_num) (by rw [b_C0800000]; norm_num) (by rw [b_407FFE00]; norm_num) b_44C00000 (by rw [b_407FFE00]; norm_num) sx sh ax ah
  have h3 := clip_mem (lo := -32768) (hi := 32767) (by norm_num) s
  refine ⟨_, h3.1, h3.2, h1, h2.trans ?_⟩
  congr 1; ring

theorem gateT_eq (sx sh : EReal) (ax ah : BitVec 32) :
    ∃ s : ℝ, preR sx sh ax ah = ((clip (-32768) 32767 s : ℝ) : EReal) ∧
      gateT (F := Ideal) (sx * ((1 / 4096 : ℝ) : EReal)) (sh * ((1 / 4096 : ℝ) : EReal)) ((ax.toInt : ℝ) : EReal) ((ah.toInt : ℝ) : EReal)
        = ((clip (-32768) 23170 s / 4096 : ℝ) : EReal) := by
  obtain ⟨s, h1, h2⟩ := gate_eq (lo := 0xC1000000#32) (hi := 0x40FFFE00#32) (mg := 0x45400000#32) (hi2 := 0x40B50400#32) (k := 1 / 4096) (M := 3072) (b := 23170)
    (by norm_num) (by norm_num) (by rw [b_C1000000]; norm_num) (by rw [b_40FFFE00]; norm_num) b_45400000 (by rw [b_40B50400]; norm_num) sx sh ax ah
  refine ⟨s, h1, h2.trans ?_⟩
  congr 1; ring

/-- The reference's logistic gate on a real. -/
theorem sgR_coe {v : ℝ} (h : v ≤ 32767) : sgR (v : EReal) = ((1 / (1 + Real.exp (-(v / 4096))) * 32768 : ℝ) : EReal) := by
  unfold sgR
  have hp := Real.exp_pos (-(v / 4096))
  have e0 : Ideal.ofBits .f32 0x00000000#32 = ((0 : ℝ) : EReal) := by simp
  have e1 : Ideal.ofBits .f32 0x3F800000#32 = ((1 : ℝ) : EReal) := by rw [Ideal.ofBits_one_f32]; rfl
  rw [e0, e1, b_39800000, b_47000000, b_46FFFE00, ← EReal.coe_mul, ← EReal.coe_sub, Ideal.exp_coe, ← EReal.coe_add,
    Ideal.div_coe (show (1 + Real.exp (0 - v * (1 / 4096)) : ℝ) ≠ 0 by positivity), ← EReal.coe_mul, ← EReal.coe_mul, clip_coe]
  have e : 1 * (1 / (1 + Real.exp (0 - v * (1 / 4096)))) * 32768 = 1 / (1 + Real.exp (-(v / 4096))) * 32768 := by
    rw [one_mul, zero_sub, mul_one_div]
  rw [e, clip_of (sig_mem h).1 (sig_mem h).2]

/-- The kernel's logistic gate on a real. -/
theorem sigF_coe (v : ℝ) : sigF (F := Ideal) ((v / 8192 : ℝ) : EReal) = ((2 / (1 + Real.exp (-(v / 4096))) : ℝ) : EReal) := by
  show Ideal.tanh ((v / 8192 : ℝ) : EReal) + Ideal.ofBits .f32 0x44404000#32 - Ideal.ofBits .f32 0x44400000#32 = _
  rw [Ideal.tanh_coe, b_44404000, b_44400000, ← EReal.coe_add, ← EReal.coe_sub]
  have h := tanh_half (v / 8192)
  have e : 2 * (v / 8192) = v / 4096 := by ring
  rw [e] at h
  congr 1
  have : 2 / (1 + Real.exp (-(v / 4096))) = 2 * (1 / (1 + Real.exp (-(v / 4096)))) := by ring
  rw [this, ← h]; ring

/-- A rounding to a word, of a real in range. -/
theorem round_word {r : ℝ} {a b : ℤ} (h1 : (a : ℝ) ≤ r) (h2 : r ≤ (b : ℝ)) (ha : -2147483648 ≤ a) (hb : b ≤ 2147483647) :
    Ideal.fptosi 32 (Ideal.liftRound Ideal.roundHalfEven (r : EReal)) = BitVec.ofInt 32 (Ideal.roundHalfEven r) := by
  obtain ⟨h3, h4⟩ := rhe_bounds h1 h2
  rw [round_coe, fptosi_int _ (by omega) (by omega)]

/-- The logistic gate as an integer: the kernel's is the reference's. -/
theorem sig_eq {v : ℝ} (h : v ≤ 32767) : ∃ n : ℤ, 0 ≤ n ∧ n ≤ 32767 ∧ siR (v : EReal) = BitVec.ofInt 32 n ∧
    sigI (F := Ideal) ((v / 8192 : ℝ) : EReal) = BitVec.ofInt 32 n := by
  obtain ⟨h1, h2⟩ := sig_mem h
  obtain ⟨h3, h4⟩ := rhe_bounds (a := 0) (b := 32767) (r := 1 / (1 + Real.exp (-(v / 4096))) * 32768) (by exact_mod_cast h1) (by exact_mod_cast h2)
  refine ⟨Ideal.roundHalfEven (1 / (1 + Real.exp (-(v / 4096))) * 32768), h3, h4, ?_, ?_⟩
  · unfold siR
    have e0 : Ideal.ofBits .f32 0x00000000#32 = ((0 : ℝ) : EReal) := by simp
    rw [sgR_coe h, round_coe, e0, b_46FFFE00, clip_coe, clip_of (by exact_mod_cast h3) (by exact_mod_cast h4), fptosi_int _ (by omega) (by omega)]
  · show (Ideal.fptosi 32 (Ideal.liftRound Ideal.roundHalfEven (sigF (F := Ideal) ((v / 8192 : ℝ) : EReal) * Ideal.ofBits .f32 0x46800000#32)) + 1145044992#32) - 1145044992#32 = _
    rw [BitVec.add_sub_cancel, sigF_coe, b_46800000, ← EReal.coe_mul]
    have e : 2 / (1 + Real.exp (-(v / 4096))) * 16384 = 1 / (1 + Real.exp (-(v / 4096))) * 32768 := by ring
    rw [e, round_word (a := 0) (b := 32767) (by exact_mod_cast h1) (by exact_mod_cast h2) (by norm_num) (by norm_num)]

/-- The tanh gate as an integer: the kernel's is the reference's. -/
theorem tan_eq (s : ℝ) : ∃ n : ℤ, -32768 ≤ n ∧ n ≤ 32767 ∧ taR ((clip (-32768) 32767 s : ℝ) : EReal) = BitVec.ofInt 32 n ∧
    tanI (F := Ideal) ((clip (-32768) 23170 s / 4096 : ℝ) : EReal) = BitVec.ofInt 32 n := by
  have ec : clip (-32768) 23170 s = min 23170 (clip (-32768) 32767 s) := by
    unfold clip; rw [← min_assoc, min_eq_left (show (23170 : ℝ) ≤ 32767 by norm_num)]
  have hlo : -32768 ≤ Ideal.roundHalfEven (Real.tanh (clip (-32768) 32767 s / 4096) * 32768) := by
    refine le_rhe_of_lt ?_
    have := tanh_gt (clip (-32768) 32767 s / 4096)
    push_cast; linarith
  refine ⟨min 32767 (Ideal.roundHalfEven (Real.tanh (clip (-32768) 32767 s / 4096) * 32768)), le_min (by norm_num) hlo, min_le_left _ _, ?_, ?_⟩
  · unfold taR
    rw [b_39800000, b_47000000, b_46FFFE00, b_C7000000, ← EReal.coe_mul, Ideal.tanh_coe, ← EReal.coe_mul, round_coe, clip_coe, mul_one_div]
    have e : clip (-32768) 32767 ((Ideal.roundHalfEven (Real.tanh (clip (-32768) 32767 s / 4096) * 32768) : ℤ) : ℝ)
        = ((min 32767 (Ideal.roundHalfEven (Real.tanh (clip (-32768) 32767 s / 4096) * 32768)) : ℤ) : ℝ) := by
      unfold clip
      rw [max_eq_right (by exact_mod_cast hlo)]
      push_cast; rfl
    rw [e, fptosi_int _ (by have := le_min (show (-32768 : ℤ) ≤ 32767 by norm_num) hlo; omega) (by have := min_le_left (32767 : ℤ) (Ideal.roundHalfEven (Real.tanh (clip (-32768) 32767 s / 4096) * 32768)); omega)]
  · show (Ideal.fptosi 32 (Ideal.liftRound Ideal.roundHalfEven ((Ideal.tanh ((clip (-32768) 23170 s / 4096 : ℝ) : EReal) + Ideal.ofBits .f32 0x43C00000#32
      - Ideal.ofBits .f32 0x43C00000#32) * Ideal.ofBits .f32 0x47000000#32)) + 1136656384#32) - 1136656384#32 = _
    rw [BitVec.add_sub_cancel, Ideal.tanh_coe, b_43C00000, b_47000000, ← EReal.coe_add, ← EReal.coe_sub, ← EReal.coe_mul, add_sub_cancel_right, ec]
    have h1 := Real.neg_one_lt_tanh (min 23170 (clip (-32768) 32767 s) / 4096)
    have h2 := Real.tanh_lt_one (min 23170 (clip (-32768) 32767 s) / 4096)
    rw [round_word (a := -32768) (b := 32768) (by push_cast; linarith) (by push_cast; linarith) (by norm_num) (by norm_num), tanh_round]

end Cert.Arith

end
-- ==== Proof.Val.CellAll.lean ====
module

public import proofs.«01_k».proof.Proof.Val.CellEq

@[expose] public section

set_option maxHeartbeats 1000000

noncomputable section

namespace Cert.Arith

open Idealize.ShloMosaic Cert.KernelIdeal.Hand

/-- The rounding division by 2^15: the kernel's is the reference's. -/
theorem rdiv15 {n : ℤ} (h1 : -1073741824 ≤ n) (h2 : n ≤ 1073741824) : ∃ q : ℤ, -32768 ≤ q ∧ q ≤ 32768 ∧
    rdivI 16384#32 15#32 (BitVec.ofInt 32 n) = BitVec.ofInt 32 q ∧ rdR 15#32 32767#32 16383#32 (BitVec.ofInt 32 n) = BitVec.ofInt 32 q := by
  refine ⟨n / 2 ^ 15 + if (16383 : ℤ) + (if n < 0 then 1 else 0) < n % 2 ^ 15 then 1 else 0, ?_, ?_, ?_, ?_⟩
  · split <;> split <;> omega
  · split <;> split <;> omega
  · unfold rdivI IntOp.addi
    rw [sh_ofInt (by omega) (by omega) 31#32 (by decide), show (31#32).toNat = 31 from rfl, show (16384#32) = BitVec.ofInt 32 16384 from rfl,
      ← BitVec.ofInt_add, ← BitVec.ofInt_add, sh_ofInt (by omega) (by omega) 15#32 (by decide), show (15#32).toNat = 15 from rfl]
    congr 1
    split <;> split <;> omega
  · exact rdR_eq h1 h2 15 15#32 32767#32 16383#32 rfl (by norm_num) rfl (T := 16383) rfl (by norm_num)

/-- The rounding division by 2^19: the kernel's is the reference's. -/
theorem rdiv19 {n : ℤ} (h1 : -1073741824 ≤ n) (h2 : n ≤ 1073741824) : ∃ q : ℤ, -32768 ≤ q ∧ q ≤ 32768 ∧
    rdivI 262144#32 19#32 (BitVec.ofInt 32 n) = BitVec.ofInt 32 q ∧ rdR 19#32 524287#32 262143#32 (BitVec.ofInt 32 n) = BitVec.ofInt 32 q := by
  refine ⟨n / 2 ^ 19 + if (262143 : ℤ) + (if n < 0 then 1 else 0) < n % 2 ^ 19 then 1 else 0, ?_, ?_, ?_, ?_⟩
  · split <;> split <;> omega
  · split <;> split <;> omega
  · unfold rdivI IntOp.addi
    rw [sh_ofInt (by omega) (by omega) 31#32 (by decide), show (31#32).toNat = 31 from rfl, show (262144#32) = BitVec.ofInt 32 262144 from rfl,
      ← BitVec.ofInt_add, ← BitVec.ofInt_add, sh_ofInt (by omega) (by omega) 19#32 (by decide), show (19#32).toNat = 19 from rfl]
    congr 1
    split <;> split <;> omega
  · exact rdR_eq h1 h2 19 19#32 524287#32 262143#32 rfl (by norm_num) rfl (T := 262143) rfl (by norm_num)

theorem narrow_ofInt (M : ℤ) : (BitVec.ofInt 32 M).setWidth 16 = BitVec.ofInt 16 M := by
  refine BitVec.eq_of_toNat_eq ?_
  rw [BitVec.toNat_setWidth, BitVec.toNat_ofInt, BitVec.toNat_ofInt]
  norm_num
  omega

theorem toInt_ofInt16 {n : ℤ} (h1 : -32768 ≤ n) (h2 : n ≤ 32767) : (BitVec.ofInt 16 n).toInt = n := by
  rw [BitVec.toInt_ofInt]
  exact Int.bmod_eq_of_le (by norm_num; omega) (by norm_num; omega)

/-- The word clip of a word in range. -/
theorem clip_word {n : ℤ} (h1 : -1073741824 ≤ n) (h2 : n ≤ 1073741824) :
    IntOp.minsi 32767#32 (IntOp.maxsi 4294934528#32 (BitVec.ofInt 32 n)) = BitVec.ofInt 32 (min 32767 (max (-32768) n)) := by
  unfold IntOp.minsi IntOp.maxsi
  rw [show (4294934528#32) = BitVec.ofInt 32 (-32768) from rfl, show (32767#32) = BitVec.ofInt 32 32767 from rfl,
    slt_ofInt (by omega) (by omega) (by omega) (by omega)]
  by_cases h : n < -32768
  · rw [decide_eq_true h, if_pos rfl, slt_ofInt (by omega) (by omega) (by omega) (by omega), decide_eq_false (by omega), if_neg (by decide),
      max_eq_left (by omega), min_eq_right (by omega)]
  · rw [decide_eq_false h, if_neg (show ¬(false = true) by decide), slt_ofInt (by omega) (by omega) (by omega) (by omega), max_eq_right (by omega)]
    by_cases h' : 32767 < n
    · rw [decide_eq_true h', if_pos rfl, min_eq_left (by omega)]
    · rw [decide_eq_false h', if_neg (by decide), min_eq_right (by omega)]

theorem toInt16_mem (c : BitVec 16) : -32768 ≤ c.toInt ∧ c.toInt ≤ 32767 := by
  have h1 := c.le_toInt
  have h2 := c.toInt_lt
  norm_num at h1 h2
  omega

/-- The new cell state from the same gates: the kernel's float is the reference's word. -/
theorem cell_eq {ni nf ng : ℤ} (i1 : 0 ≤ ni) (i2 : ni ≤ 32767) (f1 : 0 ≤ nf) (f2 : nf ≤ 32767) (g1 : -32768 ≤ ng) (g2 : ng ≤ 32767) (c : BitVec 16) :
    ∃ M : ℤ, -32768 ≤ M ∧ M ≤ 32767 ∧ ceR (BitVec.ofInt 32 ni) (BitVec.ofInt 32 nf) (BitVec.ofInt 32 ng) c = BitVec.ofInt 16 M ∧
      cellF (F := Ideal) (BitVec.ofInt 32 ni) (BitVec.ofInt 32 nf) (BitVec.ofInt 32 ng) (c.signExtend 32) = ((M : ℝ) : EReal) := by
  obtain ⟨c1, c2⟩ := toInt16_mem c
  have ec : c.signExtend 32 = BitVec.ofInt 32 c.toInt := rfl
  obtain ⟨q, q1, q2, q3, q4⟩ := rdiv15 (n := nf * c.toInt) (by nlinarith) (by nlinarith)
  obtain ⟨r, r1, r2, r3, r4⟩ := rdiv19 (n := ni * ng) (by nlinarith) (by nlinarith)
  refine ⟨min 32767 (max (-32768) (q + r)), by omega, by omega, ?_, ?_⟩
  · unfold ceR IntOp.muli
    rw [ec, ← BitVec.ofInt_mul, ← BitVec.ofInt_mul, q4, r4]
    unfold IntOp.addi
    rw [← BitVec.ofInt_add, clip_word (by omega) (by omega), narrow_ofInt]
  · unfold cellF IntOp.muli
    rw [ec, ← BitVec.ofInt_mul, ← BitVec.ofInt_mul, q3, r3]
    unfold IntOp.addi
    rw [← BitVec.ofInt_add]
    show clampS (F := Ideal) 0xC7000000#32 0x46FFFE00#32 (((BitVec.ofInt 32 (q + r)).toInt : ℝ) : EReal) = _
    rw [toInt_ofInt32 (by omega) (by omega), clampS_coe b_C7000000 b_46FFFE00 (by norm_num)]
    congr 1
    unfold clip
    push_cast
    rfl

theorem low8 (n : ℤ) : (BitVec.ofInt 32 n + 1262485504#32).setWidth 8 = (BitVec.ofInt 32 n).setWidth 8 := by
  refine BitVec.eq_of_toNat_eq ?_
  rw [BitVec.toNat_setWidth, BitVec.toNat_setWidth, BitVec.toNat_add]
  norm_num
  omega

/-- The bounds of the output, shifted by the zero point and the constant that the kernel adds. -/
theorem out_round (y : EReal) (z : ℤ) : ∃ n : ℤ, -128 ≤ n ∧ n ≤ 127 ∧
    min ((127 : ℝ) : EReal) (max ((-128 : ℝ) : EReal) (Ideal.liftRound Ideal.roundHalfEven y + ((z : ℝ) : EReal))) = ((n : ℝ) : EReal) ∧
    Ideal.liftRound Ideal.roundHalfEven (min ((12583039 : ℝ) : EReal) (max ((12582784 : ℝ) : EReal) (y + ((12582912 : ℝ) : EReal) + ((z : ℝ) : EReal)))
      - ((12582912 : ℝ) : EReal) - ((z : ℝ) : EReal)) + ((z : ℝ) : EReal) = ((n : ℝ) : EReal) := by
  have key : ∀ r : ℝ, clip 12582784 12583039 (r + 12582912 + z) - 12582912 - z = clip ((-128 - z : ℤ) : ℝ) ((127 - z : ℤ) : ℝ) r := by
    intro r
    have h := clip_add ((-128 - z : ℤ) : ℝ) ((127 - z : ℤ) : ℝ) r (12582912 + z)
    push_cast at h ⊢
    rw [show (-128 - (z : ℝ) + (12582912 + z)) = 12582784 by ring, show (127 - (z : ℝ) + (12582912 + z)) = 12583039 by ring, ← add_assoc] at h
    rw [h]; ring
  induction y with
  | bot =>
    refine ⟨-128, le_rfl, by norm_num, ?_, ?_⟩
    · show min ((127 : ℝ) : EReal) (max ((-128 : ℝ) : EReal) (⊥ + ((z : ℝ) : EReal))) = _
      rw [EReal.bot_add, max_eq_left bot_le, min_eq_right (EReal.coe_le_coe_iff.mpr (by norm_num))]; norm_num
    · rw [EReal.bot_add, EReal.bot_add, max_eq_left bot_le, min_eq_right (EReal.coe_le_coe_iff.mpr (by norm_num)), ← EReal.coe_sub, ← EReal.coe_sub, round_coe,
        ← EReal.coe_add]
      have e : (12582784 - 12582912 - z : ℝ) = ((-128 - z : ℤ) : ℝ) := by push_cast; ring
      rw [e, rhe_int]; congr 1; push_cast; ring
  | top =>
    refine ⟨127, by norm_num, le_rfl, ?_, ?_⟩
    · show min ((127 : ℝ) : EReal) (max ((-128 : ℝ) : EReal) (⊤ + ((z : ℝ) : EReal))) = _
      rw [EReal.top_add_coe, max_eq_right le_top, min_eq_left le_top]; norm_num
    · rw [EReal.top_add_coe, EReal.top_add_coe, max_eq_right le_top, min_eq_left le_top, ← EReal.coe_sub, ← EReal.coe_sub, round_coe,
        ← EReal.coe_add]
      have e : (12583039 - 12582912 - z : ℝ) = ((127 - z : ℤ) : ℝ) := by push_cast; ring
      rw [e, rhe_int]; congr 1; push_cast; ring
  | coe r =>
    refine ⟨min 127 (max (-128) (Ideal.roundHalfEven r + z)), by omega, by omega, ?_, ?_⟩
    · rw [round_coe, ← EReal.coe_add, clip_coe]
      congr 1; unfold clip; push_cast; rfl
    · rw [← EReal.coe_add, ← EReal.coe_add, clip_coe, ← EReal.coe_sub, ← EReal.coe_sub, key, round_coe, rhe_clip (by omega), ← EReal.coe_add]
      congr 1
      rw [← clip_add]
      unfold clip
      push_cast
      rw [show (-128 - (z : ℝ) + z) = -128 by ring, show (127 - (z : ℝ) + z) = 127 by ring]

/-- The new hidden state from the same gate and cell state. -/
theorem hid_eq {s : ℝ} {M : ℤ} (h1 : -32768 ≤ M) (h2 : M ≤ 32767) (os : EReal) (zp : BitVec 32) :
    (outI (F := Ideal) (os * ((536870912 : ℝ) : EReal)) ((zp.toInt : ℝ) : EReal) ((2 * s : ℝ) : EReal) ((M : ℝ) : EReal)).setWidth 8
      = hiR ((s * 32768 : ℝ) : EReal) os zp (BitVec.ofInt 16 M) := by
  obtain ⟨n, n1, n2, n3, n4⟩ := out_round (((s * 32768 * clip (-32768) 32767 (Real.tanh (M * (1 / 2048)) * 32768) : ℝ) : EReal) * os) zp.toInt
  have eM : ((BitVec.ofInt 16 M).signExtend 32).toInt = M := by
    rw [BitVec.signExtend, toInt_ofInt16 h1 h2, toInt_ofInt32 (by omega) (by omega)]
  have eR : hiR ((s * 32768 : ℝ) : EReal) os zp (BitVec.ofInt 16 M) = (BitVec.ofInt 32 n).setWidth 8 := by
    unfold hiR
    rw [eM, b_42FE0000, b_C3000000, b_46FFFE00, b_C7000000, b_3A000000, b_47000000, ← EReal.coe_mul, Ideal.tanh_coe, ← EReal.coe_mul, clip_coe, ← EReal.coe_mul, n3,
      fptosi_int _ (by omega) (by omega)]
  rw [eR]
  show ((Ideal.fptosi 32 (Ideal.liftRound Ideal.roundHalfEven (clampS (F := Ideal) 0x4B3FFF80#32 0x4B40007F#32 (((2 * s : ℝ) : EReal)
      * (clampS (F := Ideal) 0x43BF8000#32 0x43C07FFF#32 (Ideal.tanh (((M : ℝ) : EReal) * Ideal.ofBits .f32 0x3A000000#32) + Ideal.ofBits .f32 0x43C00000#32) - Ideal.ofBits .f32 0x43C00000#32)
      * (os * ((536870912 : ℝ) : EReal)) + Ideal.ofBits .f32 0x4B400000#32 + ((zp.toInt : ℝ) : EReal)) - Ideal.ofBits .f32 0x4B400000#32 - ((zp.toInt : ℝ) : EReal))
      + ((zp.toInt : ℝ) : EReal))) + 1262485504#32).setWidth 8 = _
  rw [clampS_eq b_4B3FFF80 b_4B40007F (by norm_num), b_3A000000, b_43C00000, b_4B400000, ← EReal.coe_mul, Ideal.tanh_coe, ← EReal.coe_add,
    clampS_coe b_43BF8000 b_43C07FFF (by norm_num), ← EReal.coe_sub, ← EReal.coe_mul]
  have e1 : clip 383 (12615679 / 32768) (Real.tanh (M * (1 / 2048)) + 384) - 384 = clip (-32768) 32767 (Real.tanh (M * (1 / 2048)) * 32768) * (1 / 32768) := by
    rw [← clip_mul (by norm_num)]
    have h := clip_add (-1) (32767 / 32768) (Real.tanh (M * (1 / 2048))) 384
    norm_num at h ⊢
    rw [h]
    have e : Real.tanh ((M : ℝ) * (1 / 2048)) * 32768 * (1 / 32768) = Real.tanh (M * (1 / 2048)) := by ring
    norm_num at e
    rw [e]
    ring
  have e2 : ((2 * s * (clip 383 (12615679 / 32768) (Real.tanh (M * (1 / 2048)) + 384) - 384) : ℝ) : EReal) * (os * ((536870912 : ℝ) : EReal))
      = ((s * 32768 * clip (-32768) 32767 (Real.tanh (M * (1 / 2048)) * 32768) : ℝ) : EReal) * os := by
    rw [mul_comm os, ← mul_assoc, ← EReal.coe_mul, e1]
    congr 2; ring
  rw [e2, n4, fptosi_int _ (by omega) (by omega), low8]

/-- One cell: the kernel's new states are the reference's. -/
theorem cell_all (S : Scales Ideal) (sx sh : Fin 4 → EReal) (os : EReal) (zp : BitVec 32) (ax ah : Fin 4 → BitVec 32) (a b : Fin 4 → EReal) (c : BitVec 16)
    (ea : ∀ g, a g = (((ax g).toInt : ℝ) : EReal)) (eb : ∀ g, b g = (((ah g).toInt : ℝ) : EReal))
    (ex : ∀ g, S.x g = sx g * (((if g = 2 then 1 / 4096 else 1 / 8192) : ℝ) : EReal)) (eh : ∀ g, S.h g = sh g * (((if g = 2 then 1 / 4096 else 1 / 8192) : ℝ) : EReal))
    (eo : S.o = os * ((536870912 : ℝ) : EReal)) (ez : S.z = ((zp.toInt : ℝ) : EReal)) :
    newC (F := Ideal) S a b (c.signExtend 32) = (cellR sx sh ax ah c).signExtend 32 ∧ newH (F := Ideal) S a b (c.signExtend 32) = hidR sx sh os zp ax ah c := by
  obtain ⟨v0, l0, u0, p0, k0⟩ := gateS_eq (sx 0) (sh 0) (ax 0) (ah 0)
  obtain ⟨v1, l1, u1, p1, k1⟩ := gateS_eq (sx 1) (sh 1) (ax 1) (ah 1)
  obtain ⟨v3, l3, u3, p3, k3⟩ := gateS_eq (sx 3) (sh 3) (ax 3) (ah 3)
  obtain ⟨s, p2, k2⟩ := gateT_eq (sx 2) (sh 2) (ax 2) (ah 2)
  obtain ⟨ni, i1, i2, i3, i4⟩ := sig_eq u0
  obtain ⟨nf, f1, f2, f3, f4⟩ := sig_eq u1
  obtain ⟨ng, g1, g2, g3, g4⟩ := tan_eq s
  obtain ⟨M, m1, m2, m3, m4⟩ := cell_eq i1 i2 f1 f2 g1 g2 c
  have w1 : cellR sx sh ax ah c = BitVec.ofInt 16 M := by
    unfold cellR; rw [p0, p1, p2, i3, f3, g3, m3]
  have w2 : newF (F := Ideal) S a b (c.signExtend 32) = ((M : ℝ) : EReal) := by
    unfold newF
    rw [ea, ea, ea, eb, eb, eb, ex, ex, ex, eh, eh, eh, if_neg (by decide), if_neg (by decide), if_pos rfl, k0, k1, k2, i4, f4, g4, m4]
  constructor
  · unfold newC
    rw [w1, w2, BitVec.signExtend, toInt_ofInt16 m1 m2]
    show Ideal.fptosi 32 (Ideal.liftRound Ideal.roundHalfEven ((M : ℝ) : EReal)) = _
    rw [round_coe, rhe_int, fptosi_int _ (by omega) (by omega)]
  · unfold newH hidR
    rw [w1, w2, ea, eb, ex, eh, if_neg (by decide), k3, sigF_coe, p3, sgR_coe u3, eo, ez,
      show (2 / (1 + Real.exp (-(v3 / 4096))) : ℝ) = 2 * (1 / (1 + Real.exp (-(v3 / 4096)))) by ring, hid_eq m1 m2]

end Cert.Arith

end
-- ==== Proof.Val.KerStep.lean ====
module

public import proofs.«01_k».proof.Proof.Val.KerAcc
public import proofs.«01_k».proof.Proof.Val.KerHost
public import proofs.«01_k».proof.Proof.Val.KerScal
public import proofs.«01_k».proof.Proof.Val.CellAll
public import proofs.«01_k».proof.Proof.Val.RefHost

@[expose] public section

set_option maxRecDepth 16384
set_option maxHeartbeats 1000000

noncomputable section

namespace Cert.KerVal

open Cert.KernelIdeal Cert.KernelIdeal.Gen Cert.KernelIdeal.Hand Cert.Arith
open Idealize.ShloMosaic Idealize.ShloMosaic.TcCoe
open Idealize.SL Idealize.SL.Sem

variable (m : (ℓ : Loc nD τ sig) → Buf (Elt Ideal) ℓ) (c : Dev nD) (t : Fin cfg0.N)

/-- The offsets added as integers, at a place of the input's rows. -/
theorem fix_apply (d : S1152x256.Idx → EReal) (O : S576x1.Idx → BitVec 32) (i : Fin 576) (q : Fin 256) :
    fixTop (F := Ideal) d O (ix2 ⟨i.val, by omega⟩ q) = zE (Ideal.fptosi 32 (d (ix2 ⟨i.val, by omega⟩ q)) + O (ix2 i 0)).toInt := by
  refine (dif_pos (show i.val < 576 from i.isLt)).trans ?_
  unfold k0_pay5
  rw [shapeCast_self, shapeCast_self]
  refine congrArg (fun b : BitVec 32 => zE (Ideal.fptosi 32 (d (ix2 ⟨i.val, by omega⟩ q)) + b).toInt) (congrArg O ?_)
  funext p; fin_cases p <;> rfl

theorem fl_iff : flagOn (insAt m c t).fl ↔ bigX m c = 1#1 := by
  have e : (insAt m c t).fl = BitVec.setWidth 32 (bigX m c) := (congrFun (kb0 m c t 0) (ix1 0)).trans (flag_eq m c)
  rw [e]
  exact flagOn_iff _

theorem W_eq : (insAt m c t).W = V m c main_v53 := kb2 m c t
theorem O_eq : (insAt m c t).O = V m c main_v9 := kb3 m c t

/-- The input's accumulator of the kernel. -/
theorem accX_eq (X : S1x40x4096.Idx → BitVec 8) (H : S160x4096.Idx → EReal) (n : ℕ) (i : Fin 576) (q : Fin 256)
    (hH1 : ∀ k : Fin 16, H (ix2 (r16 k) (colIx n q)) = 1) :
    accOf (F := Ideal) (insAt m c t) X H n (ix2 ⟨i.val, by omega⟩ q)
      = zE (accS (fun k : Fin 40 => X (ix3 0 k (colIx n q))) (fun k => m (c, Proc.tc.devRef main_arg5) (ix3 k (gOf i) (uOf i))) (offX m c i)).toInt := by
  have hr := row_x X (V m c main_v53) H n ⟨i.val, by omega⟩ q _ _ _ hH1 (wx_0 m c i) (wx_1 m c i) (wx_2 m c i) (wx_3 m c i)
    (fun k => m (c, Proc.tc.devRef main_arg5) (ix3 k (gOf i) (uOf i))) (wx_h m c i) (wx_w m c i)
  rw [pieces] at hr
  have hb := sum_bound (fun k : Fin 40 => (X (ix3 0 k (colIx n q))).toInt * BitVec.toInt (m (c, Proc.tc.devRef main_arg5) (ix3 k (gOf i) (uOf i)))) 16384 fun k => prod_bound _ _
  unfold accOf
  rw [W_eq, O_eq]
  by_cases hf : bigX m c = 1#1
  · rw [if_pos ((fl_iff m c t).mpr hf)]
    have hs : selX m c i = 0#32 := if_pos hf
    rw [hs, show (0#32 : BitVec 32).toInt = 0 from rfl, zero_add] at hr
    refine (fix_apply _ _ i q).trans ?_
    refine congrArg (fun b : BitVec 32 => zE b.toInt) ?_
    refine (congrArg₂ (fun (a : EReal) (b : BitVec 32) => Ideal.fptosi 32 a + b) hr (off_eq m c i)).trans ?_
    show Ideal.fptosi 32 (zE _) + _ = _
    rw [show Ideal.fptosi 32 (zE _) = _ from fptosi_int _ (by norm_num at hb; omega) (by norm_num at hb; omega), BitVec.add_comm]
    rfl
  · rw [if_neg fun h => hf ((fl_iff m c t).mp h)]
    have hs : selX m c i = offX m c i := if_neg hf
    rw [hs] at hr
    refine hr.trans (congrArg zE ?_)
    obtain ⟨k1, k2⟩ := small_of hf (le_fold_max _ (fun x : Fin 576 × Fin 1 => IntOp.absi (offX m c x.1)) _ (i, 0) (Finset.mem_univ _))
      (fold_min_le _ (fun x : Fin 576 × Fin 1 => offX m c x.1) _ (i, 0) (Finset.mem_univ _))
    exact (accS_toInt _ _ _ (by norm_num at hb; simp only at k1 k2; omega) (by norm_num at hb; simp only at k1 k2; omega)).symm

theorem fold_add {ι : Type} [DecidableEq ι] (f : ι → BitVec 8) (s : Finset ι) :
    Finset.fold IntOp.addi 0#32 (fun k => BitVec.signExtend 32 (f k)) s = BitVec.ofInt 32 (∑ k ∈ s, (f k).toInt) := by
  induction s using Finset.induction_on with
  | empty => rfl
  | insert a s ha ih => rw [Finset.fold_insert ha, Finset.sum_insert ha, BitVec.ofInt_add, ih]; rfl

/-- The hidden state's offset is small. -/
theorem offH_bound (h1 : -128 ≤ BitVec.toInt (m (c, Proc.tc.devRef main_arg4) ix0)) (h2 : BitVec.toInt (m (c, Proc.tc.devRef main_arg4) ix0) ≤ 127) (i : Fin 576) :
    -2359296 ≤ (offH m c i).toInt ∧ (offH m c i).toInt ≤ 2359296 := by
  have hb := sum_bound (fun k : Fin 144 => BitVec.toInt (m (c, Proc.tc.devRef main_arg6) (ix3 k (gOf i) (uOf i)))) 128 fun k => by
    have a1 := BitVec.toInt_lt (x := m (c, Proc.tc.devRef main_arg6) (ix3 k (gOf i) (uOf i))); have a2 := BitVec.le_toInt (m (c, Proc.tc.devRef main_arg6) (ix3 k (gOf i) (uOf i)))
    norm_num at a1 a2
    constructor <;> omega
  have e : offH m c i = BitVec.ofInt 32 (-(BitVec.toInt (m (c, Proc.tc.devRef main_arg4) ix0)) * ∑ k : Fin 144, BitVec.toInt (m (c, Proc.tc.devRef main_arg6) (ix3 k (gOf i) (uOf i)))) := by
    unfold offH
    rw [fold_add, BitVec.ofInt_mul, BitVec.ofInt_neg, BitVec.ofInt_toInt]
    rfl
  norm_num at hb
  have hp : -2359296 ≤ -(BitVec.toInt (m (c, Proc.tc.devRef main_arg4) ix0)) * ∑ k : Fin 144, BitVec.toInt (m (c, Proc.tc.devRef main_arg6) (ix3 k (gOf i) (uOf i)))
      ∧ -(BitVec.toInt (m (c, Proc.tc.devRef main_arg4) ix0)) * ∑ k : Fin 144, BitVec.toInt (m (c, Proc.tc.devRef main_arg6) (ix3 k (gOf i) (uOf i))) ≤ 2359296 := by
    constructor <;> nlinarith
  rw [e, toInt_ofInt32 (by omega) (by omega)]
  exact hp

/-- The hidden state's accumulator of the kernel. -/
theorem accH_eq (h1 : -128 ≤ BitVec.toInt (m (c, Proc.tc.devRef main_arg4) ix0)) (h2 : BitVec.toInt (m (c, Proc.tc.devRef main_arg4) ix0) ≤ 127)
    (X : S1x40x4096.Idx → BitVec 8) (H : S160x4096.Idx → EReal) (n : ℕ) (i : Fin 576) (q : Fin 256)
    (hH1 : ∀ k : Fin 16, H (ix2 (r16 k) (colIx n q)) = 1) (h : Fin 144 → BitVec 8) (hh : ∀ k : Fin 144, H (ix2 (r144 k) (colIx n q)) = zE (h k).toInt) :
    accOf (F := Ideal) (insAt m c t) X H n (ix2 ⟨576 + i.val, by omega⟩ q)
      = zE (accS h (fun k => m (c, Proc.tc.devRef main_arg6) (ix3 k (gOf i) (uOf i))) (offH m c i)).toInt := by
  have hr := row_h X (V m c main_v53) H n ⟨576 + i.val, by omega⟩ q _ _ _ hH1 (wh_0 m c i) (wh_1 m c i) (wh_2 m c i) (wh_3 m c i)
    (fun k => m (c, Proc.tc.devRef main_arg6) (ix3 k (gOf i) (uOf i))) h (wh_x m c i) (wh_w m c i) hh
  rw [pieces] at hr
  have hb := sum_bound (fun k : Fin 144 => (h k).toInt * BitVec.toInt (m (c, Proc.tc.devRef main_arg6) (ix3 k (gOf i) (uOf i)))) 16384 fun k => prod_bound _ _
  obtain ⟨k1, k2⟩ := offH_bound m c h1 h2 i
  have e : accRaw (F := Ideal) X (insAt m c t).W H n (ix2 ⟨576 + i.val, by omega⟩ q)
      = zE (accS h (fun k => m (c, Proc.tc.devRef main_arg6) (ix3 k (gOf i) (uOf i))) (offH m c i)).toInt := by
    rw [W_eq]
    exact hr.trans (congrArg zE (accS_toInt _ _ _ (by norm_num at hb; omega) (by norm_num at hb; omega)).symm)
  unfold accOf
  split
  · exact (dif_neg (show ¬ 576 + i.val < 576 by omega)).trans e
  · exact e

end Cert.KerVal

end
-- ==== Proof.Val.KerRun.lean ====
module

public import proofs.«01_k».proof.Proof.Val.KerStep

@[expose] public section

set_option maxRecDepth 16384
set_option maxHeartbeats 1000000

noncomputable section

namespace Cert.KerVal

open Cert.KernelIdeal Cert.KernelIdeal.Gen Cert.KernelIdeal.Hand Cert.Arith
open Idealize.ShloMosaic Idealize.ShloMosaic.TcCoe Idealize.ShloMosaic.Tactic
open Idealize.SL Idealize.SL.Sem

theorem st_zero (L : Rec) : L.st 0 = (L.h0, L.c0) := rfl
theorem st_succ (L : Rec) (t : ℕ) : L.st (t + 1) = (fun r j => hidR L.sx L.sh L.os L.zp (L.ax t r j) (L.ah (L.st t).1 r j) ((L.st t).2 r j),
    fun r j => cellR L.sx L.sh (L.ax t r j) (L.ah (L.st t).1 r j) ((L.st t).2 r j)) := rfl

theorem narrow (c : BitVec 16) : (c.signExtend 32).setWidth 16 = c := by
  ext i hi
  rw [BitVec.getElem_setWidth, BitVec.getLsbD_signExtend]
  simp [hi, show i < 32 by omega]

attribute [local irreducible] Rec.st

variable (m : (ℓ : Loc nD τ sig) → Buf (Elt Ideal) ℓ) (c : Dev nD) (t : Fin cfg0.N)

/-- The recurrence over the kernel's arguments. -/
def recK : Rec := Cert.RefVal.recA (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))

/-- The row of a gate and a unit. -/
abbrev iOf (g : Fin 4) (j : Fin 144) : Fin 576 := ⟨144 * g.val + j.val, by omega⟩

theorem gOf_iOf (g : Fin 4) (j : Fin 144) : gOf (iOf g j) = g := Fin.ext (show (144 * g.val + j.val) / 144 = g.val by omega)
theorem uOf_iOf (g : Fin 4) (j : Fin 144) : uOf (iOf g j) = j := Fin.ext (show (144 * g.val + j.val) % 144 = j.val by omega)
theorem col_eq (b : Fin 4096) : colIx (b.val / 256) ⟨b.val % 256, Nat.mod_lt _ (by decide)⟩ = b :=
  Fin.ext (show (256 * (b.val / 256) + b.val % 256) % 4096 = b.val by have := b.isLt; omega)

theorem sx_eq (g : Fin 4) : (insAt m c t).S.x g = (recK m c).sx g * (((if g = 2 then 1 / 4096 else 1 / 8192) : ℝ) : EReal) := by
  rw [← kOf_eq]
  match g with
  | 0 => exact (congrFun (kb1 m c t) (ix1 0)).trans (sc_0 m c)
  | 1 => exact (congrFun (kb1 m c t) (ix1 1)).trans (sc_1 m c)
  | 2 => exact (congrFun (kb1 m c t) (ix1 2)).trans (sc_2 m c)
  | 3 => exact (congrFun (kb1 m c t) (ix1 3)).trans (sc_3 m c)

theorem sh_eq (g : Fin 4) : (insAt m c t).S.h g = (recK m c).sh g * (((if g = 2 then 1 / 4096 else 1 / 8192) : ℝ) : EReal) := by
  rw [← kOf_eq]
  match g with
  | 0 => exact (congrFun (kb1 m c t) (ix1 4)).trans (sc_4 m c)
  | 1 => exact (congrFun (kb1 m c t) (ix1 5)).trans (sc_5 m c)
  | 2 => exact (congrFun (kb1 m c t) (ix1 6)).trans (sc_6 m c)
  | 3 => exact (congrFun (kb1 m c t) (ix1 7)).trans (sc_7 m c)

theorem so_eq : (insAt m c t).S.o = (recK m c).os * ((536870912 : ℝ) : EReal) := (congrFun (kb1 m c t) (ix1 8)).trans (sc_8 m c)
theorem sz_eq : (insAt m c t).S.z = (((recK m c).zp.toInt : ℝ) : EReal) := (congrFun (kb1 m c t) (ix1 9)).trans (sc_9 m c)

variable (h1 : -128 ≤ BitVec.toInt (m (c, Proc.tc.devRef main_arg4) ix0)) (h2 : BitVec.toInt (m (c, Proc.tc.devRef main_arg4) ix0) ≤ 127)

include h1 h2

/-- One step at a place. -/
theorem step_eq (H : S160x4096.Idx → EReal) (C : S144x4096.Idx → BitVec 32)
    (hH : ∀ (k : Fin 144) (b : Fin 4096), H (ix2 (r144 k) b) = zE (((recK m c).st t.val).1 b k).toInt)
    (hH1 : ∀ (k : Fin 16) (b : Fin 4096), H (ix2 (r16 k) b) = 1)
    (hC : ∀ (j : Fin 144) (b : Fin 4096), C (ix2 j b) = (((recK m c).st t.val).2 b j).signExtend 32) (j : Fin 144) (b : Fin 4096) :
    stepC (F := Ideal) (insAt m c t) (iblk m c 4 t) H C (ix2 j b) = (((recK m c).st (t.val + 1)).2 b j).signExtend 32
      ∧ stepH (F := Ideal) (insAt m c t) (iblk m c 4 t) H C (ix2 j b) = ((recK m c).st (t.val + 1)).1 b j := by
  have ex : ∀ g, gateAt (accOf (F := Ideal) (insAt m c t) (iblk m c 4 t) H (b.val / 256)) 0 (by decide) j b.val g = ((((recK m c).ax t.val b j g).toInt : ℝ) : EReal) := by
    intro g
    have e := accX_eq m c t (iblk m c 4 t) H (b.val / 256) (iOf g j) ⟨b.val % 256, Nat.mod_lt _ (by decide)⟩ fun k => hH1 k _
    refine (congrArg (accOf (F := Ideal) (insAt m c t) (iblk m c 4 t) H (b.val / 256)) ?_).trans (e.trans ?_)
    · exact congrArg (fun i : Fin 1152 => ix2 i _) (Fin.ext (show 0 + 144 * g.val + j.val = 144 * g.val + j.val by omega))
    · refine congrArg (fun o : BitVec 32 => zE o.toInt) ?_
      rw [col_eq, gOf_iOf, uOf_iOf]
      unfold offX
      rw [gOf_iOf, uOf_iOf]
      refine congrArg (fun x : Fin 40 → BitVec 8 => accS x _ _) (funext fun k => ?_)
      refine (kb4 m c t (ix3 0 k b)).trans ((x_eq m c _).trans ?_)
      refine Eq.symm ((dif_pos (show t.val < 128 from t.isLt)).trans ?_)
      rfl
  have eh : ∀ g, gateAt (accOf (F := Ideal) (insAt m c t) (iblk m c 4 t) H (b.val / 256)) 576 (by decide) j b.val g = ((((recK m c).ah ((recK m c).st t.val).1 b j g).toInt : ℝ) : EReal) := by
    intro g
    have e := accH_eq m c t h1 h2 (iblk m c 4 t) H (b.val / 256) (iOf g j) ⟨b.val % 256, Nat.mod_lt _ (by decide)⟩ (fun k => hH1 k _) _ (fun k => hH k _)
    refine (congrArg (accOf (F := Ideal) (insAt m c t) (iblk m c 4 t) H (b.val / 256)) ?_).trans (e.trans ?_)
    · exact congrArg (fun i : Fin 1152 => ix2 i _) (Fin.ext (show 576 + 144 * g.val + j.val = 576 + (144 * g.val + j.val) by omega))
    · refine congrArg (fun o : BitVec 32 => zE o.toInt) ?_
      rw [col_eq, gOf_iOf, uOf_iOf]
      unfold offH
      rw [gOf_iOf, uOf_iOf]
      rfl
  have := cell_all (insAt m c t).S (recK m c).sx (recK m c).sh (recK m c).os (recK m c).zp ((recK m c).ax t.val b j) ((recK m c).ah ((recK m c).st t.val).1 b j) _ _
    (((recK m c).st t.val).2 b j) ex eh (sx_eq m c t) (sh_eq m c t) (so_eq m c t) (sz_eq m c t)
  rw [← hC] at this
  rw [st_succ]
  exact this

/-- The states before a step are the recurrence's. -/
theorem state_eq (n : ℕ) (hn : n < cfg0.N) :
    (∀ (k : Fin 144) (b : Fin 4096), hIn m c ⟨n, hn⟩ (scr m c n).1 (ix2 (r144 k) b) = zE (((recK m c).st n).1 b k).toInt)
    ∧ (∀ (k : Fin 16) (b : Fin 4096), hIn m c ⟨n, hn⟩ (scr m c n).1 (ix2 (r16 k) b) = (1 : EReal))
    ∧ (∀ (j : Fin 144) (b : Fin 4096), cIn m c ⟨n, hn⟩ (scr m c n).2 (ix2 j b) = (((recK m c).st n).2 b j).signExtend 32) := by
  induction n with
  | zero =>
    have hf : firstAt (⟨0, hn⟩ : Fin cfg0.N) := (first_iff ⟨0, hn⟩).mpr rfl
    unfold hIn cIn preH preC
    rw [if_pos hf, if_pos hf]
    refine ⟨fun k b => ?_, fun k b => ?_, fun j b => ?_⟩
    · refine (dif_pos (show k.val < 144 from k.isLt)).trans ?_
      refine congrArg (fun o : BitVec 8 => zE o.toInt) ?_
      refine (congrFun (kb5 m c _) _).trans ((h0_eq m c _).trans ?_)
      rw [st_zero]
      rfl
    · refine (dif_neg (show ¬ 144 + k.val < 144 by omega)).trans ?_
      exact Ideal.ofBits_one_bf16
    · refine congrArg (fun o : BitVec 16 => o.signExtend 32) ?_
      refine (congrFun (kb6 m c _) _).trans ((c0_eq m c _).trans ?_)
      rw [st_zero]
      rfl
  | succ n ih =>
    obtain ⟨a, b1, d⟩ := ih (Nat.lt_of_succ_lt hn)
    have hf : ¬ firstAt (⟨n + 1, hn⟩ : Fin cfg0.N) := fun h => absurd ((first_iff ⟨n + 1, hn⟩).mp h) (Nat.succ_ne_zero n)
    have hs := step_eq m c ⟨n, Nat.lt_of_succ_lt hn⟩ h1 h2 _ _ a b1 d
    have es := scr_succ m c ⟨n, Nat.lt_of_succ_lt hn⟩
    unfold hIn cIn preH preC
    rw [if_neg hf, if_neg hf]
    rw [show scr m c (n + 1) = _ from es]
    refine ⟨fun k b => ?_, fun k b => ?_, fun j b => ?_⟩
    · refine (dif_pos (show k.val < 144 from k.isLt)).trans ?_
      exact congrArg (fun o : BitVec 8 => zE o.toInt) (hs k b).2
    · refine (dif_neg (show ¬ 144 + k.val < 144 by omega)).trans ?_
      exact b1 k b
    · exact (hs j b).1

theorem outH_eq (j : Fin 144) (b : Fin 4096) : outH m c t (ix2 j b) = ((recK m c).st (t.val + 1)).1 b j := by
  obtain ⟨a, b1, d⟩ := state_eq m c h1 h2 t.val t.isLt
  exact (step_eq m c t h1 h2 _ _ a b1 d j b).2

theorem outC_eq (j : Fin 144) (b : Fin 4096) : outC m c t (ix2 j b) = (((recK m c).st (t.val + 1)).2 b j).signExtend 32 := by
  obtain ⟨a, b1, d⟩ := state_eq m c h1 h2 t.val t.isLt
  exact (step_eq m c t h1 h2 _ _ a b1 d j b).1

end Cert.KerVal

end
-- ==== Proof.Val.KerOut.lean ====
module

public import proofs.«01_k».proof.Proof.Val.KerRun

@[expose] public section

set_option maxRecDepth 16384
set_option maxHeartbeats 1000000

noncomputable section

namespace Cert.KerVal

open Cert.KernelIdeal Cert.KernelIdeal.Gen Cert.KernelIdeal.Hand Cert.Arith
open Idealize.ShloMosaic Idealize.ShloMosaic.TcCoe Idealize.ShloMosaic.Tactic
open Idealize.SL Idealize.SL.Sem

attribute [local irreducible] Rec.st

variable (m : (ℓ : Loc nD τ sig) → Buf (Elt Ideal) ℓ) (c : Dev nD) (t : Fin cfg0.N)

variable (h1 : -128 ≤ BitVec.toInt (m (c, Proc.tc.devRef main_arg4) ix0)) (h2 : BitVec.toInt (m (c, Proc.tc.devRef main_arg4) ix0) ≤ 127)

/-- The last step. -/
def tLast : Fin cfg0.N := ⟨127, by decide⟩

theorem idx2 (j : S144x4096.Idx) : j = ix2 (j 0) (j 1) := by funext a; match a with | ⟨0, _⟩ => rfl | ⟨1, _⟩ => rfl

theorem ix7 : ∀ t : Fin cfg0.N, win0_7.index t = ![t.val, 0, 0] := (by decide +kernel : ∀ t : Fin grid0.N, _)

theorem emb7 (y : S1x144x4096.Idx) : ((win0_7.blk t).view.emb y : S128x144x4096.Idx) = ix3 (⟨t.val, t.isLt⟩ : Fin 128) (y 1) (y 2) := by
  blk_ext [ix7]

include h1 h2

theorem karr7 : (dats m 0 c).arrAt 7 cfg0.N = fun y : S128x144x4096.Idx => ((recK m c).st ((y 0).val + 1)).1 (y 2) (y 1) := by
  refine (dats m 0 c).arrAt_eq_of_covers 7 _ (by decide +kernel) fun t hf y => ?_
  refine Eq.trans ?_ (congrArg (fun y : S128x144x4096.Idx => ((recK m c).st ((y 0).val + 1)).1 (y 2) (y 1)) (emb7 t y)).symm
  blk_simp
  rw [after0_7]
  exact outH_eq m c t h1 h2 (y 1) (y 2)

theorem karr8 (n : ℕ) (hn : n = 127 + 1) : (dats m 0 c).arrAt 8 cfg0.N = fun y : S144x4096.Idx => ((recK m c).st n).2 (y 1) (y 0) := by
  refine (dats m 0 c).arrAt_eq_of_after_last 8 tLast (by decide +kernel) _ fun j => ?_
  blk_simp
  rw [after0_8]
  obtain ⟨r, b, rfl⟩ : ∃ (r : Fin 144) (b : Fin 4096), j = ix2 r b := ⟨j 0, j 1, idx2 j⟩
  subst hn
  exact (congrArg (BitVec.setWidth 16) (outC_eq m c tLast h1 h2 r b)).trans (narrow _)

theorem karr9 (n : ℕ) (hn : n = 127 + 1) : (dats m 0 c).arrAt 9 cfg0.N = fun y : S144x4096.Idx => ((recK m c).st n).1 (y 1) (y 0) := by
  refine (dats m 0 c).arrAt_eq_of_after_last 9 tLast (by decide +kernel) _ fun j => ?_
  blk_simp
  rw [after0_9]
  obtain ⟨r, b, rfl⟩ : ∃ (r : Fin 144) (b : Fin 4096), j = ix2 r b := ⟨j 0, j 1, idx2 j⟩
  subst hn
  exact outH_eq m c tLast h1 h2 r b

end Cert.KerVal

end
-- ==== Proof.Val.KerMain.lean ====
module

public import proofs.«01_k».proof.Proof.Val.KerOut

@[expose] public section

set_option maxRecDepth 16384
set_option maxHeartbeats 1000000

noncomputable section

namespace Cert.KerVal

open Cert.KernelIdeal Cert.KernelIdeal.Gen Cert.KernelIdeal.Hand Cert.Arith
open Idealize.ShloMosaic Idealize.ShloMosaic.TcCoe Idealize.ShloMosaic.Tactic
open Idealize.SL Idealize.SL.Sem

attribute [local irreducible] Rec.st

variable (m : (ℓ : Loc nD τ sig) → Buf (Elt Ideal) ℓ) (ρ : Dev nD → PrngReg) (c : Dev nD)

theorem arrRef_inj : Function.Injective (Pipeline.arrRef spec0) := launch0.win.arr_inj

/-- The first output array after the region. -/
theorem w7 : Pipeline.withArrays spec0 c (V0 m c) (fun w => (dats m 0 c).arrAt w cfg0.N) (Proc.devRef .tc main_v68_0) = (dats m 0 c).arrAt 7 cfg0.N :=
  Pipeline.withArrays_arr spec0 arrRef_inj c (V0 m c) (fun w => (dats m 0 c).arrAt w cfg0.N) 7
/-- The second. -/
theorem w8 : Pipeline.withArrays spec0 c (V0 m c) (fun w => (dats m 0 c).arrAt w cfg0.N) (Proc.devRef .tc main_v68_1) = (dats m 0 c).arrAt 8 cfg0.N :=
  Pipeline.withArrays_arr spec0 arrRef_inj c (V0 m c) (fun w => (dats m 0 c).arrAt w cfg0.N) 8
/-- The third. -/
theorem w9 : Pipeline.withArrays spec0 c (V0 m c) (fun w => (dats m 0 c).arrAt w cfg0.N) (Proc.devRef .tc main_v68_2) = (dats m 0 c).arrAt 9 cfg0.N :=
  Pipeline.withArrays_arr spec0 arrRef_inj c (V0 m c) (fun w => (dats m 0 c).arrAt w cfg0.N) 9

variable (h1 : -128 ≤ BitVec.toInt (m (c, Proc.tc.devRef main_arg4) ix0)) (h2 : BitVec.toInt (m (c, Proc.tc.devRef main_arg4) ix0) ≤ 127)

include h1 h2

/-- The sequence of hidden states. -/
theorem res69 : Pipeline.afterTail₀ cfgs (dats m) 0 (V0 m) [hostOps1] c main_v69
    = fun y : S128x4096x144.Idx => ((recK m c).st ((y 0).val + 1)).1 (y 1) (y 2) := by
  have h : Pipeline.afterTail₀ cfgs (dats m) 0 (V0 m) [hostOps1] c main_v69
      = transpose S128x4096x144 [0, 2, 1] (Pipeline.withArrays spec0 c (V0 m c) (fun w => (dats m 0 c).arrAt w cfg0.N) (Proc.devRef .tc main_v68_0) : S128x144x4096.Idx → BitVec 8) transposes_S128x144x4096_S128x4096x144_0_2_1 := by
    unfold Pipeline.afterTail₀
    simp only [List.flatten_cons, List.flatten_nil, List.append_nil]
    unfold_abbrev_sides
    after_results
    try rfl
  refine h.trans ?_
  rw [w7 m c, karr7 m c h1 h2]
  funext y
  rfl

/-- The last cell. -/
theorem res70 (n : ℕ) (hn : n = 127 + 1) : Pipeline.afterTail₀ cfgs (dats m) 0 (V0 m) [hostOps1] c main_v70
    = fun y : S4096x144.Idx => ((recK m c).st n).2 (y 0) (y 1) := by
  have h : Pipeline.afterTail₀ cfgs (dats m) 0 (V0 m) [hostOps1] c main_v70
      = transpose S4096x144 [1, 0] (Pipeline.withArrays spec0 c (V0 m c) (fun w => (dats m 0 c).arrAt w cfg0.N) (Proc.devRef .tc main_v68_1) : S144x4096.Idx → BitVec 16) transposes_S144x4096_S4096x144_1_0 := by
    unfold Pipeline.afterTail₀
    simp only [List.flatten_cons, List.flatten_nil, List.append_nil]
    unfold_abbrev_sides
    after_results
    try rfl
  refine h.trans ?_
  rw [w8 m c, karr8 m c h1 h2 n hn]
  funext y
  rfl

/-- The last hidden state. -/
theorem res71 (n : ℕ) (hn : n = 127 + 1) : Pipeline.afterTail₀ cfgs (dats m) 0 (V0 m) [hostOps1] c main_v71
    = fun y : S4096x144.Idx => ((recK m c).st n).1 (y 0) (y 1) := by
  have h : Pipeline.afterTail₀ cfgs (dats m) 0 (V0 m) [hostOps1] c main_v71
      = transpose S4096x144 [1, 0] (Pipeline.withArrays spec0 c (V0 m c) (fun w => (dats m 0 c).arrAt w cfg0.N) (Proc.devRef .tc main_v68_2) : S144x4096.Idx → BitVec 8) transposes_S144x4096_S4096x144_1_0 := by
    unfold Pipeline.afterTail₀
    simp only [List.flatten_cons, List.flatten_nil, List.append_nil]
    unfold_abbrev_sides
    after_results
    try rfl
  refine h.trans ?_
  rw [w9 m c, karr9 m c h1 h2 n hn]
  funext y
  rfl

end Cert.KerVal

end
-- ==== Proof.lean ====
module

public import proofs.«01_k».proof.Defs
public import proofs.«01_k».proof.Proof.Run
public import proofs.«01_k».proof.Proof.Ideal.Run
public import proofs.«01_k».proof.Proof.Ref.Run
public import proofs.«01_k».proof.Proof.Val.RefHost
public import proofs.«01_k».proof.Proof.Val.KerMain
public import Idealize.ShloMosaic.Adequacy
public import Idealize.ShloMosaic.Init

@[expose] public section

set_option maxRecDepth 16384
set_option maxHeartbeats 1000000

noncomputable section

namespace Cert.Proof

open Cert.Arith
open Idealize.ShloMosaic Idealize.ShloMosaic.TcCoe Idealize.ShloMosaic.Tactic
open Idealize.SL Idealize.SL.Sem

attribute [local irreducible] Rec.st Cert.RefVal.recA

theorem preFacts : Cert.Pre_h_zp_is_int8.Facts := ⟨⟩

/-- A word both comparisons pass is between -128 and 127. -/
theorem word_range (z : BitVec 32)
    (h : IntOp.andi (IntOp.cmpi .sge z 4294967168#32) (IntOp.cmpi .sle z 127#32) = 1#1) :
    -128 ≤ BitVec.toInt z ∧ BitVec.toInt z ≤ 127 := by
  have hs : (4294967168#32).sle z = true ∧ z.sle 127#32 = true := by
    revert h
    show (BitVec.ofBool ((4294967168#32).sle z) &&& BitVec.ofBool (z.sle 127#32)) = 1#1 → _
    cases (4294967168#32).sle z <;> cases z.sle 127#32 <;> decide
  have e1 : (4294967168#32).toInt = -128 := by decide
  have e2 : (127#32).toInt = 127 := by decide
  have a := hs.1
  have b := hs.2
  rw [BitVec.sle_iff_toInt_le] at a b
  rw [e1] at a
  rw [e2] at b
  exact ⟨a, b⟩

/-- The hidden states of all steps, as an array. -/
def vSeq (R : Rec) : (⟨3, ![128, 4096, 144]⟩ : Shape).Idx → BitVec 8 := fun y => (R.st ((y 0).val + 1)).1 (y 1) (y 2)
/-- The cell after a number of steps, as an array. -/
def vCell (R : Rec) (n : ℕ) : (⟨2, ![4096, 144]⟩ : Shape).Idx → BitVec 16 := fun y => (R.st n).2 (y 0) (y 1)
/-- The hidden state after a number of steps, as an array. -/
def vHid (R : Rec) (n : ℕ) : (⟨2, ![4096, 144]⟩ : Shape).Idx → BitVec 8 := fun y => (R.st n).1 (y 0) (y 1)

section kernel

open Cert.KernelIdeal Cert.KernelIdeal.Gen Cert.KernelIdeal.Hand Cert.KerVal

variable (m : (ℓ : Loc nD τ sig) → Buf (Elt Ideal) ℓ) (ρ : Dev nD → PrngReg)

/-- What the precondition says of the zero point. -/
theorem zp_range (h : haveI := preFacts; Pre_KernelIdeal_h_zp_is_int8 m) (c : Dev nD) :
    -128 ≤ BitVec.toInt (m (c, Proc.tc.devRef Cert.KernelIdeal.main_arg4) ix0) ∧ BitVec.toInt (m (c, Proc.tc.devRef Cert.KernelIdeal.main_arg4) ix0) ≤ 127 :=
  word_range _ (congrFun (h c) ix0)

/-- The kernel's run: its results, and its arguments kept. -/
theorem ker_run (h : haveI := preFacts; Pre_KernelIdeal_h_zp_is_int8 m) (n : ℕ) (hn : n = 127 + 1) :
    θ_run defs (onTc (τ := τ) (main (F := Ideal))) ⟨m, fun _ => 0, ρ⟩ (fun r => ∀ c : Dev nD,
      r.2.mem ((c.tc : Thread Cert.KernelIdeal.nD Cert.KernelIdeal.τ).loc Cert.KernelIdeal.main_v69) = vSeq (recK m c)
      ∧ r.2.mem ((c.tc : Thread Cert.KernelIdeal.nD Cert.KernelIdeal.τ).loc Cert.KernelIdeal.main_v70) = vCell (recK m c) n
      ∧ r.2.mem ((c.tc : Thread Cert.KernelIdeal.nD Cert.KernelIdeal.τ).loc Cert.KernelIdeal.main_v71) = vHid (recK m c) n
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run defs _ _).mono (fun r h' c =>
    ⟨((h'.1 c).2 main_v69 (Pipeline.mem_restRefs_of main_v69 (by decide) (by decide))).trans (res69 m c (zp_range m h c).1 (zp_range m h c).2),
      ((h'.1 c).2 main_v70 (Pipeline.mem_restRefs_of main_v70 (by decide) (by decide))).trans (res70 m c (zp_range m h c).1 (zp_range m h c).2 n hn),
      ((h'.1 c).2 main_v71 (Pipeline.mem_restRefs_of main_v71 (by decide) (by decide))).trans (res71 m c (zp_range m h c).1 (zp_range m h c).2 n hn),
      ((h'.1 c).2 main_arg0 (Pipeline.mem_restRefs_of main_arg0 (by decide) (by decide))).trans (W_main_arg0 m (dats m) c),
      ((h'.1 c).2 main_arg1 (Pipeline.mem_restRefs_of main_arg1 (by decide) (by decide))).trans (W_main_arg1 m (dats m) c),
      ((h'.1 c).2 main_arg2 (Pipeline.mem_restRefs_of main_arg2 (by decide) (by decide))).trans (W_main_arg2 m (dats m) c),
      ((h'.1 c).2 main_arg3 (Pipeline.mem_restRefs_of main_arg3 (by decide) (by decide))).trans (W_main_arg3 m (dats m) c),
      ((h'.1 c).2 main_arg4 (Pipeline.mem_restRefs_of main_arg4 (by decide) (by decide))).trans (W_main_arg4 m (dats m) c),
      ((h'.1 c).2 main_arg5 (Pipeline.mem_restRefs_of main_arg5 (by decide) (by decide))).trans (W_main_arg5 m (dats m) c),
      ((h'.1 c).2 main_arg6 (Pipeline.mem_restRefs_of main_arg6 (by decide) (by decide))).trans (W_main_arg6 m (dats m) c),
      ((h'.1 c).2 main_arg7 (Pipeline.mem_restRefs_of main_arg7 (by decide) (by decide))).trans (W_main_arg7 m (dats m) c),
      ((h'.1 c).2 main_arg8 (Pipeline.mem_restRefs_of main_arg8 (by decide) (by decide))).trans (W_main_arg8 m (dats m) c),
      ((h'.1 c).2 main_arg9 (Pipeline.mem_restRefs_of main_arg9 (by decide) (by decide))).trans (W_main_arg9 m (dats m) c),
      ((h'.1 c).2 main_arg10 (Pipeline.mem_restRefs_of main_arg10 (by decide) (by decide))).trans (W_main_arg10 m (dats m) c)⟩)
    (run_main m ρ)

end kernel

section reference

open Cert.ReferenceIdeal Cert.ReferenceIdeal.Gen Cert.ReferenceIdeal.Value Cert.RefVal

variable (m : (ℓ : Loc nD τ sig) → Buf (Elt Ideal) ℓ) (ρ : Dev nD → PrngReg)

/-- The reference's run: its results, and its arguments kept. -/
theorem ref_run (n : ℕ) (hn : n = 128) :
    θ_run defs (onTc (τ := τ) (main (F := Ideal))) ⟨m, fun _ => 0, ρ⟩ (fun r => ∀ c : Dev nD,
      r.2.mem ((c.tc : Thread Cert.ReferenceIdeal.nD Cert.ReferenceIdeal.τ).loc Cert.ReferenceIdeal.main_v16_0) = vSeq (Cert.RefVal.recA (m (c, Proc.tc.devRef Cert.ReferenceIdeal.main_arg0)) (m (c, Proc.tc.devRef Cert.ReferenceIdeal.main_arg1)) (m (c, Proc.tc.devRef Cert.ReferenceIdeal.main_arg2)) (m (c, Proc.tc.devRef Cert.ReferenceIdeal.main_arg3)) (m (c, Proc.tc.devRef Cert.ReferenceIdeal.main_arg4)) (m (c, Proc.tc.devRef Cert.ReferenceIdeal.main_arg5)) (m (c, Proc.tc.devRef Cert.ReferenceIdeal.main_arg6)) (m (c, Proc.tc.devRef Cert.ReferenceIdeal.main_arg7)) (m (c, Proc.tc.devRef Cert.ReferenceIdeal.main_arg8)) (m (c, Proc.tc.devRef Cert.ReferenceIdeal.main_arg9)) (m (c, Proc.tc.devRef Cert.ReferenceIdeal.main_arg10)))
      ∧ r.2.mem ((c.tc : Thread Cert.ReferenceIdeal.nD Cert.ReferenceIdeal.τ).loc Cert.ReferenceIdeal.main_v16_1) = vCell (Cert.RefVal.recA (m (c, Proc.tc.devRef Cert.ReferenceIdeal.main_arg0)) (m (c, Proc.tc.devRef Cert.ReferenceIdeal.main_arg1)) (m (c, Proc.tc.devRef Cert.ReferenceIdeal.main_arg2)) (m (c, Proc.tc.devRef Cert.ReferenceIdeal.main_arg3)) (m (c, Proc.tc.devRef Cert.ReferenceIdeal.main_arg4)) (m (c, Proc.tc.devRef Cert.ReferenceIdeal.main_arg5)) (m (c, Proc.tc.devRef Cert.ReferenceIdeal.main_arg6)) (m (c, Proc.tc.devRef Cert.ReferenceIdeal.main_arg7)) (m (c, Proc.tc.devRef Cert.ReferenceIdeal.main_arg8)) (m (c, Proc.tc.devRef Cert.ReferenceIdeal.main_arg9)) (m (c, Proc.tc.devRef Cert.ReferenceIdeal.main_arg10))) n
      ∧ r.2.mem ((c.tc : Thread Cert.ReferenceIdeal.nD Cert.ReferenceIdeal.τ).loc Cert.ReferenceIdeal.main_v16_2) = vHid (Cert.RefVal.recA (m (c, Proc.tc.devRef Cert.ReferenceIdeal.main_arg0)) (m (c, Proc.tc.devRef Cert.ReferenceIdeal.main_arg1)) (m (c, Proc.tc.devRef Cert.ReferenceIdeal.main_arg2)) (m (c, Proc.tc.devRef Cert.ReferenceIdeal.main_arg3)) (m (c, Proc.tc.devRef Cert.ReferenceIdeal.main_arg4)) (m (c, Proc.tc.devRef Cert.ReferenceIdeal.main_arg5)) (m (c, Proc.tc.devRef Cert.ReferenceIdeal.main_arg6)) (m (c, Proc.tc.devRef Cert.ReferenceIdeal.main_arg7)) (m (c, Proc.tc.devRef Cert.ReferenceIdeal.main_arg8)) (m (c, Proc.tc.devRef Cert.ReferenceIdeal.main_arg9)) (m (c, Proc.tc.devRef Cert.ReferenceIdeal.main_arg10))) n
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run defs _ _).mono (fun r h c =>
    ⟨(h c).1.trans (arr11 m c), (h c).2.1.trans (arr12 m c n hn), (h c).2.2.1.trans (arr13 m c n hn), (h c).2.2.2⟩)
    (run_blocks m ρ)

end reference

/-- The two programs' recurrences are one, where their arguments agree. -/
theorem rec_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.RefVal.recA (m' (c, Proc.tc.devRef Cert.ReferenceIdeal.main_arg0)) (m' (c, Proc.tc.devRef Cert.ReferenceIdeal.main_arg1)) (m' (c, Proc.tc.devRef Cert.ReferenceIdeal.main_arg2)) (m' (c, Proc.tc.devRef Cert.ReferenceIdeal.main_arg3)) (m' (c, Proc.tc.devRef Cert.ReferenceIdeal.main_arg4)) (m' (c, Proc.tc.devRef Cert.ReferenceIdeal.main_arg5)) (m' (c, Proc.tc.devRef Cert.ReferenceIdeal.main_arg6)) (m' (c, Proc.tc.devRef Cert.ReferenceIdeal.main_arg7)) (m' (c, Proc.tc.devRef Cert.ReferenceIdeal.main_arg8)) (m' (c, Proc.tc.devRef Cert.ReferenceIdeal.main_arg9)) (m' (c, Proc.tc.devRef Cert.ReferenceIdeal.main_arg10)) = Cert.KerVal.recK m c := by
  obtain ⟨a0, a1, a2, a3, a4, a5, a6, a7, a8, a9, a10⟩ := h
  unfold Cert.KerVal.recK
  congr 1

theorem alg : haveI := Cert.KernelIdeal.Gen.facts; haveI := Cert.ReferenceIdeal.Gen.facts; haveI := preFacts; algebraic_KernelIdeal_ReferenceIdeal_pre_h_zp_is_int8 := by
  intro m g m' g' hp ha
  obtain ⟨n, hn⟩ : ∃ n : ℕ, n = 127 + 1 := ⟨_, rfl⟩
  refine ⟨fun c => vSeq (Cert.KerVal.recK m c), fun c => vCell (Cert.KerVal.recK m c) n, fun c => vHid (Cert.KerVal.recK m c) n,
    ker_run m g hp n hn, ?_⟩
  refine (θ_run _ _ _).mono (fun r h c => ?_) (ref_run m' g' n hn)
  have e := rec_agree m m' c (ha c)
  have h' := h c
  refine ⟨h'.1.trans (congrArg vSeq e), h'.2.1.trans (congrArg (fun R => vCell R n) e), h'.2.2.1.trans (congrArg (fun R => vHid R n) e), h'.2.2.2⟩

theorem claim : Cert.Claim := ⟨Cert.Kernel.Gen.facts, Cert.KernelIdeal.Gen.facts, Cert.ReferenceIdeal.Gen.facts, preFacts,
  fun m g _ => Cert.Kernel.Hand.frame m g, fun m g _ => Cert.KernelIdeal.Hand.frame m g,
  fun m g _ => Cert.KernelIdeal.Hand.frame m g, fun m g _ => Cert.ReferenceIdeal.Gen.frame m g,
  fun m g _ => Cert.ReferenceIdeal.Gen.frame m g, trivial, alg⟩

end Cert.Proof

end
